-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite [hPre_finite : Cert.Pre_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_MixRefIdeal_pre_finite [hMixRefIdeal : Cert.MixRefIdeal.Facts] [hPre_finite : Cert.Pre_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_Kernel_KernelIdeal : Prop :=
  IdealRules.named_const.Statement Cert.KernelIdeal.κ "gelu_cubic" .f32 0x3D122279#32 ((80338380498831 / 2251799813685248 : ℝ) : EReal)

def algebraic_KernelIdeal_MixRefIdeal_pre_finite [hKernelIdeal : Cert.KernelIdeal.Facts] [hMixRefIdeal : Cert.MixRefIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_KernelIdeal_finite m →
    (∀ c : Dev Cert.KernelIdeal.nD,
      m' ((c.tc : Thread Cert.MixRefIdeal.nD Cert.MixRefIdeal.τ).loc Cert.MixRefIdeal.main_arg0) = m ((c.tc : Thread Cert.KernelIdeal.nD Cert.KernelIdeal.τ).loc Cert.KernelIdeal.main_arg0)
      ∧ m' ((c.tc : Thread Cert.MixRefIdeal.nD Cert.MixRefIdeal.τ).loc Cert.MixRefIdeal.main_arg1) = m ((c.tc : Thread Cert.KernelIdeal.nD Cert.KernelIdeal.τ).loc Cert.KernelIdeal.main_arg1)
      ∧ m' ((c.tc : Thread Cert.MixRefIdeal.nD Cert.MixRefIdeal.τ).loc Cert.MixRefIdeal.main_arg2) = m ((c.tc : Thread Cert.KernelIdeal.nD Cert.KernelIdeal.τ).loc Cert.KernelIdeal.main_arg2)
      ∧ m' ((c.tc : Thread Cert.MixRefIdeal.nD Cert.MixRefIdeal.τ).loc Cert.MixRefIdeal.main_arg3) = m ((c.tc : Thread Cert.KernelIdeal.nD Cert.KernelIdeal.τ).loc Cert.KernelIdeal.main_arg3)
      ∧ m' ((c.tc : Thread Cert.MixRefIdeal.nD Cert.MixRefIdeal.τ).loc Cert.MixRefIdeal.main_arg4) = m ((c.tc : Thread Cert.KernelIdeal.nD Cert.KernelIdeal.τ).loc Cert.KernelIdeal.main_arg4)
      ∧ m' ((c.tc : Thread Cert.MixRefIdeal.nD Cert.MixRefIdeal.τ).loc Cert.MixRefIdeal.main_arg5) = m ((c.tc : Thread Cert.KernelIdeal.nD Cert.KernelIdeal.τ).loc Cert.KernelIdeal.main_arg5)
      ∧ m' ((c.tc : Thread Cert.MixRefIdeal.nD Cert.MixRefIdeal.τ).loc Cert.MixRefIdeal.main_arg6) = m ((c.tc : Thread Cert.KernelIdeal.nD Cert.KernelIdeal.τ).loc Cert.KernelIdeal.main_arg6)
      ∧ m' ((c.tc : Thread Cert.MixRefIdeal.nD Cert.MixRefIdeal.τ).loc Cert.MixRefIdeal.main_arg7) = m ((c.tc : Thread Cert.KernelIdeal.nD Cert.KernelIdeal.τ).loc Cert.KernelIdeal.main_arg7)
      ∧ m' ((c.tc : Thread Cert.MixRefIdeal.nD Cert.MixRefIdeal.τ).loc Cert.MixRefIdeal.main_arg8) = m ((c.tc : Thread Cert.KernelIdeal.nD Cert.KernelIdeal.τ).loc Cert.KernelIdeal.main_arg8)
      ∧ m' ((c.tc : Thread Cert.MixRefIdeal.nD Cert.MixRefIdeal.τ).loc Cert.MixRefIdeal.main_arg9) = m ((c.tc : Thread Cert.KernelIdeal.nD Cert.KernelIdeal.τ).loc Cert.KernelIdeal.main_arg9)
      ∧ m' ((c.tc : Thread Cert.MixRefIdeal.nD Cert.MixRefIdeal.τ).loc Cert.MixRefIdeal.main_arg10) = m ((c.tc : Thread Cert.KernelIdeal.nD Cert.KernelIdeal.τ).loc Cert.KernelIdeal.main_arg10)
      ∧ m' ((c.tc : Thread Cert.MixRefIdeal.nD Cert.MixRefIdeal.τ).loc Cert.MixRefIdeal.main_arg11) = m ((c.tc : Thread Cert.KernelIdeal.nD Cert.KernelIdeal.τ).loc Cert.KernelIdeal.main_arg11)
      ∧ m' ((c.tc : Thread Cert.MixRefIdeal.nD Cert.MixRefIdeal.τ).loc Cert.MixRefIdeal.main_arg12) = m ((c.tc : Thread Cert.KernelIdeal.nD Cert.KernelIdeal.τ).loc Cert.KernelIdeal.main_arg12)
      ∧ m' ((c.tc : Thread Cert.MixRefIdeal.nD Cert.MixRefIdeal.τ).loc Cert.MixRefIdeal.main_arg13) = m ((c.tc : Thread Cert.KernelIdeal.nD Cert.KernelIdeal.τ).loc Cert.KernelIdeal.main_arg13)
      ∧ m' ((c.tc : Thread Cert.MixRefIdeal.nD Cert.MixRefIdeal.τ).loc Cert.MixRefIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v179) = v0 c
          ∧ r.2.mem ((c.tc : Thread Cert.MixRefIdeal.nD Cert.MixRefIdeal.τ).loc Cert.MixRefIdeal.main_v180) = v1 c
          ∧ r.2.mem ((c.tc : Thread Cert.MixRefIdeal.nD Cert.MixRefIdeal.τ).loc Cert.MixRefIdeal.main_v183) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def Claim : Prop :=
  ∃ (hKernel : Cert.Kernel.Facts) (hKernelIdeal : Cert.KernelIdeal.Facts) (hMixRefIdeal : Cert.MixRefIdeal.Facts) (hFfn : Cert.Ffn.Facts) (hFfnIdeal : Cert.FfnIdeal.Facts) (hFfnRefIdeal : Cert.FfnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_MixRefIdeal (hMixRefIdeal := hMixRefIdeal)
    ∧ quiescent_MixRefIdeal_pre_finite (hMixRefIdeal := hMixRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_MixRefIdeal_pre_finite (hKernelIdeal := hKernelIdeal) (hMixRefIdeal := hMixRefIdeal) (hPre_finite := hPre_finite)
    ∧ preserves_Ffn_FfnIdeal
    ∧ algebraic_FfnIdeal_FfnRefIdeal (hFfnIdeal := hFfnIdeal) (hFfnRefIdeal := hFfnRefIdeal)
-- ==== Pre_finite.lean ====
abbrev S8x2048x1024 : Shape := ⟨3, ![8, 2048, 1024]⟩
abbrev S2x1024 : Shape := ⟨2, ![2, 1024]⟩
abbrev S2x1024x3080 : Shape := ⟨3, ![2, 1024, 3080]⟩
abbrev S2x4x1536 : Shape := ⟨3, ![2, 4, 1536]⟩
abbrev S2x4 : Shape := ⟨2, ![2, 4]⟩
abbrev S2x128 : Shape := ⟨2, ![2, 128]⟩
abbrev S2x512 : Shape := ⟨2, ![2, 512]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S2x1024x3080 : S_.BroadcastsInDim S2x1024x3080 (![] : Fin 0 → Fin S2x1024x3080.rank)
  reducesTo_S2x1024x3080_S_d0_1_2 : S2x1024x3080.ReducesTo [0, 1, 2] S_
  bcast_S_S2x4x1536 : S_.BroadcastsInDim S2x4x1536 (![] : Fin 0 → Fin S2x4x1536.rank)
  reducesTo_S2x4x1536_S_d0_1_2 : S2x4x1536.ReducesTo [0, 1, 2] S_
  bcast_S_S2x4 : S_.BroadcastsInDim S2x4 (![] : Fin 0 → Fin S2x4.rank)
  reducesTo_S2x4_S_d0_1 : S2x4.ReducesTo [0, 1] S_

variable [Facts]

def fn_part1 {F : FTy → Type} [FloatOps F] (main_arg5 : FVec F S2x4 .f32) (main_v13 : IVec S_ 1) (main_v16 : IVec S2x4 1) : IVec S_ 1 :=
  let main_c_5 : IVec S_ 1 := constantI S_ 1 1#1
  let main_v17 : IVec S_ 1 := (fun x v => Host.reduce IntOp.andi x v reducesTo_S2x4_S_d0_1 h_S_) main_v16 main_c_5
  let main_v18 : IVec S_ 1 := andi main_v13 main_v17
  let main_v19 : FVec F S2x4 .f32 := Host.absf main_arg5
  let main_cst_6 : FVec F S_ .f32 := constant S_ .f32 0x7F800000#32
  let main_v20 : FVec F S2x4 .f32 := broadcastInDim S2x4 ![] bcast_S_S2x4 main_cst_6
  let main_v21 : IVec S2x4 1 := cmpf .olt main_v19 main_v20
  let main_c_7 : IVec S_ 1 := constantI S_ 1 1#1
  let main_v22 : IVec S_ 1 := (fun x v => Host.reduce IntOp.andi x v reducesTo_S2x4_S_d0_1 h_S_) main_v21 main_c_7
  let main_v23 : IVec S_ 1 := andi main_v18 main_v22
  main_v23

def fn {F : FTy → Type} [FloatOps F] (main_arg0 : FVec F S8x2048x1024 .f32) (main_arg1 : FVec F S2x1024 .f32) (main_arg2 : FVec F S2x1024x3080 .f32) (main_arg3 : FVec F S2x4x1536 .f32) (main_arg4 : FVec F S2x4 .f32) (main_arg5 : FVec F S2x4 .f32) (main_arg6 : FVec F S2x128 .f32) (main_arg7 : FVec F S2x512 .f32) (main_arg8 : FVec F S2x512 .f32) (main_arg9 : FVec F S2x4x128x128 .f32) (main_arg10 : FVec F S2x4x128 .f32) (main_arg11 : FVec F S2x1024x1024 .f32) (main_arg12 : FVec F S2x1024x2816 .f32) (main_arg13 : FVec F S2x1024x2816 .f32) (main_arg14 : FVec F S2x2816x1024 .f32) : IVec S_ 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S2x1024x3080 .f32 := Host.absf main_arg2
  let main_cst_0 : FVec F S_ .f32 := constant S_ .f32 0x7F800000#32
  let main_v5 : FVec F S2x1024x3080 .f32 := broadcastInDim S2x1024x3080 ![] bcast_S_S2x1024x3080 main_cst_0
  let main_v6 : IVec S2x1024x3080 1 := cmpf .olt main_v4 main_v5
  let main_c_1 : IVec S_ 1 := constantI S_ 1 1#1
  let main_v7 : IVec S_ 1 := (fun x v => Host.reduce IntOp.andi x v reducesTo_S2x1024x3080_S_d0_1_2 h_S_) main_v6 main_c_1
  let main_v8 : IVec S_ 1 := andi main_v3 main_v7
  let main_v9 : FVec F S2x4x1536 .f32 := Host.absf main_arg3
  let main_cst_2 : FVec F S_ .f32 := constant S_ .f32 0x7F800000#32
  let main_v10 : FVec F S2x4x1536 .f32 := broadcastInDim S2x4x1536 ![] bcast_S_S2x4x1536 main_cst_2
  let main_v11 : IVec S2x4x1536 1 := cmpf .olt main_v9 main_v10
  let main_c_3 : IVec S_ 1 := constantI S_ 1 1#1
  let main_v12 : IVec S_ 1 := (fun x v => Host.reduce IntOp.andi x v reducesTo_S2x4x1536_S_d0_1_2 h_S_) main_v11 main_c_3
  let main_v13 : IVec S_ 1 := andi main_v8 main_v12
  let main_v14 : FVec F S2x4 .f32 := Host.absf main_arg4
  let main_cst_4 : FVec F S_ .f32 := constant S_ .f32 0x7F800000#32
  let main_v15 : FVec F S2x4 .f32 := broadcastInDim S2x4 ![] bcast_S_S2x4 main_cst_4
  let main_v16 : IVec S2x4 1 := cmpf .olt main_v14 main_v15
  fn_part1 (F := F) main_arg5 main_v13 main_v16
-- ==== Kernel.lean ====
abbrev S8x2048x1024 : Shape := ⟨3, ![8, 2048, 1024]⟩
abbrev S2x1024 : Shape := ⟨2, ![2, 1024]⟩
abbrev S2x1024x3080 : Shape := ⟨3, ![2, 1024, 3080]⟩
abbrev S2x4x1536 : Shape := ⟨3, ![2, 4, 1536]⟩
abbrev S2x4 : Shape := ⟨2, ![2, 4]⟩
abbrev S2x128 : Shape := ⟨2, ![2, 128]⟩
abbrev S2x512 : Shape := ⟨2, ![2, 512]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S1x1024x3080 : Shape := ⟨3, ![1, 1024, 3080]⟩
abbrev S1024x3080 : Shape := ⟨2, ![1024, 3080]⟩
abbrev S1024x128 : Shape := ⟨2, ![1024, 128]⟩
abbrev S_ : Shape := ⟨0, ![]⟩
abbrev S1024x1536 : Shape := ⟨2, ![1024, 1536]⟩
abbrev S1024x1024 : Shape := ⟨2, ![1024, 1024]⟩
abbrev S1024x512 : Shape := ⟨2, ![1024, 512]⟩
abbrev S1024x3200 : Shape := ⟨2, ![1024, 3200]⟩
abbrev S1x1024x1024 : Shape := ⟨3, ![1, 1024, 1024]⟩
abbrev S2x4x128x1 : Shape := ⟨4, ![2, 4, 128, 1]⟩
abbrev S2x1x128 : Shape := ⟨3, ![2, 1, 128]⟩
abbrev S2x1x1024 : Shape := ⟨3, ![2, 1, 1024]⟩
abbrev S2x1x512 : Shape := ⟨3, ![2, 1, 512]⟩
abbrev S1024x5632 : Shape := ⟨2, ![1024, 5632]⟩
abbrev S2816x1024 : Shape := ⟨2, ![2816, 1024]⟩
abbrev S4x256x1024 : Shape := ⟨3, ![4, 256, 1024]⟩
abbrev S1x1x1024 : Shape := ⟨3, ![1, 1, 1024]⟩
abbrev S1x4x1536 : Shape := ⟨3, ![1, 4, 1536]⟩
abbrev S1x1x128 : Shape := ⟨3, ![1, 1, 128]⟩
abbrev S1x1x512 : Shape := ⟨3, ![1, 1, 512]⟩
abbrev S1x4x128x128 : Shape := ⟨4, ![1, 4, 128, 128]⟩
abbrev S1x64x2816 : Shape := ⟨3, ![1, 64, 2816]⟩
abbrev S1x176x1024 : Shape := ⟨3, ![1, 176, 1024]⟩
abbrev S64x5632 : Shape := ⟨2, ![64, 5632]⟩
abbrev S176x1024 : Shape := ⟨2, ![176, 1024]⟩
abbrev S12x4x136x128 : Shape := ⟨4, ![12, 4, 136, 128]⟩
abbrev S512x1536 : Shape := ⟨2, ![512, 1536]⟩
abbrev S512x512 : Shape := ⟨2, ![512, 512]⟩
abbrev S8x256x256 : Shape := ⟨3, ![8, 256, 256]⟩
abbrev S64x2816 : Shape := ⟨2, ![64, 2816]⟩
abbrev S64x256 : Shape := ⟨2, ![64, 256]⟩
abbrev S12x4x8x128 : Shape := ⟨4, ![12, 4, 8, 128]⟩
abbrev S4x128x1024 : Shape := ⟨3, ![4, 128, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x3200 : Shape := ⟨2, ![512, 3200]⟩
abbrev S512x128 : Shape := ⟨2, ![512, 128]⟩
abbrev S4x128x128 : Shape := ⟨3, ![4, 128, 128]⟩
abbrev S1x128 : Shape := ⟨2, ![1, 128]⟩
abbrev S128x128 : Shape := ⟨2, ![128, 128]⟩
abbrev S1x1x128x128 : Shape := ⟨4, ![1, 1, 128, 128]⟩
abbrev S512x256 : Shape := ⟨2, ![512, 256]⟩
abbrev S256x1024 : Shape := ⟨2, ![256, 1024]⟩
abbrev S256x256 : Shape := ⟨2, ![256, 256]⟩
abbrev S256x512 : Shape := ⟨2, ![256, 512]⟩
abbrev S8x128 : Shape := ⟨2, ![8, 128]⟩
abbrev S1x256 : Shape := ⟨2, ![1, 256]⟩
abbrev S64x512 : Shape := ⟨2, ![64, 512]⟩
abbrev S128x512 : Shape := ⟨2, ![128, 512]⟩
abbrev S128x256 : Shape := ⟨2, ![128, 256]⟩
abbrev S1x512 : Shape := ⟨2, ![1, 512]⟩
abbrev S1x256x256 : Shape := ⟨3, ![1, 256, 256]⟩

abbrev nBuf : Space → Nat
  | .hbm => 51
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x3080, .f32⟩
  | .hbm, ⟨3, _⟩ => ⟨S2x4x1536, .f32⟩
  | .hbm, ⟨4, _⟩ => ⟨S2x4, .f32⟩
  | .hbm, ⟨5, _⟩ => ⟨S2x4, .f32⟩
  | .hbm, ⟨6, _⟩ => ⟨S2x128, .f32⟩
  | .hbm, ⟨7, _⟩ => ⟨S2x512, .f32⟩
  | .hbm, ⟨8, _⟩ => ⟨S2x512, .f32⟩
  | .hbm, ⟨9, _⟩ => ⟨S2x4x128x128, .f32⟩
  | .hbm, ⟨10, _⟩ => ⟨S2x4x128, .f32⟩
  | .hbm, ⟨11, _⟩ => ⟨S2x1024x1024, .f32⟩
  | .hbm, ⟨12, _⟩ => ⟨S2x1024x2816, .f32⟩
  | .hbm, ⟨13, _⟩ => ⟨S2x1024x2816, .f32⟩
  | .hbm, ⟨14, _⟩ => ⟨S2x2816x1024, .f32⟩
  | .hbm, ⟨15, _⟩ => ⟨S1x1024x3080, .f32⟩
  | .hbm, ⟨16, _⟩ => ⟨S1024x3080, .f32⟩
  | .hbm, ⟨17, _⟩ => ⟨S1024x3080, .bf16⟩
  | .hbm, ⟨18, _⟩ => ⟨S1024x128, .i32⟩
  | .hbm, ⟨19, _⟩ => ⟨S_, .i32⟩
  | .hbm, ⟨20, _⟩ => ⟨S1024x128, .i32⟩
  | .hbm, ⟨21, _⟩ => ⟨S1024x128, .i1⟩
  | .hbm, ⟨22, _⟩ => ⟨S1024x128, .bf16⟩
  | .hbm, ⟨23, _⟩ => ⟨S_, .f32⟩
  | .hbm, ⟨24, _⟩ => ⟨S_, .bf16⟩
  | .hbm, ⟨25, _⟩ => ⟨S1024x128, .bf16⟩
  | .hbm, ⟨26, _⟩ => ⟨S1024x128, .bf16⟩
  | .hbm, ⟨27, _⟩ => ⟨S1024x1536, .bf16⟩
  | .hbm, ⟨28, _⟩ => ⟨S1024x1024, .bf16⟩
  | .hbm, ⟨29, _⟩ => ⟨S1024x512, .bf16⟩
  | .hbm, ⟨30, _⟩ => ⟨S1024x3200, .bf16⟩
  | .hbm, ⟨31, _⟩ => ⟨S1x1024x1024, .f32⟩
  | .hbm, ⟨32, _⟩ => ⟨S1024x1024, .f32⟩
  | .hbm, ⟨33, _⟩ => ⟨S1024x1024, .bf16⟩
  | .hbm, ⟨34, _⟩ => ⟨S2x4x128x1, .f32⟩
  | .hbm, ⟨35, _⟩ => ⟨S2x4x128x128, .f32⟩
  | .hbm, ⟨36, _⟩ => ⟨S_, .i32⟩
  | .hbm, ⟨37, _⟩ => ⟨S_, .f32⟩
  | .hbm, ⟨38, _⟩ => ⟨S2x128, .f32⟩
  | .hbm, ⟨39, _⟩ => ⟨S2x1x128, .f32⟩
  | .hbm, ⟨40, _⟩ => ⟨S_, .i32⟩
  | .hbm, ⟨41, _⟩ => ⟨S_, .f32⟩
  | .hbm, ⟨42, _⟩ => ⟨S2x128, .f32⟩
  | .hbm, ⟨43, _⟩ => ⟨S2x1x128, .f32⟩
  | .hbm, ⟨44, _⟩ => ⟨S2x1x1024, .f32⟩
  | .hbm, ⟨45, _⟩ => ⟨S2x1x128, .f32⟩
  | .hbm, ⟨46, _⟩ => ⟨S2x1x512, .f32⟩
  | .hbm, ⟨47, _⟩ => ⟨S2x1x512, .f32⟩
  | .hbm, ⟨48, _⟩ => ⟨S8x2048x1024, .f32⟩
  | .hbm, ⟨49, _⟩ => ⟨S1024x5632, .bf16⟩
  | .hbm, ⟨50, _⟩ => ⟨S2816x1024, .bf16⟩
  | .local _ .vmem, ⟨0, _⟩ => ⟨S4x256x1024, .f32⟩
  | .local _ .vmem, ⟨1, _⟩ => ⟨S4x256x1024, .f32⟩
  | .local _ .vmem, ⟨2, _⟩ => ⟨S1x1x1024, .f32⟩
  | .local _ .vmem, ⟨3, _⟩ => ⟨S1024x3200, .bf16⟩
  | .local _ .vmem, ⟨4, _⟩ => ⟨S1x4x1536, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x512, .f32⟩
  | .local _ .vmem, ⟨9, _⟩ => ⟨S1x1x512, .f32⟩
  | .local _ .vmem, ⟨10, _⟩ => ⟨S1x4x128x128, .f32⟩
  | .local _ .vmem, ⟨11, _⟩ => ⟨S1x4x128x128, .f32⟩
  | .local _ .vmem, ⟨12, _⟩ => ⟨S1024x1024, .bf16⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | .local _ .vmem, ⟨16, _⟩ => ⟨S1x64x2816, .f32⟩
  | .local _ .vmem, ⟨17, _⟩ => ⟨S1x176x1024, .f32⟩
  | .local _ .vmem, ⟨18, _⟩ => ⟨S1x176x1024, .f32⟩
  | .local _ .vmem, ⟨19, _⟩ => ⟨S4x256x1024, .f32⟩
  | .local _ .vmem, ⟨20, _⟩ => ⟨S4x256x1024, .f32⟩
  | .local _ .vmem, ⟨21, _⟩ => ⟨S64x5632, .bf16⟩
  | .local _ .vmem, ⟨22, _⟩ => ⟨S64x5632, .bf16⟩
  | .local _ .vmem, ⟨23, _⟩ => ⟨S176x1024, .bf16⟩
  | .local _ .vmem, ⟨24, _⟩ => ⟨S176x1024, .bf16⟩
  | .local _ .vmem, ⟨25, _⟩ => ⟨S12x4x136x128, .f32⟩
  | .local _ .vmem, ⟨26, _⟩ => ⟨S512x1536, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S8x256x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_0 : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x64x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "gelu_cubic" => some ((80338380498831 / 2251799813685248 : ℝ) : EReal)
  | _ => none
-- ==== MixRefIdeal.lean ====
abbrev S8x2048x1024 : Shape := ⟨3, ![8, 2048, 1024]⟩
abbrev S2x1024 : Shape := ⟨2, ![2, 1024]⟩
abbrev S2x1024x3080 : Shape := ⟨3, ![2, 1024, 3080]⟩
abbrev S2x4x1536 : Shape := ⟨3, ![2, 4, 1536]⟩
abbrev S2x4 : Shape := ⟨2, ![2, 4]⟩
abbrev S2x128 : Shape := ⟨2, ![2, 128]⟩
abbrev S2x512 : Shape := ⟨2, ![2, 512]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3080 : Shape := ⟨3, ![1, 1024, 3080]⟩
abbrev S1024x3080 : Shape := ⟨2, ![1024, 3080]⟩
abbrev S8x2048x3080 : Shape := ⟨3, ![8, 2048, 3080]⟩
abbrev S8x2048x1536 : Shape := ⟨3, ![8, 2048, 1536]⟩
abbrev S8x2051x1536 : Shape := ⟨3, ![8, 2051, 1536]⟩
abbrev S1x1x1536 : Shape := ⟨3, ![1, 1, 1536]⟩
abbrev S1536 : Shape := ⟨1, ![1536]⟩
abbrev S8x2048x12x128 : Shape := ⟨4, ![8, 2048, 12, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S8x2048x512 : Shape := ⟨3, ![8, 2048, 512]⟩
abbrev S1x4 : Shape := ⟨2, ![1, 4]⟩
abbrev S4 : Shape := ⟨1, ![4]⟩
abbrev S1x1x4 : Shape := ⟨3, ![1, 1, 4]⟩
abbrev S8x16x128x8x128 : Shape := ⟨5, ![8, 16, 128, 8, 128]⟩
abbrev S8x16x128x4x128 : Shape := ⟨5, ![8, 16, 128, 4, 128]⟩
abbrev S8x16x128x4 : Shape := ⟨4, ![8, 16, 128, 4]⟩
abbrev S8x16x128x4x1 : Shape := ⟨5, ![8, 16, 128, 4, 1]⟩
abbrev S1x512 : Shape := ⟨2, ![1, 512]⟩
abbrev S512 : Shape := ⟨1, ![512]⟩
abbrev S4x128 : Shape := ⟨2, ![4, 128]⟩
abbrev S1x1x1x4x128 : Shape := ⟨5, ![1, 1, 1, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x4x128x128 : Shape := ⟨4, ![1, 4, 128, 128]⟩
abbrev S4x128x128 : Shape := ⟨3, ![4, 128, 128]⟩
abbrev S4x8x16x128x128 : Shape := ⟨5, ![4, 8, 16, 128, 128]⟩
abbrev S1x4x128 : Shape := ⟨3, ![1, 4, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8x4x128x128 : Shape := ⟨4, ![8, 4, 128, 128]⟩
abbrev S8x1x4 : Shape := ⟨3, ![8, 1, 4]⟩
abbrev S8x4 : Shape := ⟨2, ![8, 4]⟩
abbrev S8x4x1x1 : Shape := ⟨4, ![8, 4, 1, 1]⟩
abbrev S8x4x1 : Shape := ⟨3, ![8, 4, 1]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x4x1x128 : Shape := ⟨4, ![8, 4, 1, 128]⟩
abbrev S1x1x128 : Shape := ⟨3, ![1, 1, 128]⟩
abbrev S8x512 : Shape := ⟨2, ![8, 512]⟩
abbrev S8x1x512 : Shape := ⟨3, ![8, 1, 512]⟩
abbrev S8x1024 : Shape := ⟨2, ![8, 1024]⟩
abbrev S8x1x1024 : Shape := ⟨3, ![8, 1, 1024]⟩
abbrev S1x1024x2816 : Shape := ⟨3, ![1, 1024, 2816]⟩
abbrev S1024x2816 : Shape := ⟨2, ![1024, 2816]⟩
abbrev S1024x11x256 : Shape := ⟨3, ![1024, 11, 256]⟩
abbrev S1024x11x1x256 : Shape := ⟨4, ![1024, 11, 1, 256]⟩
abbrev S1024x11x2x256 : Shape := ⟨4, ![1024, 11, 2, 256]⟩
abbrev S1024x5632 : Shape := ⟨2, ![1024, 5632]⟩
abbrev S1x1024x1024 : Shape := ⟨3, ![1, 1024, 1024]⟩
abbrev S1024x1024 : Shape := ⟨2, ![1024, 1024]⟩
abbrev S1x2816x1024 : Shape := ⟨3, ![1, 2816, 1024]⟩
abbrev S2816x1024 : Shape := ⟨2, ![2816, 1024]⟩

abbrev nBuf : Space → Nat
  | .hbm => 404
  | .vmem => 0
  | .smem => 0
  | _ => 0

abbrev hbmTy0_0 (i : Nat) : BufTy := match i % 128 with
  | 0 => ⟨S8x2048x1024, .f32⟩
  | 1 => ⟨S2x1024, .f32⟩
  | 2 => ⟨S2x1024x3080, .f32⟩
  | 3 => ⟨S2x4x1536, .f32⟩
  | 4 => ⟨S2x4, .f32⟩
  | 5 => ⟨S2x4, .f32⟩
  | 6 => ⟨S2x128, .f32⟩
  | 7 => ⟨S2x512, .f32⟩
  | 8 => ⟨S2x512, .f32⟩
  | 9 => ⟨S2x4x128x128, .f32⟩
  | 10 => ⟨S2x4x128, .f32⟩
  | 11 => ⟨S2x1024x1024, .f32⟩
  | 12 => ⟨S2x1024x2816, .f32⟩
  | 13 => ⟨S2x1024x2816, .f32⟩
  | 14 => ⟨S2x2816x1024, .f32⟩
  | 15 => ⟨S1x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S1x1024x3080, .f32⟩
  | 34 => ⟨S1024x3080, .f32⟩
  | 35 => ⟨S8x2048x3080, .f32⟩
  | 36 => ⟨S8x2048x1536, .f32⟩
  | 37 => ⟨S_, .i32⟩
  | 38 => ⟨S_, .f32⟩
  | 39 => ⟨S8x2051x1536, .f32⟩
  | 40 => ⟨S8x2048x1536, .f32⟩
  | 41 => ⟨S1x1x1536, .f32⟩
  | 42 => ⟨S1536, .f32⟩
  | 43 => ⟨S1x1x1536, .f32⟩
  | 44 => ⟨S8x2048x1536, .f32⟩
  | 45 => ⟨S8x2048x1536, .f32⟩
  | 46 => ⟨S8x2048x1536, .f32⟩
  | 47 => ⟨S1x1x1536, .f32⟩
  | 48 => ⟨S1536, .f32⟩
  | 49 => ⟨S1x1x1536, .f32⟩
  | 50 => ⟨S8x2048x1536, .f32⟩
  | 51 => ⟨S8x2048x1536, .f32⟩
  | 52 => ⟨S8x2048x1536, .f32⟩
  | 53 => ⟨S8x2048x1536, .f32⟩
  | 54 => ⟨S1x1x1536, .f32⟩
  | 55 => ⟨S1536, .f32⟩
  | 56 => ⟨S1x1x1536, .f32⟩
  | 57 => ⟨S8x2048x1536, .f32⟩
  | 58 => ⟨S8x2048x1536, .f32⟩
  | 59 => ⟨S8x2048x1536, .f32⟩
  | 60 => ⟨S8x2048x1536, .f32⟩
  | 61 => ⟨S1x1x1536, .f32⟩
  | 62 => ⟨S1536, .f32⟩
  | 63 => ⟨S1x1x1536, .f32⟩
  | 64 => ⟨S8x2048x1536, .f32⟩
  | 65 => ⟨S8x2048x1536, .f32⟩
  | 66 => ⟨S8x2048x1536, .f32⟩
  | 67 => ⟨S8x2048x1536, .f32⟩
  | 68 => ⟨S8x2048x1536, .f32⟩
  | 69 => ⟨S_, .f32⟩
  | 70 => ⟨S8x2048x1536, .f32⟩
  | 71 => ⟨S8x2048x1536, .f32⟩
  | 72 => ⟨S_, .f32⟩
  | 73 => ⟨S8x2048x1536, .f32⟩
  | 74 => ⟨S8x2048x1536, .f32⟩
  | 75 => ⟨S8x2048x1536, .f32⟩
  | 76 => ⟨S8x2048x12x128, .f32⟩
  | 77 => ⟨S8x2048x4x128, .f32⟩
  | 78 => ⟨S8x2048x4x128, .f32⟩
  | 79 => ⟨S_, .f32⟩
  | 80 => ⟨S8x2048x4, .f32⟩
  | 81 => ⟨S8x2048x4x1, .f32⟩
  | 82 => ⟨S_, .f32⟩
  | 83 => ⟨S8x2048x4x1, .f32⟩
  | 84 => ⟨S8x2048x4x1, .f32⟩
  | 85 => ⟨S8x2048x4x1, .f32⟩
  | 86 => ⟨S8x2048x4x128, .f32⟩
  | 87 => ⟨S8x2048x4x128, .f32⟩
  | 88 => ⟨S_, .f32⟩
  | 89 => ⟨S8x2048x4x128, .f32⟩
  | 90 => ⟨S8x2048x4x128, .f32⟩
  | 91 => ⟨S8x2048x4x128, .f32⟩
  | 92 => ⟨S8x2048x4x128, .f32⟩
  | 93 => ⟨S_, .f32⟩
  | 94 => ⟨S8x2048x4, .f32⟩
  | 95 => ⟨S8x2048x4x1, .f32⟩
  | 96 => ⟨S_, .f32⟩
  | 97 => ⟨S8x2048x4x1, .f32⟩
  | 98 => ⟨S8x2048x4x1, .f32⟩
  | 99 => ⟨S8x2048x4x1, .f32⟩
  | 100 => ⟨S8x2048x4x128, .f32⟩
  | 101 => ⟨S8x2048x4x128, .f32⟩
  | 102 => ⟨S8x2048x4x128, .f32⟩
  | 103 => ⟨S8x2048x512, .f32⟩
  | 104 => ⟨S8x2048x4x128, .f32⟩
  | 105 => ⟨S8x2048x4, .f32⟩
  | 106 => ⟨S8x2048x4, .f32⟩
  | 107 => ⟨S8x2048x4, .f32⟩
  | 108 => ⟨S_, .f32⟩
  | 109 => ⟨S8x2048x4, .f32⟩
  | 110 => ⟨S8x2048x4, .f32⟩
  | 111 => ⟨S_, .f32⟩
  | 112 => ⟨S8x2048x4, .f32⟩
  | 113 => ⟨S8x2048x4, .f32⟩
  | 114 => ⟨S1x4, .f32⟩
  | 115 => ⟨S4, .f32⟩
  | 116 => ⟨S4, .f32⟩
  | 117 => ⟨S4, .f32⟩
  | 118 => ⟨S8x2048x4, .f32⟩
  | 119 => ⟨S1x4, .f32⟩
  | 120 => ⟨S4, .f32⟩
  | 121 => ⟨S1x1x4, .f32⟩
  | 122 => ⟨S8x2048x4, .f32⟩
  | 123 => ⟨S8x2048x4, .f32⟩
  | 124 => ⟨S_, .f32⟩
  | 125 => ⟨S8x2048x4, .f32⟩
  | 126 => ⟨S8x2048x4, .f32⟩
  | 127 => ⟨S8x2048x4, .f32⟩
  | _ => ⟨S8x2048x1024, .f32⟩

abbrev hbmTy0_1 (i : Nat) : BufTy := match i % 128 with
  | 0 => ⟨S8x2048x4, .f32⟩
  | 1 => ⟨S8x2048x4, .i1⟩
  | 2 => ⟨S8x2048x4, .f32⟩
  | 3 => ⟨S8x2048x4, .f32⟩
  | 4 => ⟨S8x2048x4, .f32⟩
  | 5 => ⟨S8x2048x4, .f32⟩
  | 6 => ⟨S8x2048x4, .f32⟩
  | 7 => ⟨S8x2048x4, .f32⟩
  | 8 => ⟨S8x2048x4, .f32⟩
  | 9 => ⟨S8x2048x4, .f32⟩
  | 10 => ⟨S1x1x4, .f32⟩
  | 11 => ⟨S8x2048x4, .f32⟩
  | 12 => ⟨S8x2048x4, .f32⟩
  | 13 => ⟨S8x2048x1024, .f32⟩
  | 14 => ⟨S8x2048x1024, .f32⟩
  | 15 => ⟨S8x2048x1024, .f32⟩
  | 16 => ⟨S_, .f32⟩
  | 17 => ⟨S8x2048x1024, .f32⟩
  | 18 => ⟨S8x2048x1024, .f32⟩
  | 19 => ⟨S8x2048x1024, .f32⟩
  | 20 => ⟨S_, .f32⟩
  | 21 => ⟨S8x2048x1024, .f32⟩
  | 22 => ⟨S8x2048x1024, .f32⟩
  | 23 => ⟨S8x2048x1024, .f32⟩
  | 24 => ⟨S_, .f32⟩
  | 25 => ⟨S8x2048x1024, .f32⟩
  | 26 => ⟨S8x2048x1024, .f32⟩
  | 27 => ⟨S_, .f32⟩
  | 28 => ⟨S8x2048x1024, .f32⟩
  | 29 => ⟨S8x2048x1024, .f32⟩
  | 30 => ⟨S8x2048x1024, .f32⟩
  | 31 => ⟨S8x16x128x8x128, .f32⟩
  | 32 => ⟨S8x16x128x4x128, .f32⟩
  | 33 => ⟨S_, .f32⟩
  | 34 => ⟨S8x16x128x4, .f32⟩
  | 35 => ⟨S8x16x128x4x1, .f32⟩
  | 36 => ⟨S_, .f32⟩
  | 37 => ⟨S8x16x128x4x1, .f32⟩
  | 38 => ⟨S8x16x128x4x1, .f32⟩
  | 39 => ⟨S8x16x128x4x128, .f32⟩
  | 40 => ⟨S8x16x128x4x128, .f32⟩
  | 41 => ⟨S8x16x128x4x128, .f32⟩
  | 42 => ⟨S_, .f32⟩
  | 43 => ⟨S8x16x128x4, .f32⟩
  | 44 => ⟨S8x16x128x4x1, .f32⟩
  | 45 => ⟨S_, .f32⟩
  | 46 => ⟨S8x16x128x4x1, .f32⟩
  | 47 => ⟨S8x16x128x4x1, .f32⟩
  | 48 => ⟨S8x16x128x4x128, .f32⟩
  | 49 => ⟨S8x16x128x4x128, .f32⟩
  | 50 => ⟨S_, .f32⟩
  | 51 => ⟨S8x16x128x4x1, .f32⟩
  | 52 => ⟨S8x16x128x4x1, .f32⟩
  | 53 => ⟨S8x16x128x4x1, .f32⟩
  | 54 => ⟨S8x16x128x4x128, .f32⟩
  | 55 => ⟨S8x16x128x4x128, .f32⟩
  | 56 => ⟨S1x512, .f32⟩
  | 57 => ⟨S512, .f32⟩
  | 58 => ⟨S4x128, .f32⟩
  | 59 => ⟨S1x1x1x4x128, .f32⟩
  | 60 => ⟨S8x16x128x4x128, .f32⟩
  | 61 => ⟨S8x16x128x4x128, .f32⟩
  | 62 => ⟨S1x512, .f32⟩
  | 63 => ⟨S512, .f32⟩
  | 64 => ⟨S4x128, .f32⟩
  | 65 => ⟨S1x1x1x4x128, .f32⟩
  | 66 => ⟨S8x16x128x4x128, .f32⟩
  | 67 => ⟨S8x16x128x4x128, .f32⟩
  | 68 => ⟨S128, .i32⟩
  | 69 => ⟨S128x1, .i32⟩
  | 70 => ⟨S1x128, .i32⟩
  | 71 => ⟨S128x128, .i32⟩
  | 72 => ⟨S128x128, .i32⟩
  | 73 => ⟨S128x128, .i1⟩
  | 74 => ⟨S1x4x128x128, .f32⟩
  | 75 => ⟨S4x128x128, .f32⟩
  | 76 => ⟨S_, .f32⟩
  | 77 => ⟨S_, .f32⟩
  | 78 => ⟨S4x128x128, .i1⟩
  | 79 => ⟨S4x128x128, .f32⟩
  | 80 => ⟨S4x128x128, .f32⟩
  | 81 => ⟨S4x8x16x128x128, .f32⟩
  | 82 => ⟨S8x16x128x4x128, .f32⟩
  | 83 => ⟨S1x4x128, .f32⟩
  | 84 => ⟨S4x128, .f32⟩
  | 85 => ⟨S128x4, .f32⟩
  | 86 => ⟨S128x4x1, .f32⟩
  | 87 => ⟨S1x1x128x4x1, .f32⟩
  | 88 => ⟨S8x16x128x4x128, .f32⟩
  | 89 => ⟨S8x16x128x4x128, .f32⟩
  | 90 => ⟨S8x16x128x4x128, .f32⟩
  | 91 => ⟨S8x16x128x4x128, .f32⟩
  | 92 => ⟨S8x2048x512, .f32⟩
  | 93 => ⟨S1x128, .f32⟩
  | 94 => ⟨S128, .f32⟩
  | 95 => ⟨S8x2048x4, .f32⟩
  | 96 => ⟨S_, .f32⟩
  | 97 => ⟨S8x4x128x128, .f32⟩
  | 98 => ⟨S_, .f32⟩
  | 99 => ⟨S8x2048x1024, .f32⟩
  | 100 => ⟨S_, .i32⟩
  | 101 => ⟨S_, .i32⟩
  | 102 => ⟨S8x2048x4, .f32⟩
  | 103 => ⟨S8x2048x4, .f32⟩
  | 104 => ⟨S8x2048x4x128, .f32⟩
  | 105 => ⟨S8x2048x4x128, .f32⟩
  | 106 => ⟨S8x2048x4x128, .f32⟩
  | 107 => ⟨S128, .f32⟩
  | 108 => ⟨S8x2048x4x128, .f32⟩
  | 109 => ⟨S8x2048x512, .f32⟩
  | 110 => ⟨S_, .i32⟩
  | 111 => ⟨S_, .i32⟩
  | 112 => ⟨S8x4x128x128, .f32⟩
  | 113 => ⟨S8x2048x1024, .f32⟩
  | 114 => ⟨S_, .i32⟩
  | 115 => ⟨S_, .i1⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S8x1x4, .f32⟩
  | 127 => ⟨S8x4, .f32⟩
  | _ => ⟨S8x2048x1024, .f32⟩

abbrev hbmTy0_2 (i : Nat) : BufTy := match i % 128 with
  | 0 => ⟨S8x4x1x1, .f32⟩
  | 1 => ⟨S8x4x128x128, .f32⟩
  | 2 => ⟨S8x4x128x128, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S8x1x4, .f32⟩
  | 12 => ⟨S8x4, .f32⟩
  | 13 => ⟨S8x4x1, .f32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S8x1x4x128, .f32⟩
  | 24 => ⟨S8x4x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S8x1x4x128, .f32⟩
  | 35 => ⟨S8x4x128, .f32⟩
  | 36 => ⟨S8x4x128, .f32⟩
  | 37 => ⟨S8x4x128, .f32⟩
  | 38 => ⟨S8x4x128, .f32⟩
  | 39 => ⟨S8x4x128, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S8x1x4x128, .f32⟩
  | 50 => ⟨S8x4x128, .f32⟩
  | 51 => ⟨S8x4x128x1, .f32⟩
  | 52 => ⟨S8x4x1x128, .f32⟩
  | 53 => ⟨S8x4x128x128, .f32⟩
  | 54 => ⟨S8x4x128x128, .f32⟩
  | 55 => ⟨S8x4x128x128, .f32⟩
  | 56 => ⟨S8x4x128x128, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S8x1x4x128, .f32⟩
  | 67 => ⟨S8x4x128, .f32⟩
  | 68 => ⟨S8x4x128, .f32⟩
  | 69 => ⟨S8x4x128, .f32⟩
  | 70 => ⟨S_, .f32⟩
  | 71 => ⟨S8x4, .f32⟩
  | 72 => ⟨S8x4x1, .f32⟩
  | 73 => ⟨S_, .f32⟩
  | 74 => ⟨S8x4x1, .f32⟩
  | 75 => ⟨S8x4x1, .f32⟩
  | 76 => ⟨S_, .f32⟩
  | 77 => ⟨S8x4x1, .f32⟩
  | 78 => ⟨S8x4x1, .f32⟩
  | 79 => ⟨S8x4x1, .f32⟩
  | 80 => ⟨S8x4x128, .f32⟩
  | 81 => ⟨S8x4x128, .f32⟩
  | 82 => ⟨S1x1x128, .f32⟩
  | 83 => ⟨S8x4x128, .f32⟩
  | 84 => ⟨S8x4x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S8x1x4x128, .f32⟩
  | 95 => ⟨S8x4x128, .f32⟩
  | 96 => ⟨S8x4x128, .f32⟩
  | 97 => ⟨S8x4x128, .f32⟩
  | 98 => ⟨S_, .f32⟩
  | 99 => ⟨S8x4x128, .f32⟩
  | 100 => ⟨S8x4x128, .f32⟩
  | 101 => ⟨S_, .f32⟩
  | 102 => ⟨S8x4x128, .f32⟩
  | 103 => ⟨S8x4x128, .f32⟩
  | 104 => ⟨S8x4x128, .f32⟩
  | 105 => ⟨S8x4x128, .f32⟩
  | 106 => ⟨S8x512, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S8x1x512, .f32⟩
  | 116 => ⟨S8x512, .f32⟩
  | 117 => ⟨S8x1024, .f32⟩
  | 118 => ⟨S8x1x1024, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S8x2048x1024, .f32⟩
  | _ => ⟨S8x2048x1024, .f32⟩

abbrev hbmTy0_3 (i : Nat) : BufTy := match i % 128 with
  | 0 => ⟨S_, .i32⟩
  | 1 => ⟨S_, .i32⟩
  | 2 => ⟨S1x1024x2816, .f32⟩
  | 3 => ⟨S1024x2816, .f32⟩
  | 4 => ⟨S1024x11x256, .f32⟩
  | 5 => ⟨S1x1024x2816, .f32⟩
  | 6 => ⟨S1024x2816, .f32⟩
  | 7 => ⟨S1024x11x256, .f32⟩
  | 8 => ⟨S1024x11x1x256, .f32⟩
  | 9 => ⟨S1024x11x1x256, .f32⟩
  | 10 => ⟨S1024x11x2x256, .f32⟩
  | 11 => ⟨S1024x5632, .f32⟩
  | 12 => ⟨S1x1024x1024, .f32⟩
  | 13 => ⟨S1024x1024, .f32⟩
  | 14 => ⟨S8x2048x1024, .f32⟩
  | 15 => ⟨S8x2048x1024, .f32⟩
  | 16 => ⟨S1024x5632, .bf16⟩
  | 17 => ⟨S1x2816x1024, .f32⟩
  | 18 => ⟨S2816x1024, .f32⟩
  | 19 => ⟨S2816x1024, .bf16⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_2 : Ref sig .tc := ⟨.hbm, 79, rfl⟩
abbrev main_v51 : Ref sig .tc := ⟨.hbm, 80, rfl⟩
abbrev main_v52 : Ref sig .tc := ⟨.hbm, 81, rfl⟩
abbrev main_cst_3 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_4 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_5 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_cst_8 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call2_cst : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_9 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_10 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_11 : Ref sig .tc := ⟨.hbm, 152, rfl⟩
abbrev main_v102 : Ref sig .tc := ⟨.hbm, 153, rfl⟩
abbrev main_v103 : Ref sig .tc := ⟨.hbm, 154, rfl⟩
abbrev main_cst_12 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_13 : Ref sig .tc := ⟨.hbm, 161, rfl⟩
abbrev main_v109 : Ref sig .tc := ⟨.hbm, 162, rfl⟩
abbrev main_v110 : Ref sig .tc := ⟨.hbm, 163, rfl⟩
abbrev main_cst_14 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_15 : Ref sig .tc := ⟨.hbm, 170, rfl⟩
abbrev main_v116 : Ref sig .tc := ⟨.hbm, 171, rfl⟩
abbrev main_v117 : Ref sig .tc := ⟨.hbm, 172, rfl⟩
abbrev main_cst_16 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_17 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_18 : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_19 : Ref sig .tc := ⟨.hbm, 224, rfl⟩
abbrev main_v163 : Ref sig .tc := ⟨.hbm, 225, rfl⟩
abbrev main_cst_20 : Ref sig .tc := ⟨.hbm, 226, rfl⟩
abbrev main_v164 : Ref sig .tc := ⟨.hbm, 227, rfl⟩
abbrev main_c_21 : Ref sig .tc := ⟨.hbm, 228, rfl⟩
abbrev main_c_22 : Ref sig .tc := ⟨.hbm, 229, rfl⟩
abbrev main_v165_0 : Ref sig .tc := ⟨.hbm, 230, rfl⟩
abbrev main_v165_1 : Ref sig .tc := ⟨.hbm, 231, rfl⟩
abbrev main_v165_2 : Ref sig .tc := ⟨.hbm, 232, rfl⟩
abbrev main_v165_3 : Ref sig .tc := ⟨.hbm, 233, rfl⟩
abbrev main_v165_4 : Ref sig .tc := ⟨.hbm, 234, rfl⟩
abbrev main_v165_5 : Ref sig .tc := ⟨.hbm, 235, rfl⟩
abbrev main_v165_6 : Ref sig .tc := ⟨.hbm, 236, rfl⟩
abbrev main_v165_7 : Ref sig .tc := ⟨.hbm, 237, rfl⟩
abbrev main_v165_8 : Ref sig .tc := ⟨.hbm, 238, rfl⟩
abbrev main_v165_9 : Ref sig .tc := ⟨.hbm, 239, rfl⟩
abbrev main_v165_10 : Ref sig .tc := ⟨.hbm, 240, rfl⟩
abbrev main_v165_11 : Ref sig .tc := ⟨.hbm, 241, rfl⟩
abbrev main_while0c_c_34 : Ref sig .tc := ⟨.hbm, 242, rfl⟩
abbrev main_while0c_v184 : Ref sig .tc := ⟨.hbm, 243, rfl⟩
abbrev main_while0b_c_34 : Ref sig .tc := ⟨.hbm, 244, rfl⟩
abbrev main_while0b_v184 : Ref sig .tc := ⟨.hbm, 245, rfl⟩
abbrev main_while0b_call4_c : Ref sig .tc := ⟨.hbm, 246, rfl⟩
abbrev main_while0b_call4_v0 : Ref sig .tc := ⟨.hbm, 247, rfl⟩
abbrev main_while0b_call4_v1 : Ref sig .tc := ⟨.hbm, 248, rfl⟩
abbrev main_while0b_call4_c_0 : Ref sig .tc := ⟨.hbm, 249, rfl⟩
abbrev main_while0b_call4_v2 : Ref sig .tc := ⟨.hbm, 250, rfl⟩
abbrev main_while0b_call4_v3 : Ref sig .tc := ⟨.hbm, 251, rfl⟩
abbrev main_while0b_call4_c_1 : Ref sig .tc := ⟨.hbm, 252, rfl⟩
abbrev main_while0b_call4_c_2 : Ref sig .tc := ⟨.hbm, 253, rfl⟩
abbrev main_while0b_call4_v4 : Ref sig .tc := ⟨.hbm, 254, rfl⟩
abbrev main_while0b_v185 : Ref sig .tc := ⟨.hbm, 255, rfl⟩
abbrev main_while0b_v186 : Ref sig .tc := ⟨.hbm, 256, rfl⟩
abbrev main_while0b_v187 : Ref sig .tc := ⟨.hbm, 257, rfl⟩
abbrev main_while0b_v188 : Ref sig .tc := ⟨.hbm, 258, rfl⟩
abbrev main_while0b_call5_c : Ref sig .tc := ⟨.hbm, 259, rfl⟩
abbrev main_while0b_call5_v0 : Ref sig .tc := ⟨.hbm, 260, rfl⟩
abbrev main_while0b_call5_v1 : Ref sig .tc := ⟨.hbm, 261, rfl⟩
abbrev main_while0b_call5_c_0 : Ref sig .tc := ⟨.hbm, 262, rfl⟩
abbrev main_while0b_call5_v2 : Ref sig .tc := ⟨.hbm, 263, rfl⟩
abbrev main_while0b_call5_v3 : Ref sig .tc := ⟨.hbm, 264, rfl⟩
abbrev main_while0b_call5_c_1 : Ref sig .tc := ⟨.hbm, 265, rfl⟩
abbrev main_while0b_call5_c_2 : Ref sig .tc := ⟨.hbm, 266, rfl⟩
abbrev main_while0b_call5_v4 : Ref sig .tc := ⟨.hbm, 267, rfl⟩
abbrev main_while0b_v189 : Ref sig .tc := ⟨.hbm, 268, rfl⟩
abbrev main_while0b_v190 : Ref sig .tc := ⟨.hbm, 269, rfl⟩
abbrev main_while0b_call6_c : Ref sig .tc := ⟨.hbm, 270, rfl⟩
abbrev main_while0b_call6_v0 : Ref sig .tc := ⟨.hbm, 271, rfl⟩
abbrev main_while0b_call6_v1 : Ref sig .tc := ⟨.hbm, 272, rfl⟩
abbrev main_while0b_call6_c_0 : Ref sig .tc := ⟨.hbm, 273, rfl⟩
abbrev main_while0b_call6_v2 : Ref sig .tc := ⟨.hbm, 274, rfl⟩
abbrev main_while0b_call6_v3 : Ref sig .tc := ⟨.hbm, 275, rfl⟩
abbrev main_while0b_call6_c_1 : Ref sig .tc := ⟨.hbm, 276, rfl⟩
abbrev main_while0b_call6_c_2 : Ref sig .tc := ⟨.hbm, 277, rfl⟩
abbrev main_while0b_call6_c_3 : Ref sig .tc := ⟨.hbm, 278, rfl⟩
abbrev main_while0b_call6_v4 : Ref sig .tc := ⟨.hbm, 279, rfl⟩
abbrev main_while0b_v191 : Ref sig .tc := ⟨.hbm, 280, rfl⟩
abbrev main_while0b_call7_c : Ref sig .tc := ⟨.hbm, 281, rfl⟩
abbrev main_while0b_call7_v0 : Ref sig .tc := ⟨.hbm, 282, rfl⟩
abbrev main_while0b_call7_v1 : Ref sig .tc := ⟨.hbm, 283, rfl⟩
abbrev main_while0b_call7_c_0 : Ref sig .tc := ⟨.hbm, 284, rfl⟩
abbrev main_while0b_call7_v2 : Ref sig .tc := ⟨.hbm, 285, rfl⟩
abbrev main_while0b_call7_v3 : Ref sig .tc := ⟨.hbm, 286, rfl⟩
abbrev main_while0b_call7_c_1 : Ref sig .tc := ⟨.hbm, 287, rfl⟩
abbrev main_while0b_call7_c_2 : Ref sig .tc := ⟨.hbm, 288, rfl⟩
abbrev main_while0b_call7_c_3 : Ref sig .tc := ⟨.hbm, 289, rfl⟩
abbrev main_while0b_call7_v4 : Ref sig .tc := ⟨.hbm, 290, rfl⟩
abbrev main_while0b_v192 : Ref sig .tc := ⟨.hbm, 291, rfl⟩
abbrev main_while0b_v193 : Ref sig .tc := ⟨.hbm, 292, rfl⟩
abbrev main_while0b_v194 : Ref sig .tc := ⟨.hbm, 293, rfl⟩
abbrev main_while0b_v195 : Ref sig .tc := ⟨.hbm, 294, rfl⟩
abbrev main_while0b_v196 : Ref sig .tc := ⟨.hbm, 295, rfl⟩
abbrev main_while0b_call8_c : Ref sig .tc := ⟨.hbm, 296, rfl⟩
abbrev main_while0b_call8_v0 : Ref sig .tc := ⟨.hbm, 297, rfl⟩
abbrev main_while0b_call8_v1 : Ref sig .tc := ⟨.hbm, 298, rfl⟩
abbrev main_while0b_call8_c_0 : Ref sig .tc := ⟨.hbm, 299, rfl⟩
abbrev main_while0b_call8_v2 : Ref sig .tc := ⟨.hbm, 300, rfl⟩
abbrev main_while0b_call8_v3 : Ref sig .tc := ⟨.hbm, 301, rfl⟩
abbrev main_while0b_call8_c_1 : Ref sig .tc := ⟨.hbm, 302, rfl⟩
abbrev main_while0b_call8_c_2 : Ref sig .tc := ⟨.hbm, 303, rfl⟩
abbrev main_while0b_call8_c_3 : Ref sig .tc := ⟨.hbm, 304, rfl⟩
abbrev main_while0b_call8_v4 : Ref sig .tc := ⟨.hbm, 305, rfl⟩
abbrev main_while0b_v197 : Ref sig .tc := ⟨.hbm, 306, rfl⟩
abbrev main_while0b_v198 : Ref sig .tc := ⟨.hbm, 307, rfl⟩
abbrev main_while0b_v199 : Ref sig .tc := ⟨.hbm, 308, rfl⟩
abbrev main_while0b_v200 : Ref sig .tc := ⟨.hbm, 309, rfl⟩
abbrev main_while0b_v201 : Ref sig .tc := ⟨.hbm, 310, rfl⟩
abbrev main_while0b_v202 : Ref sig .tc := ⟨.hbm, 311, rfl⟩
abbrev main_while0b_v203 : Ref sig .tc := ⟨.hbm, 312, rfl⟩
abbrev main_while0b_call9_c : Ref sig .tc := ⟨.hbm, 313, rfl⟩
abbrev main_while0b_call9_v0 : Ref sig .tc := ⟨.hbm, 314, rfl⟩
abbrev main_while0b_call9_v1 : Ref sig .tc := ⟨.hbm, 315, rfl⟩
abbrev main_while0b_call9_c_0 : Ref sig .tc := ⟨.hbm, 316, rfl⟩
abbrev main_while0b_call9_v2 : Ref sig .tc := ⟨.hbm, 317, rfl⟩
abbrev main_while0b_call9_v3 : Ref sig .tc := ⟨.hbm, 318, rfl⟩
abbrev main_while0b_call9_c_1 : Ref sig .tc := ⟨.hbm, 319, rfl⟩
abbrev main_while0b_call9_c_2 : Ref sig .tc := ⟨.hbm, 320, rfl⟩
abbrev main_while0b_call9_c_3 : Ref sig .tc := ⟨.hbm, 321, rfl⟩
abbrev main_while0b_call9_v4 : Ref sig .tc := ⟨.hbm, 322, rfl⟩
abbrev main_while0b_v204 : Ref sig .tc := ⟨.hbm, 323, rfl⟩
abbrev main_while0b_v205 : Ref sig .tc := ⟨.hbm, 324, rfl⟩
abbrev main_while0b_v206 : Ref sig .tc := ⟨.hbm, 325, rfl⟩
abbrev main_while0b_cst_35 : Ref sig .tc := ⟨.hbm, 326, rfl⟩
abbrev main_while0b_v207 : Ref sig .tc := ⟨.hbm, 327, rfl⟩
abbrev main_while0b_v208 : Ref sig .tc := ⟨.hbm, 328, rfl⟩
abbrev main_while0b_cst_36 : Ref sig .tc := ⟨.hbm, 329, rfl⟩
abbrev main_while0b_v209 : Ref sig .tc := ⟨.hbm, 330, rfl⟩
abbrev main_while0b_v210 : Ref sig .tc := ⟨.hbm, 331, rfl⟩
abbrev main_while0b_cst_37 : Ref sig .tc := ⟨.hbm, 332, rfl⟩
abbrev main_while0b_v211 : Ref sig .tc := ⟨.hbm, 333, rfl⟩
abbrev main_while0b_v212 : Ref sig .tc := ⟨.hbm, 334, rfl⟩
abbrev main_while0b_v213 : Ref sig .tc := ⟨.hbm, 335, rfl⟩
abbrev main_while0b_v214 : Ref sig .tc := ⟨.hbm, 336, rfl⟩
abbrev main_while0b_v215 : Ref sig .tc := ⟨.hbm, 337, rfl⟩
abbrev main_while0b_v216 : Ref sig .tc := ⟨.hbm, 338, rfl⟩
abbrev main_while0b_v217 : Ref sig .tc := ⟨.hbm, 339, rfl⟩
abbrev main_while0b_v218 : Ref sig .tc := ⟨.hbm, 340, rfl⟩
abbrev main_while0b_call10_c : Ref sig .tc := ⟨.hbm, 341, rfl⟩
abbrev main_while0b_call10_v0 : Ref sig .tc := ⟨.hbm, 342, rfl⟩
abbrev main_while0b_call10_v1 : Ref sig .tc := ⟨.hbm, 343, rfl⟩
abbrev main_while0b_call10_c_0 : Ref sig .tc := ⟨.hbm, 344, rfl⟩
abbrev main_while0b_call10_v2 : Ref sig .tc := ⟨.hbm, 345, rfl⟩
abbrev main_while0b_call10_v3 : Ref sig .tc := ⟨.hbm, 346, rfl⟩
abbrev main_while0b_call10_c_1 : Ref sig .tc := ⟨.hbm, 347, rfl⟩
abbrev main_while0b_call10_c_2 : Ref sig .tc := ⟨.hbm, 348, rfl⟩
abbrev main_while0b_call10_c_3 : Ref sig .tc := ⟨.hbm, 349, rfl⟩
abbrev main_while0b_call10_v4 : Ref sig .tc := ⟨.hbm, 350, rfl⟩
abbrev main_while0b_v219 : Ref sig .tc := ⟨.hbm, 351, rfl⟩
abbrev main_while0b_call11_v0 : Ref sig .tc := ⟨.hbm, 352, rfl⟩
abbrev main_while0b_call11_v1 : Ref sig .tc := ⟨.hbm, 353, rfl⟩
abbrev main_while0b_call11_cst : Ref sig .tc := ⟨.hbm, 354, rfl⟩
abbrev main_while0b_call11_v2 : Ref sig .tc := ⟨.hbm, 355, rfl⟩
abbrev main_while0b_call11_v3 : Ref sig .tc := ⟨.hbm, 356, rfl⟩
abbrev main_while0b_call11_cst_0 : Ref sig .tc := ⟨.hbm, 357, rfl⟩
abbrev main_while0b_call11_v4 : Ref sig .tc := ⟨.hbm, 358, rfl⟩
abbrev main_while0b_call11_v5 : Ref sig .tc := ⟨.hbm, 359, rfl⟩
abbrev main_while0b_v220 : Ref sig .tc := ⟨.hbm, 360, rfl⟩
abbrev main_while0b_v221 : Ref sig .tc := ⟨.hbm, 361, rfl⟩
abbrev main_while0b_v222 : Ref sig .tc := ⟨.hbm, 362, rfl⟩
abbrev main_while0b_call12_c : Ref sig .tc := ⟨.hbm, 363, rfl⟩
abbrev main_while0b_call12_v0 : Ref sig .tc := ⟨.hbm, 364, rfl⟩
abbrev main_while0b_call12_v1 : Ref sig .tc := ⟨.hbm, 365, rfl⟩
abbrev main_while0b_call12_c_0 : Ref sig .tc := ⟨.hbm, 366, rfl⟩
abbrev main_while0b_call12_v2 : Ref sig .tc := ⟨.hbm, 367, rfl⟩
abbrev main_while0b_call12_v3 : Ref sig .tc := ⟨.hbm, 368, rfl⟩
abbrev main_while0b_call12_c_1 : Ref sig .tc := ⟨.hbm, 369, rfl⟩
abbrev main_while0b_call12_c_2 : Ref sig .tc := ⟨.hbm, 370, rfl⟩
abbrev main_while0b_call12_v4 : Ref sig .tc := ⟨.hbm, 371, rfl⟩
abbrev main_while0b_v223 : Ref sig .tc := ⟨.hbm, 372, rfl⟩
abbrev main_while0b_v224 : Ref sig .tc := ⟨.hbm, 373, rfl⟩
abbrev main_while0b_call13_v0 : Ref sig .tc := ⟨.hbm, 374, rfl⟩
abbrev main_while0b_call13_c : Ref sig .tc := ⟨.hbm, 375, rfl⟩
abbrev main_while0b_call13_v1 : Ref sig .tc := ⟨.hbm, 376, rfl⟩
abbrev main_while0b_call13_v2 : Ref sig .tc := ⟨.hbm, 377, rfl⟩
abbrev main_while0b_call13_c_0 : Ref sig .tc := ⟨.hbm, 378, rfl⟩
abbrev main_while0b_call13_v3 : Ref sig .tc := ⟨.hbm, 379, rfl⟩
abbrev main_while0b_call13_v4 : Ref sig .tc := ⟨.hbm, 380, rfl⟩
abbrev main_while0b_call13_c_1 : Ref sig .tc := ⟨.hbm, 381, rfl⟩
abbrev main_while0b_call13_c_2 : Ref sig .tc := ⟨.hbm, 382, rfl⟩
abbrev main_while0b_v225 : Ref sig .tc := ⟨.hbm, 383, rfl⟩
abbrev main_while0b_c_38 : Ref sig .tc := ⟨.hbm, 384, rfl⟩
abbrev main_while0b_v226 : Ref sig .tc := ⟨.hbm, 385, rfl⟩
abbrev main_v166 : Ref sig .tc := ⟨.hbm, 386, rfl⟩
abbrev main_v167 : Ref sig .tc := ⟨.hbm, 387, rfl⟩
abbrev main_v168 : Ref sig .tc := ⟨.hbm, 388, rfl⟩
abbrev main_v169 : Ref sig .tc := ⟨.hbm, 389, rfl⟩
abbrev main_v170 : Ref sig .tc := ⟨.hbm, 390, rfl⟩
abbrev main_v171 : Ref sig .tc := ⟨.hbm, 391, rfl⟩
abbrev main_v172 : Ref sig .tc := ⟨.hbm, 392, rfl⟩
abbrev main_v173 : Ref sig .tc := ⟨.hbm, 393, rfl⟩
abbrev main_v174 : Ref sig .tc := ⟨.hbm, 394, rfl⟩
abbrev main_v175 : Ref sig .tc := ⟨.hbm, 395, rfl⟩
abbrev main_v176 : Ref sig .tc := ⟨.hbm, 396, rfl⟩
abbrev main_v177 : Ref sig .tc := ⟨.hbm, 397, rfl⟩
abbrev main_v178 : Ref sig .tc := ⟨.hbm, 398, rfl⟩
abbrev main_v179 : Ref sig .tc := ⟨.hbm, 399, rfl⟩
abbrev main_v180 : Ref sig .tc := ⟨.hbm, 400, rfl⟩
abbrev main_v181 : Ref sig .tc := ⟨.hbm, 401, rfl⟩
abbrev main_v182 : Ref sig .tc := ⟨.hbm, 402, rfl⟩
abbrev main_v183 : Ref sig .tc := ⟨.hbm, 403, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x2816 : Shape := ⟨3, ![1, 1024, 2816]⟩
abbrev S1024x2816 : Shape := ⟨2, ![1024, 2816]⟩
abbrev S1024x11x256 : Shape := ⟨3, ![1024, 11, 256]⟩
abbrev S1024x11x1x256 : Shape := ⟨4, ![1024, 11, 1, 256]⟩
abbrev S1024x11x2x256 : Shape := ⟨4, ![1024, 11, 2, 256]⟩
abbrev S1024x5632 : Shape := ⟨2, ![1024, 5632]⟩
abbrev S1x2816x1024 : Shape := ⟨3, ![1, 2816, 1024]⟩
abbrev S2816x1024 : Shape := ⟨2, ![2816, 1024]⟩
abbrev S16384x1024 : Shape := ⟨2, ![16384, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x5632 : Shape := ⟨2, ![512, 5632]⟩
abbrev S512x256 : Shape := ⟨2, ![512, 256]⟩
abbrev S512x2816 : Shape := ⟨2, ![512, 2816]⟩

abbrev nBuf : Space → Nat
  | .hbm => 25
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024x2816, .f32⟩
  | .hbm, ⟨7, _⟩ => ⟨S1024x2816, .f32⟩
  | .hbm, ⟨8, _⟩ => ⟨S1024x2816, .bf16⟩
  | .hbm, ⟨9, _⟩ => ⟨S1x1024x2816, .f32⟩
  | .hbm, ⟨10, _⟩ => ⟨S1024x2816, .f32⟩
  | .hbm, ⟨11, _⟩ => ⟨S1024x2816, .bf16⟩
  | .hbm, ⟨12, _⟩ => ⟨S1024x11x256, .bf16⟩
  | .hbm, ⟨13, _⟩ => ⟨S1024x11x256, .bf16⟩
  | .hbm, ⟨14, _⟩ => ⟨S1024x11x1x256, .bf16⟩
  | .hbm, ⟨15, _⟩ => ⟨S1024x11x1x256, .bf16⟩
  | .hbm, ⟨16, _⟩ => ⟨S1024x11x2x256, .bf16⟩
  | .hbm, ⟨17, _⟩ => ⟨S1024x5632, .bf16⟩
  | .hbm, ⟨18, _⟩ => ⟨S1x2816x1024, .f32⟩
  | .hbm, ⟨19, _⟩ => ⟨S2816x1024, .f32⟩
  | .hbm, ⟨20, _⟩ => ⟨S2816x1024, .bf16⟩
  | .hbm, ⟨21, _⟩ => ⟨S16384x1024, .f32⟩
  | .hbm, ⟨22, _⟩ => ⟨S2x1x1024, .f32⟩
  | .hbm, ⟨23, _⟩ => ⟨S1x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1x1024x2816, .f32⟩
  | .hbm, ⟨25, _⟩ => ⟨S1024x2816, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S1x1024x2816, .f32⟩
  | .hbm, ⟨37, _⟩ => ⟨S1024x2816, .f32⟩
  | .hbm, ⟨38, _⟩ => ⟨S8x2048x2816, .f32⟩
  | .hbm, ⟨39, _⟩ => ⟨S8x2048x2816, .f32⟩
  | .hbm, ⟨40, _⟩ => ⟨S1x2816x1024, .f32⟩
  | .hbm, ⟨41, _⟩ => ⟨S2816x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1, .f32⟩
  | .hbm, ⟨55, _⟩ => ⟨S8x2048x1024, .f32⟩
  | .hbm, ⟨56, _⟩ => ⟨S8x2048x1024, .f32⟩
  | .hbm, ⟨57, _⟩ => ⟨S1x1x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.FfnBlock.lean ====
/-
  One block of 512 rows of the feed-forward call, read at an element: the row's own formula (`Cert.Proof.Ffn.row`) over the five
  loaded blocks.
-/
module

public import proofs.«01_k».proof.Defs
public import proofs.«01_k».proof.Proof.Gen.FfnIdeal.Value
public import Idealize.ShloMosaic.Lib.Pointwise
public import Idealize.ShloMosaic.Lib.Pipeline.ValueKit

@[expose] public section

set_option maxRecDepth 16384

noncomputable section

namespace Cert.Proof.Ffn

open Idealize.ShloMosaic Idealize.SL.Sem Cert.FfnIdeal
open Cert.FfnIdeal.Gen Idealize.ShloMosaic.TcCoe

/-- A row scaled by the inverse root of its mean square and by a weight. -/
def rms (x w : Fin 1024 → EReal) (l : Fin 1024) : EReal :=
  x l * Ideal.rsqrt (Ideal.div (∑ k : Fin 1024, x k * x k) (Ideal.ofBits .f32 0x44800000#32) + Ideal.ofBits .f32 0x358637BD#32) * w l

/-- `a · sigmoid a · b`. -/
def gate (a b : EReal) : EReal := a * Ideal.div 1 (1 + Ideal.exp (0 - a)) * b

/-- One row of the feed-forward layer, before the last norm. -/
def mid (x nw : Fin 1024 → EReal) (wg wu : Fin 1024 → Fin 2816 → EReal) (wd : Fin 2816 → Fin 1024 → EReal) (l : Fin 1024) : EReal :=
  x l + ∑ k : Fin 2816, gate (∑ j : Fin 1024, rms x nw j * wg j k) (∑ j : Fin 1024, rms x nw j * wu j k) * wd k l

/-- The column of the interleaved weight where gate column `k` stands: pieces of 256 gate columns and 256 up columns in turn. -/
def gcol (k : Fin 2816) : Fin 5632 := ⟨512 * (k.val / 256) + k.val % 256, by omega⟩
/-- The column of the interleaved weight where up column `k` stands. -/
def ucol (k : Fin 2816) : Fin 5632 := ⟨512 * (k.val / 256) + 256 + k.val % 256, by omega⟩

/-- The product with the interleaved weight. -/
theorem proj_apply (x0 : Vec Ideal S512x1024 .f32) (x1 : Vec Ideal S1x1x1024 .f32) (x2 : Vec Ideal S1024x5632 .bf16) (r : Fin 512) (k : Fin 5632) :
    k0_pay3 (F := Ideal) x0 x1 x2 (ix2 r k)
      = ∑ j : Fin 1024, rms (fun l => x0 (ix2 r l)) (fun l => x1 (ix3 0 0 l)) j * x2 (ix2 j k) := by
  pointwise [k0_pay3, k0_pay2, rms]

/-- One step along a row of joined pieces of 256 columns: column `c` lies in the first piece or in the rest. -/
theorem cat_step (r : Fin 512) (k : Fin 2816) (x : FVec Ideal S512x256 .bf16) (q : (s : Shape) × (s.Idx → EReal))
    (xs : List ((s : Shape) × (s.Idx → EReal))) (hs) (c : Nat) (hc) (v : EReal)
    (hx : ∀ j : Fin 256, j.val = c → x (ix2 r j) = v)
    (hr : 256 ≤ c → ∀ hs' hc', concatenateAt S512x2816 1 (ix2 r k) (q :: xs) hs' (c - 256) hc' = v) :
    concatenateAt S512x2816 1 (ix2 r k) (⟨S512x256, x⟩ :: q :: xs) hs c hc = v := by
  rw [concatenateAt_cons]
  split
  · rename_i h
    refine Eq.trans ?_ (hx ⟨c, by simpa using h⟩ rfl)
    pointwise
  · rename_i h
    exact hr (by simpa using h) _ _

set_option maxHeartbeats 1000000 in
/-- Eleven pieces of 256 columns side by side, each agreeing with one function of the column. -/
theorem cat_apply (p0 p1 p2 p3 p4 p5 p6 p7 p8 p9 p10 : FVec Ideal S512x256 .bf16) (A : Fin 2816 → EReal) (r : Fin 512)
    (h0 : ∀ (j : Fin 256) (k : Fin 2816), k.val = 0 + j.val → p0 (ix2 r j) = A k)
    (h1 : ∀ (j : Fin 256) (k : Fin 2816), k.val = 256 + j.val → p1 (ix2 r j) = A k)
    (h2 : ∀ (j : Fin 256) (k : Fin 2816), k.val = 512 + j.val → p2 (ix2 r j) = A k)
    (h3 : ∀ (j : Fin 256) (k : Fin 2816), k.val = 768 + j.val → p3 (ix2 r j) = A k)
    (h4 : ∀ (j : Fin 256) (k : Fin 2816), k.val = 1024 + j.val → p4 (ix2 r j) = A k)
    (h5 : ∀ (j : Fin 256) (k : Fin 2816), k.val = 1280 + j.val → p5 (ix2 r j) = A k)
    (h6 : ∀ (j : Fin 256) (k : Fin 2816), k.val = 1536 + j.val → p6 (ix2 r j) = A k)
    (h7 : ∀ (j : Fin 256) (k : Fin 2816), k.val = 1792 + j.val → p7 (ix2 r j) = A k)
    (h8 : ∀ (j : Fin 256) (k : Fin 2816), k.val = 2048 + j.val → p8 (ix2 r j) = A k)
    (h9 : ∀ (j : Fin 256) (k : Fin 2816), k.val = 2304 + j.val → p9 (ix2 r j) = A k)
    (h10 : ∀ (j : Fin 256) (k : Fin 2816), k.val = 2560 + j.val → p10 (ix2 r j) = A k)
    (hc : Shape.Concatenates [S512x256, S512x256, S512x256, S512x256, S512x256, S512x256, S512x256, S512x256, S512x256, S512x256, S512x256] S512x2816 1) (k : Fin 2816) :
    concatenate S512x2816 1 [⟨S512x256, p0⟩, ⟨S512x256, p1⟩, ⟨S512x256, p2⟩, ⟨S512x256, p3⟩, ⟨S512x256, p4⟩, ⟨S512x256, p5⟩, ⟨S512x256, p6⟩, ⟨S512x256, p7⟩, ⟨S512x256, p8⟩, ⟨S512x256, p9⟩, ⟨S512x256, p10⟩] hc (ix2 r k) = A k := by
  rw [concatenate_cons_apply]
  refine (?_ : ∀ c hc, c = k.val → concatenateAt S512x2816 1 (ix2 r k) _ _ c hc = A k) _ _ rfl
  intro c hc ec
  refine cat_step r k _ _ _ _ _ _ _ (fun j hj => h0 j k (by omega)) fun g0 _ _ => ?_
  refine cat_step r k _ _ _ _ _ _ _ (fun j hj => h1 j k (by omega)) fun g1 _ _ => ?_
  refine cat_step r k _ _ _ _ _ _ _ (fun j hj => h2 j k (by omega)) fun g2 _ _ => ?_
  refine cat_step r k _ _ _ _ _ _ _ (fun j hj => h3 j k (by omega)) fun g3 _ _ => ?_
  refine cat_step r k _ _ _ _ _ _ _ (fun j hj => h4 j k (by omega)) fun g4 _ _ => ?_
  refine cat_step r k _ _ _ _ _ _ _ (fun j hj => h5 j k (by omega)) fun g5 _ _ => ?_
  refine cat_step r k _ _ _ _ _ _ _ (fun j hj => h6 j k (by omega)) fun g6 _ _ => ?_
  refine cat_step r k _ _ _ _ _ _ _ (fun j hj => h7 j k (by omega)) fun g7 _ _ => ?_
  refine cat_step r k _ _ _ _ _ _ _ (fun j hj => h8 j k (by omega)) fun g8 _ _ => ?_
  refine cat_step r k _ _ _ _ _ _ _ (fun j hj => h9 j k (by omega)) fun g9 _ _ => ?_
  rw [concatenateAt_singleton]
  refine Eq.trans ?_ (h10 ⟨k.val - 2560, by omega⟩ k (by show k.val = 2560 + (k.val - 2560); omega))
  have e : c - 256 - 256 - 256 - 256 - 256 - 256 - 256 - 256 - 256 - 256 = k.val - 2560 := by omega
  simp only [e]
  pointwise

theorem out_apply (x0 : Vec Ideal S512x1024 .f32) (x1 : Vec Ideal S1x1x1024 .f32) (x2 : Vec Ideal S1024x5632 .bf16)
    (x3 : Vec Ideal S2816x1024 .bf16) (x4 : Vec Ideal S1x1024 .f32) (r : Fin 512) (l : Fin 1024) :
    out0_5 (F := Ideal) x0 x1 x2 x3 x4 (ix2 r l)
      = rms (mid (fun l => x0 (ix2 r l)) (fun l => x1 (ix3 0 0 l)) (fun j k => x2 (ix2 j (gcol k))) (fun j k => x2 (ix2 j (ucol k)))
          (fun k l => x3 (ix2 k l))) (fun l => x4 (ix2 0 l)) l := by
  unfold_out out0_5
  frame_out
  generalize hG : k0_pay3 (F := Ideal) x0 x1 x2 = G
  have hpiece : ∀ (q : Fin 11) (j : Fin 256) (k : Fin 2816), k.val = 256 * q.val + j.val →
      gate (G (ix2 r ⟨512 * q.val + j.val, by omega⟩)) (G (ix2 r ⟨512 * q.val + 256 + j.val, by omega⟩)) = gate (G (ix2 r (gcol k))) (G (ix2 r (ucol k))) := by
    intro q j k hk
    have e1 : (⟨512 * q.val + j.val, by omega⟩ : Fin 5632) = gcol k := Fin.ext (by simp only [gcol]; omega)
    have e2 : (⟨512 * q.val + 256 + j.val, by omega⟩ : Fin 5632) = ucol k := Fin.ext (by simp only [ucol]; omega)
    rw [e1, e2]
  unfold k0_pay1
  dsimp only
  generalize hZ : concatenate S512x2816 1 _ _ = Z
  have hz : ∀ k, Z (ix2 r k) = gate (G (ix2 r (gcol k))) (G (ix2 r (ucol k))) := by
    intro k
    rw [← hZ]
    refine cat_apply _ _ _ _ _ _ _ _ _ _ _ (fun k => gate (G (ix2 r (gcol k))) (G (ix2 r (ucol k)))) r ?_ ?_ ?_ ?_ ?_ ?_ ?_ ?_ ?_ ?_ ?_ _ k
    · intro j k hk; rw [← hpiece 0 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 1 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 2 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 3 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 4 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 5 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 6 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 7 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 8 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 9 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
    · intro j k hk; rw [← hpiece 10 j k (by simpa using hk)]; pointwise [k0_pay4, k0_pay5, k0_pay6, k0_pay7, k0_pay8, k0_pay9, k0_pay10, k0_pay11, k0_pay12, k0_pay13, k0_pay14, k0_pay15, k0_pay16, k0_pay17, k0_pay18, gate, hG]; try rfl
  have hg : ∀ k, G (ix2 r k) = ∑ j : Fin 1024, rms (fun l => x0 (ix2 r l)) (fun l => x1 (ix3 0 0 l)) j * x2 (ix2 j k) := by
    intro k; rw [← hG]; exact proj_apply x0 x1 x2 r k
  pointwise [hz, k0_pay2]
  simp only [rms, mid, hg]

end Cert.Proof.Ffn

end
-- ==== Proof.FfnRef.lean ====
/-
  The feed-forward reference, read at an element: the row's own formula over the arguments.
-/
module

public import proofs.«01_k».proof.Defs
public import proofs.«01_k».proof.Proof.Gen.FfnRefIdeal.Run
public import Idealize.ShloMosaic.Lib.Tactic.CleanTypes
public import proofs.«01_k».proof.Proof.FfnBlock

@[expose] public section

set_option maxRecDepth 16384

noncomputable section

namespace Cert.Proof.Ffn

open Idealize.ShloMosaic Idealize.SL.Sem Cert.FfnRefIdeal
open Idealize.ShloMosaic.TcCoe

/-- The whole result at row `i`, column `l`, over the six arguments: the row `i` of the batch-major rows of `h`. -/
def result (h : Fin 8 → Fin 2048 → Fin 1024 → EReal) (nf : Fin 2 → Fin 1024 → EReal) (wg wu : Fin 2 → Fin 1024 → Fin 2816 → EReal)
    (wd : Fin 2 → Fin 2816 → Fin 1024 → EReal) (fn : Fin 1024 → EReal) (i : Fin 16384) (l : Fin 1024) : EReal :=
  rms (mid (h ⟨i.val / 2048, by omega⟩ ⟨i.val % 2048, by omega⟩) (nf 1) (wg 1) (wu 1) (wd 1)) fn l

theorem ref_apply (m : (ℓ : Loc nD τ sig) → Buf (Elt Ideal) ℓ) (c : Dev nD) (i : Fin 16384) (l : Fin 1024) :
    Value.res_main_v40 m c (ix2 i l)
      = result (fun a b d => m ((c.tc : Thread nD τ).loc main_arg0) (ix3 a b d)) (fun a d => m ((c.tc : Thread nD τ).loc main_arg1) (ix2 a d))
          (fun a d e => m ((c.tc : Thread nD τ).loc main_arg2) (ix3 a d e)) (fun a d e => m ((c.tc : Thread nD τ).loc main_arg3) (ix3 a d e))
          (fun a d e => m ((c.tc : Thread nD τ).loc main_arg4) (ix3 a d e)) (fun d => m ((c.tc : Thread nD τ).loc main_arg5) (ix1 d)) i l := by
  unfold Value.res_main_v40
  clean_types
  pointwise
  simp only [result, rms, mid, gate, zero_sub]

end Cert.Proof.Ffn

end
-- ==== Proof.FfnValue.lean ====
/-
  The feed-forward kernel's result array, read at an element: the row's own formula over the arguments.
-/
module

public import proofs.«01_k».proof.Defs
public import proofs.«01_k».proof.Proof.Gen.FfnIdeal.Value
public import proofs.«01_k».proof.Proof.FfnRef

@[expose] public section

set_option maxRecDepth 16384

noncomputable section

namespace Cert.Proof.Ffn

open Idealize.ShloMosaic Idealize.SL.Sem Cert.FfnIdeal Cert.FfnIdeal.Gen
open Idealize.ShloMosaic.TcCoe

variable (m : (ℓ : Loc nD τ sig) → Buf (Elt Ideal) ℓ)

/-! ## Where each window's block lies -/

theorem at_rows : ∀ t : Fin cfg0.N, win0_0.index t = ![t.val, 0] := (by decide +kernel : ∀ t : Fin grid0.N, win0_0.index t = ![t.val, 0])

theorem at_norm : ∀ t : Fin cfg0.N, win0_1.index t = ![1, 0, 0] := (by decide +kernel : ∀ t : Fin grid0.N, win0_1.index t = ![1, 0, 0])

theorem at_up : ∀ t : Fin cfg0.N, win0_2.index t = ![0, 0] := (by decide +kernel : ∀ t : Fin grid0.N, win0_2.index t = ![0, 0])

theorem at_down : ∀ t : Fin cfg0.N, win0_3.index t = ![0, 0] := (by decide +kernel : ∀ t : Fin grid0.N, win0_3.index t = ![0, 0])

theorem at_fin : ∀ t : Fin cfg0.N, win0_4.index t = ![0, 0] := (by decide +kernel : ∀ t : Fin grid0.N, win0_4.index t = ![0, 0])

theorem at_out : ∀ t : Fin cfg0.N, win0_5.index t = ![t.val, 0] := (by decide +kernel : ∀ t : Fin grid0.N, win0_5.index t = ![t.val, 0])

theorem emb_rows (t : Fin cfg0.N) (r : Fin 512) (l : Fin 1024) :
    (win0_0.blk t).view.emb (ix2 r l) = ix2 (⟨512 * t.val + r.val, by have : t.val < 32 := t.isLt; omega⟩ : Fin 16384) l := by
  blk_ext [at_rows]

theorem emb_norm (t : Fin cfg0.N) (l : Fin 1024) :
    (win0_1.blk t).view.emb (ix3 0 0 l) = ix3 (1 : Fin 2) (0 : Fin 1) l := by
  blk_ext [at_norm]

theorem emb_up (t : Fin cfg0.N) (j : Fin 1024) (k : Fin 5632) : (win0_2.blk t).view.emb (ix2 j k) = ix2 j k := by
  blk_ext [at_up]

theorem emb_down (t : Fin cfg0.N) (k : Fin 2816) (l : Fin 1024) : (win0_3.blk t).view.emb (ix2 k l) = ix2 k l := by
  blk_ext [at_down]

theorem emb_fin (t : Fin cfg0.N) (l : Fin 1024) : (win0_4.blk t).view.emb (ix2 0 l) = ix2 (0 : Fin 1) l := by
  blk_ext [at_fin]

theorem emb_out (t : Fin cfg0.N) (r : Fin 512) (l : Fin 1024) :
    (win0_5.blk t).view.emb (ix2 r l) = ix2 (⟨512 * t.val + r.val, by have : t.val < 32 := t.isLt; omega⟩ : Fin 16384) l := by
  blk_ext [at_out]

/-! ## What the body reads, over the arguments -/

theorem rows_read (c : Dev nD) (t : Fin cfg0.N) (r : Fin 512) (l : Fin 1024) :
    iblk m c 0 t (ix2 r l) = m ((c.tc : Thread nD τ).loc main_arg0)
      (ix3 (⟨(512 * t.val + r.val) / 2048, by have : t.val < 32 := t.isLt; omega⟩ : Fin 8) ⟨(512 * t.val + r.val) % 2048, by omega⟩ l) := by
  unfold iblk
  entry_read
  blk_simp
  rw [emb_rows]
  pointwise

theorem norm_read (c : Dev nD) (t : Fin cfg0.N) (l : Fin 1024) :
    iblk m c 1 t (ix3 0 0 l) = m ((c.tc : Thread nD τ).loc main_arg1) (ix2 1 l) := by
  unfold iblk
  entry_read
  blk_simp
  rw [emb_norm]
  pointwise

theorem gate_read (c : Dev nD) (t : Fin cfg0.N) (j : Fin 1024) (k : Fin 2816) :
    iblk m c 2 t (ix2 j (gcol k)) = m ((c.tc : Thread nD τ).loc main_arg2) (ix3 1 j k) := by
  unfold iblk
  entry_read
  blk_simp
  rw [emb_up]
  unfold gcol
  pointwise
  have hk : ((512 * (k.val / 256) + k.val % 256) / 256) % 2 < 1 := by omega
  rw [dif_pos hk]
  exact congrArg (fun q => m ((c.tc : Thread nD τ).loc main_arg2) (ix3 1 j q)) (Fin.ext (by dsimp only; omega))

theorem up_read (c : Dev nD) (t : Fin cfg0.N) (j : Fin 1024) (k : Fin 2816) :
    iblk m c 2 t (ix2 j (ucol k)) = m ((c.tc : Thread nD τ).loc main_arg3) (ix3 1 j k) := by
  unfold iblk
  entry_read
  blk_simp
  rw [emb_up]
  unfold ucol
  pointwise
  have hk : ¬ ((512 * (k.val / 256) + 256 + k.val % 256) / 256) % 2 < 1 := by omega
  rw [dif_neg hk]
  exact congrArg (fun q => m ((c.tc : Thread nD τ).loc main_arg3) (ix3 1 j q)) (Fin.ext (by dsimp only; omega))

theorem down_read (c : Dev nD) (t : Fin cfg0.N) (k : Fin 2816) (l : Fin 1024) :
    iblk m c 3 t (ix2 k l) = m ((c.tc : Thread nD τ).loc main_arg4) (ix3 1 k l) := by
  unfold iblk
  entry_read
  blk_simp
  rw [emb_down]
  pointwise

theorem fin_read (c : Dev nD) (t : Fin cfg0.N) (l : Fin 1024) :
    iblk m c 4 t (ix2 0 l) = m ((c.tc : Thread nD τ).loc main_arg5) (ix1 l) := by
  unfold iblk
  entry_read
  blk_simp
  rw [emb_fin]
  pointwise

/-! ## The result array -/

theorem array_eq (c : Dev nD) :
    (dats m 0 c).arrAt 5 cfg0.N = fun i : S16384x1024.Idx =>
      result (fun a b d => m ((c.tc : Thread nD τ).loc main_arg0) (ix3 a b d)) (fun a d => m ((c.tc : Thread nD τ).loc main_arg1) (ix2 a d))
          (fun a d e => m ((c.tc : Thread nD τ).loc main_arg2) (ix3 a d e)) (fun a d e => m ((c.tc : Thread nD τ).loc main_arg3) (ix3 a d e))
          (fun a d e => m ((c.tc : Thread nD τ).loc main_arg4) (ix3 a d e)) (fun d => m ((c.tc : Thread nD τ).loc main_arg5) (ix1 d)) (i 0) (i 1) := by
  refine (dats m 0 c).arrAt_eq_of_covers 5 _ (by decide +kernel) fun t hf y => ?_
  blk_simp
  rw [after0_5]
  idx_vars y
  change _ = result _ _ _ _ _ _ ((win0_5.blk t).view.emb (ix2 y0 y1) 0) ((win0_5.blk t).view.emb (ix2 y0 y1) 1)
  rw [emb_out, out_apply]
  simp only [rows_read, norm_read, gate_read, up_read, down_read, fin_read]
  rfl

end Cert.Proof.Ffn

end
-- ==== Proof.MixTile.lean ====
/-
  One tile of the mixer (4 sequences of 128 positions), written as the kernel computes it but rolled up: one definition per
  step, over the block of 64 rows, the head pair, the column tile. The generated values of the unrolled body are these.
-/
module

public import proofs.«01_k».proof.Defs
public import proofs.«01_k».proof.Proof.Gen.KernelIdeal.Skeleton

@[expose] public section

set_option maxRecDepth 16384

noncomputable section

namespace Cert.Proof.Mixer

open Idealize.ShloMosaic Idealize.SL.Sem Cert.KernelIdeal Cert.KernelIdeal.Gen

variable {φ : FTy}

abbrev V (s : Shape) := FVec Ideal s .f32
abbrev H (s : Shape) := FVec Ideal s .bf16

/-- The value of a float word. -/
abbrev kf (w : BitVec 32) : Ideal .f32 := Scalar.ofBits .f32 w

/-- The kernel's folded product of gelu's two constants. -/
abbrev cubic : Ideal .f32 := Named.named κ "gelu_cubic" 0x3D122279#32

/-! ## Projection and short convolution -/

def xT (x : V S4x128x1024) : V S512x1024 := shapeCast S512x1024 x shapeCasts_S4x128x1024_S512x1024

def projT (x : V S4x128x1024) (nrm : V S1x1x1024) (w : H S1024x3200) : V S512x3200 := k0_pay7 x nrm w

theorem col_ok : ∀ c : Fin 25, S512x3200.Slices ![0, 128 * c.val] S512x128 := by decide

/-- Column tile `c` of the projection. -/
def colT (P : V S512x3200) (c : Fin 25) : V S512x128 := extractStridedSlice S512x128 ![0, 128 * c.val] P (col_ok c)

def zT (P : V S512x3200) : V S512x512 :=
  shapeCast S512x512 (extractStridedSlice S512x512 ![0, 2688] P slices_S512x3200_o0_2688_S512x512) shapeCasts_S512x512_S512x512

def curT (P : V S512x3200) (j : Fin 12) : V S4x128x128 :=
  shapeCast S4x128x128 (colT P ⟨j.val, by omega⟩) shapeCasts_S512x128_S4x128x128

/-- The stored piece of the projection's history. -/
def preT (P : V S512x3200) (j : Fin 12) : V S1x4x128x128 := shapeCast S1x4x128x128 (curT P j) shapeCasts_S4x128x128_S1x4x128x128

def cwT (w : V S1x1x128) : V S4x128x128 :=
  broadcastTo S4x128x128 (shapeCast S1x1x128 (shapeCast S1x128 w shapeCasts_S1x1x128_S1x128) shapeCasts_S1x128_S1x1x128)
    broadcasts_S1x1x128_S4x128x128

def shT (h : V S1x4x128x128) : V S4x128x128 := shapeCast S4x128x128 h shapeCasts_S1x4x128x128_S4x128x128

def accT (cur : V S4x128x128) (h1 h2 h3 : V S1x4x128x128) (w3 w2 w1 w0 : V S1x1x128) : V S4x128x128 :=
  addf (addf (addf (mulf cur (cwT w3)) (mulf (shT h1) (cwT w2))) (mulf (shT h2) (cwT w1))) (mulf (shT h3) (cwT w0))

def siluT {s : Shape} (x : V s) : V s :=
  mulf x (divf (broadcast s (kf 0x3F800000#32)) (addf (broadcast s (kf 0x3F800000#32)) (exp (subf (broadcast s (kf 0x00000000#32)) x))))

def convT (acc : V S4x128x128) : V S512x128 := shapeCast S512x128 (siluT acc) shapeCasts_S4x128x128_S512x128

def l2T (y : V S512x128) : V S512x128 :=
  mulf y (broadcastTo S512x128 (rsqrt (addf (shapeCast S512x1 (multiReduction .add [1] S512 (mulf y y) 0x00000000#32 reduces_S512x128_S512
    (.inl rfl) rfl) shapeCasts_S512_S512x1) (broadcast S512x1 (kf 0x358637BD#32)))) broadcasts_S512x1_S512x128)

def sameT (y : V S512x128) : V S512x128 := shapeCast S512x128 y shapeCasts_S512x128_S512x128

def qT (acc : V S4x128x128) : V S512x128 := sameT (mulf (l2T (convT acc)) (broadcast S512x128 (kf 0x3DB504F3#32)))
def kT (acc : V S4x128x128) : V S512x128 := sameT (l2T (convT acc))
def vT (acc : V S4x128x128) : V S512x128 := sameT (convT acc)

/-! ## gMLP -/

def geluT (x : V S512x128) : V S512x128 :=
  mulf (mulf (broadcast S512x128 (kf 0x3F000000#32)) x)
    (addf (broadcast S512x128 (kf 0x3F800000#32))
      (tanh (mulf x (addf (broadcast S512x128 (kf 0x3F4C422A#32)) (mulf (broadcast S512x128 cubic) (mulf x x))))))

def ugT (P : V S512x3200) (g : Fin 4) : V S512x128 := sameT (geluT (colT P ⟨g.val + 13, by omega⟩))

def meanT (x : V S512x128) : V S512x1 :=
  divf (shapeCast S512x1 (multiReduction .add [1] S512 x 0x00000000#32 reduces_S512x128_S512 (.inl rfl) rfl) shapeCasts_S512_S512x1)
    (broadcast S512x1 (kf 0x43000000#32))

def rsT (x : V S512x1) : V S512x128 := broadcastTo S512x128 (rsqrt (addf x (broadcast S512x1 (kf 0x358637BD#32)))) broadcasts_S512x1_S512x128

def rowT (g : V S1x1x128) : V S512x128 := broadcastTo S512x128 (shapeCast S1x128 g shapeCasts_S1x1x128_S1x128) broadcasts_S1x128_S512x128

def ctrT (x : V S512x128) : V S512x128 := subf x (broadcastTo S512x128 (meanT x) broadcasts_S512x1_S512x128)

def lnT (x : V S512x128) (g b : V S1x1x128) : V S512x128 :=
  addf (mulf (mulf (ctrT x) (rsT (meanT (mulf (ctrT x) (ctrT x))))) (rowT g)) (rowT b)

def vlnT (P : V S512x3200) (g : Fin 4) (lg lb : V S1x1x128) : V S512x128 :=
  sameT (lnT (geluT (colT P ⟨g.val + 17, by omega⟩)) lg lb)

def wsT (ws : V S1x1x128x128) : H S128x128 :=
  truncf .bf16 (select (cmpi .sge (iota .tc S128x128 32 [0] iota_S128x128_d0_w32) (iota .tc S128x128 32 [1] iota_S128x128_d1_w32))
    (shapeCast S128x128 ws shapeCasts_S1x1x128x128_S128x128) (broadcast S128x128 (kf 0x00000000#32))) bitsLt_bf16_f32

def gmT (ws bs : V S1x1x128x128) (ug vln : V S128x128) : H S128x128 :=
  truncf .bf16 (mulf ug (addf (matmul dot_S128x128_S128x128_S128x128_1_0_0_1_n_n none (wsT ws) (truncf .bf16 vln bitsLt_bf16_f32)
    (constant S128x128 .f32 0x00000000#32)) (shapeCast S128x128 bs shapeCasts_S1x1x128x128_S128x128))) bitsLt_bf16_f32

def gmRowsT (ws bs : V S1x1x128x128) (ug vln : Fin 4 → V S128x128) : H S512x128 :=
  concatenate S512x128 0 [⟨S128x128, gmT ws bs (ug 0) (vln 0)⟩, ⟨S128x128, gmT ws bs (ug 1) (vln 1)⟩, ⟨S128x128, gmT ws bs (ug 2) (vln 2)⟩,
    ⟨S128x128, gmT ws bs (ug 3) (vln 3)⟩] concatenates_S128x128_S128x128_S128x128_S128x128_S512x128_d0

/-- A product with 256 rows of the output projection. -/
def mergeT (a b : H S512x128) (wo : H S256x1024) : V S512x1024 :=
  matmul dot_S512x256_S256x1024_S512x1024_1_0_0_1_n_n none
    (concatenate S512x256 1 [⟨S512x128, a⟩, ⟨S512x128, b⟩] concatenates_S512x128_S512x128_S512x256_d1)
    (shapeCast S256x1024 wo shapeCasts_S256x1024_S256x1024) (constant S512x1024 .f32 0x00000000#32)

/-! ## Gates -/

def gpreT (P : V S512x3200) (alog dtb : V S1x1x128) : V S512x128 :=
  let a := addf (colT P 12) (rowT dtb)
  mulf (broadcastTo S512x128 (subf (broadcast S1x128 (kf 0x00000000#32)) (exp (shapeCast S1x128 alog shapeCasts_S1x1x128_S1x128)))
      broadcasts_S1x128_S512x128)
    (addf (maximumf a (broadcast S512x128 (kf 0x00000000#32)))
      (log (addf (broadcast S512x128 (kf 0x3F800000#32)) (exp (subf (broadcast S512x128 (kf 0x00000000#32)) (absf a))))))

def posT : IVec S512x128 32 := andi (iota .tc S512x128 32 [0] iota_S512x128_d0_w32) (broadcast S512x128 63#32)

def stepT (n : BitVec 32) (g : V S512x128) : V S512x128 :=
  addf g (select (cmpi .sge posT (broadcast S512x128 n)) (dynamicRotate 0 n none g rotates_S512x128_d0) (broadcast S512x128 (kf 0x00000000#32)))

def csumT (g : V S512x128) : V S512x128 := stepT 32#32 (stepT 16#32 (stepT 8#32 (stepT 4#32 (stepT 2#32 (stepT 1#32 g)))))

def gatesT (P : V S512x3200) (alog dtb : V S1x1x128) : V S512x128 :=
  select (cmpi .slt (iota .tc S512x128 32 [1] iota_S512x128_d1_w32) (broadcast S512x128 4#32))
    (divf (broadcast S512x128 (kf 0x3F800000#32)) (addf (broadcast S512x128 (kf 0x3F800000#32))
      (exp (subf (broadcast S512x128 (kf 0x00000000#32)) (colT P 12)))))
    (csumT (gpreT P alog dtb))

/-! ## Masks -/

def piT : IVec S512x256 32 := andi (iota .tc S512x256 32 [0] iota_S512x256_d0_w32) (broadcast S512x256 63#32)
def pjT : IVec S512x256 32 := andi (iota .tc S512x256 32 [1] iota_S512x256_d1_w32) (broadcast S512x256 63#32)
def inclT : IVec S512x256 1 := cmpi .sge piT pjT
def strictT : IVec S512x256 1 := cmpi .sgt piT pjT
def eyeT : V S512x256 := select (cmpi .eq piT pjT) (broadcast S512x256 (kf 0x3F800000#32)) (broadcast S512x256 (kf 0x00000000#32))
def mmatT : IVec S256x256 1 :=
  cmpi .eq (shrsi (iota .tc S256x256 32 [0] iota_S256x256_d0_w32) (broadcast S256x256 6#32))
    (shrsi (iota .tc S256x256 32 [1] iota_S256x256_d1_w32) (broadcast S256x256 6#32))
def mheadT : IVec S256x512 1 :=
  cmpi .eq (shrsi (iota .tc S256x512 32 [0] iota_S256x512_d0_w32) (broadcast S256x512 6#32))
    (shrsi (iota .tc S256x512 32 [1] iota_S256x512_d1_w32) (broadcast S256x512 7#32))
def mpairT : IVec S256x256 1 :=
  cmpi .eq (shrsi (iota .tc S256x256 32 [0] iota_S256x256_d0_w32) (broadcast S256x256 7#32))
    (shrsi (iota .tc S256x256 32 [1] iota_S256x256_d1_w32) (broadcast S256x256 7#32))

/-! ## Rows and columns of the gates -/

theorem bc_ok : ∀ c : Fin 8, S512x128.Slices ![0, c.val] S512x1 := by decide

def bcT (G : V S512x128) (c : Fin 8) : V S512x128 :=
  broadcastTo S512x128 (shapeCast S512x1 (extractStridedSlice S512x1 ![0, c.val] G (bc_ok c)) shapeCasts_S512x1_S512x1) broadcasts_S512x1_S512x128

def lowT : IVec S512x128 1 := cmpi .slt (iota .tc S512x128 32 [1] iota_S512x128_d1_w32) (broadcast S512x128 64#32)

def colsT (a b c d : V S512x128) : V S512x256 :=
  concatenate S512x256 1 [⟨S512x128, select lowT a b⟩, ⟨S512x128, select lowT c d⟩] concatenates_S512x128_S512x128_S512x256_d1

def bcolT (G : V S512x128) : V S512x256 := colsT (bcT G 0) (bcT G 1) (bcT G 2) (bcT G 3)
def gcolT (G : V S512x128) : V S512x256 := colsT (bcT G 4) (bcT G 5) (bcT G 6) (bcT G 7)
def gwideT (G : V S512x128) : V S512x512 :=
  concatenate S512x512 1 [⟨S512x128, bcT G 4⟩, ⟨S512x128, bcT G 5⟩, ⟨S512x128, bcT G 6⟩, ⟨S512x128, bcT G 7⟩]
    concatenates_S512x128_S512x128_S512x128_S512x128_S512x512_d1

def lowrT : IVec S1x128 1 := cmpi .slt (iota .tc S1x128 32 [1] iota_S1x128_d1_w32) (broadcast S1x128 64#32)

theorem gt_ok : ∀ b : Fin 4, S512x128.Slices ![128 * b.val, 0] S128x128 := by decide
theorem r8_ok : ∀ c : Fin 8, S8x128.Slices ![c.val, 0] S1x128 := by decide

def gtT (G : V S512x128) (b : Fin 4) : V S8x128 :=
  extractStridedSlice S8x128 ![0, 0] (transpose S128x128 [1, 0] (extractStridedSlice S128x128 ![128 * b.val, 0] G (gt_ok b))
    transposes_S128x128_p1_0_S128x128) slices_S128x128_o0_0_S8x128

def gsT (G : V S512x128) (b : Fin 4) : V S8x128 := dynamicRotate 1 64#32 none (gtT G b) rotates_S8x128_d1

def pickT (lo hi : V S8x128) (c d : Fin 8) : V S1x128 :=
  select lowrT (extractStridedSlice S1x128 ![c.val, 0] lo (r8_ok c)) (extractStridedSlice S1x128 ![d.val, 0] hi (r8_ok d))

def prowT (lo hi : V S8x128) (a b c d : Fin 8) : V S64x256 :=
  broadcastTo S64x256 (shapeCast S1x256 (concatenate S1x256 1 [⟨S1x128, pickT lo hi a b⟩, ⟨S1x128, pickT lo hi c d⟩]
    concatenates_S1x128_S1x128_S1x256_d1) shapeCasts_S1x256_S1x256) broadcasts_S1x256_S64x256

/-- Eight blocks of 64 rows, one under the other. -/
def cat8 (f : Fin 8 → FVec Ideal S64x256 φ) : FVec Ideal S512x256 φ :=
  concatenate S512x256 0 [⟨S64x256, f 0⟩, ⟨S64x256, f 1⟩, ⟨S64x256, f 2⟩, ⟨S64x256, f 3⟩, ⟨S64x256, f 4⟩, ⟨S64x256, f 5⟩, ⟨S64x256, f 6⟩,
    ⟨S64x256, f 7⟩] concatenates_S64x256_S64x256_S64x256_S64x256_S64x256_S64x256_S64x256_S64x256_S512x256_d0

def cat8w (f : Fin 8 → FVec Ideal S64x512 φ) : FVec Ideal S512x512 φ :=
  concatenate S512x512 0 [⟨S64x512, f 0⟩, ⟨S64x512, f 1⟩, ⟨S64x512, f 2⟩, ⟨S64x512, f 3⟩, ⟨S64x512, f 4⟩, ⟨S64x512, f 5⟩, ⟨S64x512, f 6⟩,
    ⟨S64x512, f 7⟩] concatenates_S64x512_S64x512_S64x512_S64x512_S64x512_S64x512_S64x512_S64x512_S512x512_d0

def browT (G : V S512x128) : V S512x256 :=
  cat8 fun r => if r.val % 2 = 0 then prowT (gtT G ⟨r.val / 2, by omega⟩) (gsT G ⟨r.val / 2, by omega⟩) 0 1 2 3
    else prowT (gsT G ⟨r.val / 2, by omega⟩) (gtT G ⟨r.val / 2, by omega⟩) 0 1 2 3

def growT (G : V S512x128) : V S512x256 :=
  cat8 fun r => if r.val % 2 = 0 then prowT (gtT G ⟨r.val / 2, by omega⟩) (gsT G ⟨r.val / 2, by omega⟩) 4 5 6 7
    else prowT (gsT G ⟨r.val / 2, by omega⟩) (gtT G ⟨r.val / 2, by omega⟩) 4 5 6 7

def decayT (G : V S512x128) : V S512x256 :=
  select inclT (exp (select inclT (subf (gcolT G) (growT G)) (broadcast S512x256 (kf 0x00000000#32)))) (broadcast S512x256 (kf 0x00000000#32))

/-! ## Blocks -/

theorem blk_ok : ∀ r : Fin 8, S512x256.Slices ![64 * r.val, 0] S64x256 := by decide
theorem blkw_ok : ∀ r : Fin 8, S512x512.Slices ![64 * r.val, 0] S64x512 := by decide

def blk (x : FVec Ideal S512x256 φ) (r : Fin 8) : FVec Ideal S64x256 φ := extractStridedSlice S64x256 ![64 * r.val, 0] x (blk_ok r)
def blkw (x : FVec Ideal S512x512 φ) (r : Fin 8) : FVec Ideal S64x512 φ := extractStridedSlice S64x512 ![64 * r.val, 0] x (blkw_ok r)

abbrev zero16 : Ideal .bf16 := Scalar.truncf .bf16 bitsLt_bf16_f32 (kf 0x00000000#32)

/-- The block-diagonal arrangement of one block of 64 rows by heads. -/
def headT (b : H S64x512) : H S256x512 :=
  select mheadT (concatenate S256x512 0 [⟨S64x512, b⟩, ⟨S64x512, b⟩, ⟨S64x512, b⟩, ⟨S64x512, b⟩]
    concatenates_S64x512_S64x512_S64x512_S64x512_S256x512_d0) (broadcast S256x512 zero16)

def matT (b : H S64x256) : H S256x256 :=
  select mmatT (concatenate S256x256 0 [⟨S64x256, b⟩, ⟨S64x256, b⟩, ⟨S64x256, b⟩, ⟨S64x256, b⟩]
    concatenates_S64x256_S64x256_S64x256_S64x256_S256x256_d0) (broadcast S256x256 zero16)

def kqT (q k : H S512x512) (r : Fin 8) : V S128x256 :=
  matmul dot_S128x512_S256x512_S128x256_1_1_0_0_n_n none
    (concatenate S128x512 0 [⟨S64x512, blkw k r⟩, ⟨S64x512, blkw q r⟩] concatenates_S64x512_S64x512_S128x512_d0)
    (headT (blkw k r)) (constant S128x256 .f32 0x00000000#32)

def topT (x : V S128x256) : V S64x256 := extractStridedSlice S64x256 ![0, 0] x slices_S128x256_o0_0_S64x256
def botT (x : V S128x256) : V S64x256 := extractStridedSlice S64x256 ![64, 0] x slices_S128x256_o64_0_S64x256

abbrev t16 {s : Shape} (x : V s) : H s := truncf .bf16 x bitsLt_bf16_f32

def kkT (q k : H S512x512) : V S512x256 := cat8 fun r => topT (kqT q k r)
def qkT (q k : H S512x512) : V S512x256 := cat8 fun r => botT (kqT q k r)

def amatT (G : V S512x128) (q k : H S512x512) : V S512x256 :=
  select strictT (mulf (mulf (kkT q k) (bcolT G)) (decayT G)) (broadcast S512x256 (kf 0x00000000#32))

def qk16T (G : V S512x128) (q k : H S512x512) : H S512x256 := t16 (mulf (qkT q k) (decayT G))

/-! ## The inverse -/

def times1 (l x : H S512x256) : V S512x256 :=
  cat8 fun r => matmul dot_S64x256_S256x256_S64x256_1_0_0_1_n_n none (blk l r) (matT (blk x r)) (constant S64x256 .f32 0x00000000#32)

def stack (a b : H S64x256) : H S128x256 :=
  concatenate S128x256 0 [⟨S64x256, a⟩, ⟨S64x256, b⟩] concatenates_S64x256_S64x256_S128x256_d0

def times2 (l l' x : H S512x256) (r : Fin 8) : V S128x256 :=
  matmul dot_S128x256_S256x256_S128x256_1_0_0_1_n_n none (stack (blk l r) (blk l' r)) (matT (blk x r)) (constant S128x256 .f32 0x00000000#32)

/-- One doubling: the square of the power, and the inverse with its next factor. -/
def dblT (s : V S512x256 × V S512x256) : V S512x256 × V S512x256 :=
  (cat8 fun r => topT (times2 (t16 s.1) (t16 s.2) (t16 s.1) r),
   addf s.2 (cat8 fun r => botT (times2 (t16 s.1) (t16 s.2) (t16 s.1) r)))

def negT (a : V S512x256) : V S512x256 := subf (broadcast S512x256 (kf 0x00000000#32)) a

def inv1T (a : V S512x256) : V S512x256 × V S512x256 := (times1 (t16 (negT a)) (t16 (negT a)), addf eyeT (negT a))

def inv5T (a : V S512x256) : V S512x256 × V S512x256 := dblT (dblT (dblT (dblT (inv1T a))))

def invT (a : V S512x256) : V S512x256 :=
  addf (inv5T a).2 (times1 (t16 (inv5T a).2) (t16 (inv5T a).1))

/-! ## What the state recursion reads -/

def invbT (G : V S512x128) (inv : V S512x256) : V S512x256 := mulf inv (browT G)

def uT (G : V S512x128) (inv : V S512x256) (v : H S512x512) : V S512x512 :=
  cat8w fun r => matmul dot_S64x256_S256x512_S64x512_1_0_0_1_n_n none (blk (t16 (invbT G inv)) r) (headT (blkw v r)) (constant S64x512 .f32 0x00000000#32)

def w16T (G : V S512x128) (inv : V S512x256) (k : H S512x512) : H S512x512 :=
  t16 (cat8w fun r => matmul dot_S64x256_S256x512_S64x512_1_0_0_1_n_n none (blk (t16 (mulf (invbT G inv) (exp (growT G)))) r) (headT (blkw k r))
    (constant S64x512 .f32 0x00000000#32))

def qg16T (G : V S512x128) (q : V S512x512) : H S512x512 := t16 (mulf q (exp (gwideT G)))

def glastT (G : V S512x128) : V S512x512 :=
  cat8w fun r => broadcastTo S64x512 (shapeCast S1x512 (extractStridedSlice S1x512 ![63, 0] (blkw (gwideT G) r) slices_S64x512_o63_0_S1x512)
    shapeCasts_S1x512_S1x512) broadcasts_S1x512_S64x512

def kd16T (G : V S512x128) (k : V S512x512) : H S512x512 := t16 (mulf k (exp (subf (glastT G) (gwideT G))))

def sdecayT (G : V S512x128) : V S512x512 := exp (glastT G)

/-! ## The state recursion -/

theorem half_ok : ∀ p : Fin 2, S64x512.Slices ![0, 256 * p.val] S64x256 := by decide
theorem half1_ok : ∀ p : Fin 2, S64x512.Slices ![0, 256 * p.val] S1x256 := by decide

def half (x : FVec Ideal S64x512 φ) (p : Fin 2) : FVec Ideal S64x256 φ := extractStridedSlice S64x256 ![0, 256 * p.val] x (half_ok p)

def joinT (f : Fin 2 → V S64x256) : V S64x512 := concatenate S64x512 1 [⟨S64x256, f 0⟩, ⟨S64x256, f 1⟩] concatenates_S64x256_S64x256_S64x512_d1

def sT (s : V S1x256x256) : V S256x256 := shapeCast S256x256 s shapeCasts_S1x256x256_S256x256

def wqT (w qg : H S64x512) (s : V S256x256) (p : Fin 2) : V S128x256 :=
  matmul dot_S128x256_S256x256_S128x256_1_0_0_1_n_n none (stack (half w p) (half qg p)) (t16 s) (constant S128x256 .f32 0x00000000#32)

/-- The chunk's corrected values. -/
def vnT (u : V S64x512) (w qg : H S64x512) (s : Fin 2 → V S256x256) : H S64x512 :=
  t16 (joinT fun p => subf (half u p) (topT (wqT w qg (s p) p)))

def oT (u : V S64x512) (w qg : H S64x512) (qk : H S64x256) (s : Fin 2 → V S256x256) : V S64x512 :=
  addf (joinT fun p => botT (wqT w qg (s p) p))
    (matmul dot_S64x256_S256x512_S64x512_1_0_0_1_n_n none qk (headT (vnT u w qg s)) (constant S64x512 .f32 0x00000000#32))

def updT (kd vn : H S64x512) (sd : V S64x512) (s : V S256x256) (p : Fin 2) : V S256x256 :=
  addf (mulf s (broadcastTo S256x256 (extractStridedSlice S1x256 ![0, 256 * p.val] sd (half1_ok p)) broadcasts_S1x256_S256x256))
    (select mpairT (matmul dot_S64x256_S64x256_S256x256_0_0_1_1_n_n none (half kd p) (half vn p) (constant S256x256 .f32 0x00000000#32))
      (broadcast S256x256 (kf 0x00000000#32)))

def stT (s : V S256x256) : V S1x256x256 := shapeCast S1x256x256 s shapeCasts_S256x256_S1x256x256

/-! ## The output -/

theorem oh_ok : ∀ h : Fin 4, S512x512.Slices ![0, 128 * h.val] S512x128 := by decide

def ohT (o : V S512x512) (h : Fin 4) : V S512x128 := extractStridedSlice S512x128 ![0, 128 * h.val] o (oh_ok h)

def headOutT (o : V S512x512) (h : Fin 4) (ong : V S1x1x128) (z : V S512x128) : H S512x128 :=
  t16 (mulf (mulf (mulf (ohT o h) (rsT (meanT (mulf (ohT o h) (ohT o h))))) (rowT ong)) (siluT z))

def outT (x : V S512x1024) (y : V S512x1024) (o : V S512x512) (ong : V S1x1x128) (z : Fin 4 → V S512x128) (wo : Fin 2 → H S256x1024) :
    V S4x128x1024 :=
  shapeCast S4x128x1024 (addf x (addf (addf y (mergeT (headOutT o 0 ong (z 0)) (headOutT o 1 ong (z 1)) (wo 0)))
    (mergeT (headOutT o 2 ong (z 2)) (headOutT o 3 ong (z 3)) (wo 1)))) shapeCasts_S512x1024_S4x128x1024

end Cert.Proof.Mixer

end
-- ==== Proof.MixRun.lean ====
/-
  One grid step of the mixer as a machine over the pieces its scratch buffers hold: the lists of stores the run leaves are the ones
  built here, and what it loads is read off them.
-/
module

public import proofs.«01_k».proof.Defs
public import proofs.«01_k».proof.Proof.MixTile
public import proofs.«01_k».proof.Proof.Gen.KernelIdeal.Frame

@[expose] public section

set_option maxRecDepth 16384

noncomputable section

namespace Cert.Proof.Mixer

open Idealize.ShloMosaic Idealize.SL.Sem Cert.KernelIdeal Cert.KernelIdeal.Gen

abbrev Pc (s : Shape) := View.Piece (Elt Ideal) s .f32
abbrev M (s : Shape) := Memref sig .tc .vmem s .f32

/-! ## Rectangles -/

theorem rP_ok : ∀ j : Fin 12, ∀ a, (![j.val, 0, 8, 0] : Fin 4 → Nat) a + S1x4x128x128.size a ≤ S12x4x136x128.size a := by decide
theorem rH_ok : ∀ j : Fin 12, ∀ s : Fin 3, ∀ a, (![j.val, 0, 7 - s.val, 0] : Fin 4 → Nat) a + S1x4x128x128.size a ≤ S12x4x136x128.size a := by
  decide
theorem rQ_ok : ∀ j : Fin 12, ∀ a, (![0, 128 * j.val] : Fin 2 → Nat) a + S512x128.size a ≤ S512x1536.size a := by decide
theorem rW_ok : ∀ j : Fin 3, ∀ a, (![0, 512 * j.val] : Fin 2 → Nat) a + S512x512.size a ≤ S512x1536.size a := by decide
theorem rC_ok : ∀ j : Fin 4, ∀ a, (![0, 128 * j.val] : Fin 2 → Nat) a + S512x128.size a ≤ S512x512.size a := by decide
theorem rB_ok : ∀ b g : Fin 4, ∀ a, (![128 * b.val, 128 * g.val] : Fin 2 → Nat) a + S128x128.size a ≤ S512x512.size a := by decide
theorem rS_ok : ∀ j : Fin 8, ∀ a, (![j.val, 0, 0] : Fin 3 → Nat) a + S1x256x256.size a ≤ S8x256x256.size a := by decide

abbrev rP (j : Fin 12) : Rect S12x4x136x128 := Rect.unit ![j.val, 0, 8, 0] S1x4x128x128.size (rP_ok j)
abbrev rH (j : Fin 12) (s : Fin 3) : Rect S12x4x136x128 := Rect.unit ![j.val, 0, 7 - s.val, 0] S1x4x128x128.size (rH_ok j s)
abbrev rTop : Rect S12x4x136x128 := Rect.unit ![0, 0, 0, 0] S12x4x8x128.size inb_S12x4x136x128_S12x4x8x128_0_0_0_0
abbrev rEnd : Rect S12x4x136x128 := Rect.unit ![0, 0, 128, 0] S12x4x8x128.size inb_S12x4x136x128_S12x4x8x128_0_0_128_0
abbrev rQ (j : Fin 12) : Rect S512x1536 := Rect.unit ![0, 128 * j.val] S512x128.size (rQ_ok j)
abbrev rW (j : Fin 3) : Rect S512x1536 := Rect.unit ![0, 512 * j.val] S512x512.size (rW_ok j)
abbrev rC (j : Fin 4) : Rect S512x512 := Rect.unit ![0, 128 * j.val] S512x128.size (rC_ok j)
abbrev rB (b g : Fin 4) : Rect S512x512 := Rect.unit ![128 * b.val, 128 * g.val] S128x128.size (rB_ok b g)
abbrev rS (j : Fin 8) : Rect S8x256x256 := Rect.unit ![j.val, 0, 0] S1x256x256.size (rS_ok j)

/-- What the step reads: its blocks, and what its two carried scratch buffers held. -/
structure Env where
  x : Fin 2 → V S4x128x1024
  nrm : V S1x1x1024
  w : H S1024x3200
  cw : Fin 12 → Fin 4 → V S1x1x128
  alog : V S1x1x128
  dtb : V S1x1x128
  ong : V S1x1x128
  lg : Fin 4 → V S1x1x128
  lb : Fin 4 → V S1x1x128
  ws : Fin 4 → V S1x1x128x128
  bs : Fin 4 → V S1x1x128x128
  wo : Fin 4 → H S256x1024
  rdH : Fin 2 → List (Pc S12x4x136x128) → Fin 12 → Fin 3 → V S1x4x128x128
  rdE : List (Pc S12x4x136x128) → V S12x4x8x128
  rdS : Fin 2 → Nat → List (Pc S8x256x256) → Fin 8 → V S1x256x256
  m21 : M S512x1536
  m22 : M S512x512
  m23 : M S512x512
  m24 : M S512x512

/-- The pieces the scratch buffers hold between two tiles. -/
structure St where
  pre : List (Pc S12x4x136x128)
  qkv : List (Pc S512x1536)
  z : List (Pc S512x512)
  ug : List (Pc S512x512)
  vln : List (Pc S512x512)
  sp : List (Pc S8x256x256)

namespace Env

variable (E : Env) (t : Fin 2) (s : St)

def P : V S512x3200 := projT (E.x t) E.nrm E.w

def preL : Nat → List (Pc S12x4x136x128)
  | 0 => s.pre
  | n + 1 => ⟨rP (Fin.ofNat 12 n), preT (E.P t) (Fin.ofNat 12 n)⟩ :: preL n

def acc (j : Fin 12) : V S4x128x128 :=
  accT (curT (E.P t) j) (E.rdH t (E.preL t s (j.val + 1)) j 0) (E.rdH t (E.preL t s (j.val + 1)) j 1) (E.rdH t (E.preL t s (j.val + 1)) j 2)
    (E.cw j 3) (E.cw j 2) (E.cw j 1) (E.cw j 0)

def qkvV (j : Fin 12) : V S512x128 :=
  if j.val < 4 then qT (E.acc t s j) else if j.val < 8 then kT (E.acc t s j) else vT (E.acc t s j)

def qkvL : Nat → List (Pc S512x1536)
  | 0 => s.qkv
  | n + 1 => ⟨rQ (Fin.ofNat 12 n), E.qkvV t s (Fin.ofNat 12 n)⟩ :: qkvL n

def preE : List (Pc S12x4x136x128) :=
  ⟨rTop, shapeCast S12x4x8x128 (E.rdE (E.preL t s 12)) shapeCasts_S12x4x8x128_S12x4x8x128⟩ :: E.preL t s 12

def zL : List (Pc S512x512) := ⟨Rect.unit ![0, 0] S512x512.size inb_S512x512_S512x512_0_0, zT (E.P t)⟩ :: s.z

def ugL : Nat → List (Pc S512x512)
  | 0 => s.ug
  | n + 1 => ⟨rC (Fin.ofNat 4 n), ugT (E.P t) (Fin.ofNat 4 n)⟩ :: ugL n

def vlnL : Nat → List (Pc S512x512)
  | 0 => s.vln
  | n + 1 => ⟨rC (Fin.ofNat 4 n), vlnT (E.P t) (Fin.ofNat 4 n) (E.lg (Fin.ofNat 4 n)) (E.lb (Fin.ofNat 4 n))⟩ :: vlnL n

def gm (g : Fin 4) : H S512x128 :=
  gmRowsT (E.ws g) (E.bs g) (fun b => E.m23.view.readCov (E.ugL t s 4) (rB b g).toLoadRect)
    (fun b => E.m24.view.readCov (E.vlnL t s 4) (rB b g).toLoadRect)

def y : V S512x1024 := addf (mergeT (E.gm t s 0) (E.gm t s 1) (E.wo 2)) (mergeT (E.gm t s 2) (E.gm t s 3) (E.wo 3))

def G : V S512x128 := gatesT (E.P t) E.alog E.dtb

def q : V S512x512 := E.m21.view.readCov (E.qkvL t s 12) (rW 0).toLoadRect
def k : V S512x512 := E.m21.view.readCov (E.qkvL t s 12) (rW 1).toLoadRect
def v : V S512x512 := E.m21.view.readCov (E.qkvL t s 12) (rW 2).toLoadRect

def inv : V S512x256 := invT (amatT (E.G t) (t16 (E.q t s)) (t16 (E.k t s)))
def u : V S512x512 := uT (E.G t) (E.inv t s) (t16 (E.v t s))
def w16 : H S512x512 := w16T (E.G t) (E.inv t s) (t16 (E.k t s))
def qg : H S512x512 := qg16T (E.G t) (E.q t s)
def kd : H S512x512 := kd16T (E.G t) (E.k t s)
def sd : V S512x512 := sdecayT (E.G t)
def qk : H S512x256 := qk16T (E.G t) (t16 (E.q t s)) (t16 (E.k t s))

def sOld (n : Nat) (L : List (Pc S8x256x256)) (b : Fin 4) (p : Fin 2) : V S256x256 := sT (E.rdS t n L ⟨2 * b.val + p.val, by omega⟩)

/-- The block of rows of chunk `n / 4` of sequence `n % 4`. -/
abbrev rn (n : Nat) : Fin 8 := ⟨2 * (n % 4) + n / 4 % 2, by omega⟩

def upd (L : List (Pc S8x256x256)) (n : Nat) (p : Fin 2) : V S1x256x256 :=
  stT (updT (blkw (E.kd t s) (rn n)) (vnT (blkw (E.u t s) (rn n)) (blkw (E.w16 t s) (rn n)) (blkw (E.qg t s) (rn n)) (E.sOld t n L (Fin.ofNat 4 n)))
    (blkw (E.sd t) (rn n)) (E.sOld t n L (Fin.ofNat 4 n) p) p)

def spL : Nat → List (Pc S8x256x256)
  | 0 => s.sp
  | n + 1 => ⟨rS ⟨2 * (n % 4) + 1, by omega⟩, E.upd t s (spL n) n 1⟩ :: ⟨rS ⟨2 * (n % 4), by omega⟩, E.upd t s (spL n) n 0⟩ :: spL n

def o : V S512x512 :=
  cat8w fun r => oT (blkw (E.u t s) r) (blkw (E.w16 t s) r) (blkw (E.qg t s) r) (blk (E.qk t s) r)
    (E.sOld t (4 * (r.val % 2) + r.val / 2) (E.spL t s (4 * (r.val % 2) + r.val / 2)) ⟨r.val / 2, by omega⟩)

def out : V S4x128x1024 :=
  outT (xT (E.x t)) (E.y t s) (E.o t s) E.ong (fun h => E.m22.view.readCov (E.zL t s) (rC h).toLoadRect) (fun p => E.wo ⟨p.val, by omega⟩)

def next : St := ⟨E.preE t s, E.qkvL t s 12, E.zL t s, E.ugL t s 4, E.vlnL t s 4, E.spL t s 8⟩

end Env

section Tie

variable (c : Dev nD) (i : grid0.Coords) (arg2 : Memref sig .tc .vmem S4x256x1024 .f32) (harg2 : arg2.IsWhole)
  (arg3 : Memref sig .tc .vmem S1x1x1024 .f32) (harg3 : arg3.IsWhole) (arg4 : Memref sig .tc .vmem S1024x3200 .bf16)
  (harg4 : arg4.IsWhole) (arg5 : Memref sig .tc .vmem S1x4x1536 .f32) (harg5 : arg5.IsWhole)
  (arg6 : Memref sig .tc .vmem S1x1x128 .f32) (harg6 : arg6.IsWhole) (arg7 : Memref sig .tc .vmem S1x1x128 .f32)
  (harg7 : arg7.IsWhole) (arg8 : Memref sig .tc .vmem S1x1x128 .f32) (harg8 : arg8.IsWhole)
  (arg9 : Memref sig .tc .vmem S1x1x512 .f32) (harg9 : arg9.IsWhole) (arg10 : Memref sig .tc .vmem S1x1x512 .f32)
  (harg10 : arg10.IsWhole) (arg11 : Memref sig .tc .vmem S1x4x128x128 .f32) (harg11 : arg11.IsWhole)
  (arg12 : Memref sig .tc .vmem S1x4x128x128 .f32) (harg12 : arg12.IsWhole)
  (arg13 : Memref sig .tc .vmem S1024x1024 .bf16) (harg13 : arg13.IsWhole)
  (arg14 : Memref sig .tc .vmem S1x64x2816 .f32) (harg14 : arg14.IsWhole) (arg15 : Memref sig .tc .vmem S1x64x2816 .f32)
  (harg15 : arg15.IsWhole) (arg16 : Memref sig .tc .vmem S1x176x1024 .f32) (harg16 : arg16.IsWhole)
  (arg17 : Memref sig .tc .vmem S4x256x1024 .f32) (harg17 : arg17.IsWhole) (arg18 : Memref sig .tc .vmem S64x5632 .bf16)
  (harg18 : arg18.IsWhole) (arg19 : Memref sig .tc .vmem S176x1024 .bf16) (harg19 : arg19.IsWhole)
  (arg20 : Memref sig .tc .vmem S12x4x136x128 .f32) (harg20 : arg20.IsWhole)
  (arg21 : Memref sig .tc .vmem S512x1536 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x512 .f32) (harg24 : arg24.IsWhole) (arg25 : Memref sig .tc .vmem S8x256x256 .f32)
  (harg25 : arg25.IsWhole)
  (x0 : Vec Ideal S4x256x1024 .f32) (x1 : Vec Ideal S1x1x1024 .f32) (x2 : Vec Ideal S1024x3200 .bf16)
  (x3 : Vec Ideal S1x4x1536 .f32) (x4 : Vec Ideal S1x1x128 .f32) (x5 : Vec Ideal S1x1x128 .f32)
  (x6 : Vec Ideal S1x1x128 .f32) (x7 : Vec Ideal S1x1x512 .f32) (x8 : Vec Ideal S1x1x512 .f32)
  (x9 : Vec Ideal S1x4x128x128 .f32) (x10 : Vec Ideal S1x4x128x128 .f32) (x11 : Vec Ideal S1024x1024 .bf16)
  (x12 : Vec Ideal S1x64x2816 .f32) (x13 : Vec Ideal S1x64x2816 .f32) (x14 : Vec Ideal S1x176x1024 .f32)

theorem ldX_ok : ∀ t : Fin 2, ∀ a, (![0, 128 * t.val, 0] : Fin 3 → Nat) a + S4x128x1024.size a ≤ S4x256x1024.size a := by decide
theorem ldC_ok : ∀ j : Fin 12, ∀ k : Fin 4, ∀ a, (![0, k.val, 128 * j.val] : Fin 3 → Nat) a + S1x1x128.size a ≤ S1x4x1536.size a := by decide
theorem ldL_ok : ∀ g : Fin 4, ∀ a, (![0, 0, 128 * g.val] : Fin 3 → Nat) a + S1x1x128.size a ≤ S1x1x512.size a := by decide
theorem ldW_ok : ∀ g : Fin 4, ∀ a, (![0, g.val, 0, 0] : Fin 4 → Nat) a + S1x1x128x128.size a ≤ S1x4x128x128.size a := by decide
theorem ldO_ok : ∀ p : Fin 4, ∀ a, (![256 * p.val, 0] : Fin 2 → Nat) a + S256x1024.size a ≤ S1024x1024.size a := by decide

/-- What a step reads, from its blocks and the two ways of reading the carried scratch. -/
def env (rdH : Fin 2 → List (Pc S12x4x136x128) → Fin 12 → Fin 3 → V S1x4x128x128)
    (rdS : Fin 2 → Nat → List (Pc S8x256x256) → Fin 8 → V S1x256x256) : Env where
  x t := View.readAt (Elt Ideal) arg2.view (Rect.unit (s := S4x256x1024) ![0, 128 * t.val, 0] S4x128x1024.size (ldX_ok t)).toLoadRect (harg2.unread x0)
  nrm := View.readAt (Elt Ideal) arg3.view (Rect.unit ![0, 0, 0] S1x1x1024.size inb_S1x1x1024_S1x1x1024_0_0_0).toLoadRect (harg3.unread x1)
  w := View.readAt (Elt Ideal) arg4.view (Rect.unit ![0, 0] S1024x3200.size inb_S1024x3200_S1024x3200_0_0).toLoadRect (harg4.unread x2)
  cw j k := View.readAt (Elt Ideal) arg5.view (Rect.unit (s := S1x4x1536) ![0, k.val, 128 * j.val] S1x1x128.size (ldC_ok j k)).toLoadRect (harg5.unread x3)
  alog := View.readAt (Elt Ideal) arg6.view (Rect.unit ![0, 0, 0] S1x1x128.size inb_S1x1x128_S1x1x128_0_0_0).toLoadRect (harg6.unread x4)
  dtb := View.readAt (Elt Ideal) arg7.view (Rect.unit ![0, 0, 0] S1x1x128.size inb_S1x1x128_S1x1x128_0_0_0).toLoadRect (harg7.unread x5)
  ong := View.readAt (Elt Ideal) arg8.view (Rect.unit ![0, 0, 0] S1x1x128.size inb_S1x1x128_S1x1x128_0_0_0).toLoadRect (harg8.unread x6)
  lg g := View.readAt (Elt Ideal) arg9.view (Rect.unit (s := S1x1x512) ![0, 0, 128 * g.val] S1x1x128.size (ldL_ok g)).toLoadRect (harg9.unread x7)
  lb g := View.readAt (Elt Ideal) arg10.view (Rect.unit (s := S1x1x512) ![0, 0, 128 * g.val] S1x1x128.size (ldL_ok g)).toLoadRect (harg10.unread x8)
  ws g := View.readAt (Elt Ideal) arg11.view (Rect.unit (s := S1x4x128x128) ![0, g.val, 0, 0] S1x1x128x128.size (ldW_ok g)).toLoadRect (harg11.unread x9)
  bs g := View.readAt (Elt Ideal) arg12.view (Rect.unit (s := S1x4x128x128) ![0, g.val, 0, 0] S1x1x128x128.size (ldW_ok g)).toLoadRect (harg12.unread x10)
  wo p := View.readAt (Elt Ideal) arg13.view (Rect.unit (s := S1024x1024) ![256 * p.val, 0] S256x1024.size (ldO_ok p)).toLoadRect (harg13.unread x11)
  rdH := rdH
  rdE L := arg20.view.readCov L rEnd.toLoadRect
  rdS := rdS
  m21 := arg21
  m22 := arg22
  m23 := arg23
  m24 := arg24

def envA : Env :=
  env arg2 harg2 arg3 harg3 arg4 harg4 arg5 harg5 arg6 harg6 arg7 harg7 arg8 harg8 arg9 harg9 arg10 harg10 arg11 harg11 arg12 harg12
    arg13 harg13 arg20 arg21 arg22 arg23 arg24 x0 x1 x2 x3 x4 x5 x6 x7 x8 x9 x10 x11
    (fun _ L j s => arg20.view.readCov L (rH j s).toLoadRect) (fun _ _ L j => arg25.view.readCov L (rS j).toLoadRect)

def stA : St where
  pre := [⟨rTop, k0_pay5 (F := Ideal)⟩]
  qkv := []
  z := []
  ug := []
  vln := []
  sp := [⟨Rect.unit ![0, 0, 0] S8x256x256.size inb_S8x256x256_S8x256x256_0_0_0, k0_pay4 (F := Ideal)⟩]

theorem runA_out (hc0 : cond0_0 i) :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14).1 =
      (let E := envA arg2 harg2 arg3 harg3 arg4 harg4 arg5 harg5 arg6 harg6 arg7 harg7 arg8 harg8 arg9 harg9 arg10 harg10 arg11 harg11 arg12
        harg12 arg13 harg13 arg20 arg21 arg22 arg23 arg24 arg25 x0 x1 x2 x3 x4 x5 x6 x7 x8 x9 x10 x11
      [⟨Rect.unit (s := S4x256x1024) ![0, 128, 0] S4x128x1024.size inb_S4x256x1024_S4x128x1024_0_128_0, E.out 1 (E.next 0 stA)⟩,
       ⟨Rect.unit (s := S4x256x1024) ![0, 0, 0] S4x128x1024.size inb_S4x256x1024_S4x128x1024_0_0_0, E.out 0 stA⟩]) := by
  sl_kernel_rfl

theorem runA_pre (hc0 : cond0_0 i) :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14).2.2.2.1 =
      (let E := envA arg2 harg2 arg3 harg3 arg4 harg4 arg5 harg5 arg6 harg6 arg7 harg7 arg8 harg8 arg9 harg9 arg10 harg10 arg11 harg11 arg12
        harg12 arg13 harg13 arg20 arg21 arg22 arg23 arg24 arg25 x0 x1 x2 x3 x4 x5 x6 x7 x8 x9 x10 x11
      (E.next 1 (E.next 0 stA)).pre) := by
  sl_kernel_rfl

theorem runA_sp (hc0 : cond0_0 i) :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14).2.2.2.2.1 =
      (let E := envA arg2 harg2 arg3 harg3 arg4 harg4 arg5 harg5 arg6 harg6 arg7 harg7 arg8 harg8 arg9 harg9 arg10 harg10 arg11 harg11 arg12
        harg12 arg13 harg13 arg20 arg21 arg22 arg23 arg24 arg25 x0 x1 x2 x3 x4 x5 x6 x7 x8 x9 x10 x11
      (E.next 1 (E.next 0 stA)).sp) := by
  sl_kernel_rfl

variable (xs0 : Vec Ideal S12x4x136x128 .f32) (xs5 : Vec Ideal S8x256x256 .f32)

def envB : Env :=
  env arg2 harg2 arg3 harg3 arg4 harg4 arg5 harg5 arg6 harg6 arg7 harg7 arg8 harg8 arg9 harg9 arg10 harg10 arg11 harg11 arg12 harg12
    arg13 harg13 arg20 arg21 arg22 arg23 arg24 x0 x1 x2 x3 x4 x5 x6 x7 x8 x9 x10 x11
    (fun t L j s => if t.val = 0 then View.readAt (Elt Ideal) arg20.view (rH j s).toLoadRect (arg20.view.writes (Elt Ideal) (harg20.unread xs0) L)
      else arg20.view.readCov L (rH j s).toLoadRect)
    (fun t n L j => if t.val = 0 ∧ n < 4 then View.readAt (Elt Ideal) arg25.view (rS j).toLoadRect (harg25.unread xs5)
      else arg25.view.readCov L (rS j).toLoadRect)

def stB : St where
  pre := []
  qkv := []
  z := []
  ug := []
  vln := []
  sp := []

theorem runB_out (hc0 : ¬cond0_0 i) :
    (kernelRun0_B c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14 xs0 xs5).1 =
      (let E := envB arg2 harg2 arg3 harg3 arg4 harg4 arg5 harg5 arg6 harg6 arg7 harg7 arg8 harg8 arg9 harg9 arg10 harg10 arg11 harg11 arg12
        harg12 arg13 harg13 arg20 harg20 arg21 arg22 arg23 arg24 arg25 harg25 x0 x1 x2 x3 x4 x5 x6 x7 x8 x9 x10 x11 xs0 xs5
      [⟨Rect.unit (s := S4x256x1024) ![0, 128, 0] S4x128x1024.size inb_S4x256x1024_S4x128x1024_0_128_0, E.out 1 (E.next 0 stB)⟩,
       ⟨Rect.unit (s := S4x256x1024) ![0, 0, 0] S4x128x1024.size inb_S4x256x1024_S4x128x1024_0_0_0, E.out 0 stB⟩]) := by
  sl_kernel_rfl

theorem runB_pre (hc0 : ¬cond0_0 i) :
    (kernelRun0_B c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14 xs0 xs5).2.2.2.1 =
      (let E := envB arg2 harg2 arg3 harg3 arg4 harg4 arg5 harg5 arg6 harg6 arg7 harg7 arg8 harg8 arg9 harg9 arg10 harg10 arg11 harg11 arg12
        harg12 arg13 harg13 arg20 harg20 arg21 arg22 arg23 arg24 arg25 harg25 x0 x1 x2 x3 x4 x5 x6 x7 x8 x9 x10 x11 xs0 xs5
      (E.next 1 (E.next 0 stB)).pre) := by
  sl_kernel_rfl

theorem runB_sp (hc0 : ¬cond0_0 i) :
    (kernelRun0_B c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14 xs0 xs5).2.2.2.2.1 =
      (let E := envB arg2 harg2 arg3 harg3 arg4 harg4 arg5 harg5 arg6 harg6 arg7 harg7 arg8 harg8 arg9 harg9 arg10 harg10 arg11 harg11 arg12
        harg12 arg13 harg13 arg20 harg20 arg21 arg22 arg23 arg24 arg25 harg25 x0 x1 x2 x3 x4 x5 x6 x7 x8 x9 x10 x11 xs0 xs5
      (E.next 1 (E.next 0 stB)).sp) := by
  sl_kernel_rfl

end Tie

end Cert.Proof.Mixer

end
-- ==== Proof.MixIdx.lean ====
/-
  The mixer tile's block arithmetic, read at an index: row `i` of block `r`, column `j` of head `h`.
-/
module

public import proofs.«01_k».proof.Proof.MixTile
public import Idealize.ShloMosaic.Lib.Pipeline.ValueKit

@[expose] public section

set_option maxRecDepth 16384

noncomputable section

namespace Cert.Proof.Mixer

open Idealize.ShloMosaic Idealize.SL.Sem Cert.KernelIdeal Cert.KernelIdeal.Gen

variable {φ : FTy}

/-- Row `i` of block `r`. -/
abbrev row (r : Fin 8) (i : Fin 64) : Fin 512 := ⟨r.val * 64 + i.val, by omega⟩
/-- Column `j` of head `h`, 64 columns to a head. -/
abbrev c4 (h : Fin 4) (j : Fin 64) : Fin 256 := ⟨h.val * 64 + j.val, by omega⟩
/-- Column `d` of head `h`, 128 columns to a head. -/
abbrev w4 (h : Fin 4) (d : Fin 128) : Fin 512 := ⟨h.val * 128 + d.val, by omega⟩

/-! ## Masked sums -/

theorem sum_c4 (f g : Fin 256 → EReal) (h : Fin 4) :
    ∑ n : Fin 256, f n * (if n.val / 64 = h.val then g n else 0) = ∑ j : Fin 64, f (c4 h j) * g (c4 h j) := by
  rw [Fin.sum_univ_tiles 4 64 rfl, Finset.sum_eq_single h]
  · exact Finset.sum_congr rfl fun j _ => by rw [if_pos (by show (h.val * 64 + j.val) / 64 = h.val; omega)]
  · intro h' _ hne
    refine Finset.sum_eq_zero fun j _ => ?_
    rw [if_neg (by show ¬(h'.val * 64 + j.val) / 64 = h.val; have := Fin.val_ne_of_ne hne; omega), mul_zero]
  · exact fun h' => absurd (Finset.mem_univ _) h'

theorem sum_w4 (f g : Fin 512 → EReal) (h : Fin 4) :
    ∑ n : Fin 512, f n * (if h.val = n.val / 128 then g n else 0) = ∑ d : Fin 128, f (w4 h d) * g (w4 h d) := by
  rw [Fin.sum_univ_tiles 4 128 rfl, Finset.sum_eq_single h]
  · exact Finset.sum_congr rfl fun j _ => by rw [if_pos (by show h.val = (h.val * 128 + j.val) / 128; omega)]
  · intro h' _ hne
    refine Finset.sum_eq_zero fun j _ => ?_
    rw [if_neg (by show ¬h.val = (h'.val * 128 + j.val) / 128; have := Fin.val_ne_of_ne hne; omega), mul_zero]
  · exact fun h' => absurd (Finset.mem_univ _) h'

/-! ## Words -/

theorem shr6 : ∀ i : Fin 256, IntOp.shrsi .vector (BitVec.ofNat 32 i.val) 6#32 = BitVec.ofNat 32 (i.val / 64) := by decide +kernel
theorem shr6w : ∀ i : Fin 512, IntOp.shrsi .vector (BitVec.ofNat 32 i.val) 6#32 = BitVec.ofNat 32 (i.val / 64) := by decide +kernel
theorem shr7 : ∀ i : Fin 512, IntOp.shrsi .vector (BitVec.ofNat 32 i.val) 7#32 = BitVec.ofNat 32 (i.val / 128) := by decide +kernel
theorem and63 : ∀ i : Fin 512, IntOp.andi (BitVec.ofNat 32 i.val) 63#32 = BitVec.ofNat 32 (i.val % 64) := by decide +kernel
theorem eq8 : ∀ a b : Fin 8, IntOp.cmpi .eq (BitVec.ofNat 32 a.val) (BitVec.ofNat 32 b.val) = if a.val = b.val then 1#1 else 0#1 := by decide +kernel
theorem eq64 : ∀ a b : Fin 64, IntOp.cmpi .eq (BitVec.ofNat 32 a.val) (BitVec.ofNat 32 b.val) = if a.val = b.val then 1#1 else 0#1 := by decide +kernel
theorem sge64 : ∀ a b : Fin 64, IntOp.cmpi .sge (BitVec.ofNat 32 a.val) (BitVec.ofNat 32 b.val) = if b.val ≤ a.val then 1#1 else 0#1 := by decide +kernel
theorem sgt64 : ∀ a b : Fin 64, IntOp.cmpi .sgt (BitVec.ofNat 32 a.val) (BitVec.ofNat 32 b.val) = if b.val < a.val then 1#1 else 0#1 := by decide +kernel
theorem slt4 : ∀ a : Fin 128, IntOp.cmpi .slt (BitVec.ofNat 32 a.val) 4#32 = if a.val < 4 then 1#1 else 0#1 := by decide +kernel
theorem slt64 : ∀ a : Fin 128, IntOp.cmpi .slt (BitVec.ofNat 32 a.val) 64#32 = if a.val < 64 then 1#1 else 0#1 := by decide +kernel

theorem sel_ite {p : Prop} [Decidable p] (x y : EReal) : Scalar.select (if p then 1#1 else 0#1) x y = if p then x else y := by
  by_cases h : p <;> simp [h, Scalar.select]

/-! ## Blocks -/

theorem cat8_apply (f : Fin 8 → FVec Ideal S64x256 φ) (r : Fin 8) (i : Fin 64) (c : Fin 256) : cat8 f (ix2 (row r i) c) = f r (ix2 i c) :=
  concatenate_ofFn_apply (t := S512x256) (s₁ := S64x256) 0 f concatenates_S64x256_S64x256_S64x256_S64x256_S64x256_S64x256_S64x256_S64x256_S512x256_d0
    rfl 64 rfl (ix2 (row r i) c) r (show (r.val * 64 + i.val) / 64 = r.val by omega) (ix2 i c)
    (show i.val = (r.val * 64 + i.val) % 64 by omega) (fun b hb => by
      match b, hb with
      | 0, hb => exact absurd rfl hb
      | 1, _ => rfl)

theorem cat8w_apply (f : Fin 8 → FVec Ideal S64x512 φ) (r : Fin 8) (i : Fin 64) (c : Fin 512) : cat8w f (ix2 (row r i) c) = f r (ix2 i c) :=
  concatenate_ofFn_apply (t := S512x512) (s₁ := S64x512) 0 f concatenates_S64x512_S64x512_S64x512_S64x512_S64x512_S64x512_S64x512_S64x512_S512x512_d0
    rfl 64 rfl (ix2 (row r i) c) r (show (r.val * 64 + i.val) / 64 = r.val by omega) (ix2 i c)
    (show i.val = (r.val * 64 + i.val) % 64 by omega) (fun b hb => by
      match b, hb with
      | 0, hb => exact absurd rfl hb
      | 1, _ => rfl)

theorem blk_apply (x : FVec Ideal S512x256 φ) (r : Fin 8) (i : Fin 64) (c : Fin 256) : blk x r (ix2 i c) = x (ix2 (row r i) c) := by
  unfold blk
  pointwise
  congr 2
  ext; show 64 * r.val + i.val = r.val * 64 + i.val; omega

theorem blkw_apply (x : FVec Ideal S512x512 φ) (r : Fin 8) (i : Fin 64) (c : Fin 512) : blkw x r (ix2 i c) = x (ix2 (row r i) c) := by
  unfold blkw
  pointwise
  congr 2
  ext; show 64 * r.val + i.val = r.val * 64 + i.val; omega

theorem rep4 (b : H S64x512) (n : Fin 256) (c : Fin 512) :
    concatenate S256x512 0 [⟨S64x512, b⟩, ⟨S64x512, b⟩, ⟨S64x512, b⟩, ⟨S64x512, b⟩]
    concatenates_S64x512_S64x512_S64x512_S64x512_S256x512_d0 (ix2 n c) = b (ix2 ⟨n.val % 64, by omega⟩ c) :=
  concatenate_replicate_apply (t := S256x512) (s₁ := S64x512) 0 4 b concatenates_S64x512_S64x512_S64x512_S64x512_S256x512_d0 rfl (ix2 n c) _
    rfl (fun b hb => by
      match b, hb with
      | 0, hb => exact absurd rfl hb
      | 1, _ => rfl)

theorem rep4m (b : H S64x256) (n : Fin 256) (c : Fin 256) :
    concatenate S256x256 0 [⟨S64x256, b⟩, ⟨S64x256, b⟩, ⟨S64x256, b⟩, ⟨S64x256, b⟩]
    concatenates_S64x256_S64x256_S64x256_S64x256_S256x256_d0 (ix2 n c) = b (ix2 ⟨n.val % 64, by omega⟩ c) :=
  concatenate_replicate_apply (t := S256x256) (s₁ := S64x256) 0 4 b concatenates_S64x256_S64x256_S64x256_S64x256_S256x256_d0 rfl (ix2 n c) _
    rfl (fun b hb => by
      match b, hb with
      | 0, hb => exact absurd rfl hb
      | 1, _ => rfl)

theorem zero16_eq : (zero16 : Ideal .bf16) = (0 : EReal) := by
  show Ideal.ofBits .f32 0x00000000#32 = 0
  exact Ideal.ofBits_zero_f32

theorem headT_apply (b : H S64x512) (n : Fin 256) (c : Fin 512) :
    headT b (ix2 n c) = if n.val / 64 = c.val / 128 then b (ix2 ⟨n.val % 64, by omega⟩ c) else (0 : EReal) := by
  unfold headT mheadT
  pointwise
  rw [shr6 n, shr7 c, eq8 ⟨n.val / 64, by omega⟩ ⟨c.val / 128, by omega⟩, sel_ite]
  refine if_congr Iff.rfl ?_ rfl
  split_ifs <;> congr 2 <;> (try ext) <;> simp only [] <;> omega

theorem matT_apply (b : H S64x256) (n : Fin 256) (c : Fin 256) :
    matT b (ix2 n c) = if n.val / 64 = c.val / 64 then b (ix2 ⟨n.val % 64, by omega⟩ c) else (0 : EReal) := by
  unfold matT mmatT
  pointwise
  rw [shr6 n, shr6 c, eq8 ⟨n.val / 64, by omega⟩ ⟨c.val / 64, by omega⟩, sel_ite]
  refine if_congr Iff.rfl ?_ rfl
  split_ifs <;> congr 2 <;> (try ext) <;> simp only [] <;> omega

theorem mpair_apply (n c : Fin 256) (x y : EReal) :
    Scalar.select (mpairT (ix2 n c)) x y = if n.val / 128 = c.val / 128 then x else y := by
  unfold mpairT
  pointwise
  rw [shr7 ⟨n.val, by omega⟩, shr7 ⟨c.val, by omega⟩, eq8 ⟨n.val / 128, by omega⟩ ⟨c.val / 128, by omega⟩, sel_ite]

/-! ## Products -/

theorem kk_apply (q k : H S512x512) (r : Fin 8) (i : Fin 64) (h : Fin 4) (j : Fin 64) :
    kkT q k (ix2 (row r i) (c4 h j)) = ∑ d : Fin 128, k (ix2 (row r i) (w4 h d)) * k (ix2 (row r j) (w4 h d)) := by
  unfold kkT
  rw [cat8_apply]
  unfold topT kqT
  pointwise
  simp only [headT_apply, blkw_apply]
  rw [show (h.val * 64 + j.val) / 64 = h.val by omega]
  refine (sum_w4 _ _ h).trans ?_
  refine Finset.sum_congr rfl fun d _ => ?_
  congr 3
  ext; show r.val * 64 + (h.val * 64 + j.val) % 64 = r.val * 64 + j.val; omega

theorem qk_apply (q k : H S512x512) (r : Fin 8) (i : Fin 64) (h : Fin 4) (j : Fin 64) :
    qkT q k (ix2 (row r i) (c4 h j)) = ∑ d : Fin 128, q (ix2 (row r i) (w4 h d)) * k (ix2 (row r j) (w4 h d)) := by
  unfold qkT
  rw [cat8_apply]
  unfold botT kqT
  pointwise
  simp only [headT_apply, blkw_apply]
  rw [show (h.val * 64 + j.val) / 64 = h.val by omega]
  refine (sum_w4 _ _ h).trans ?_
  refine Finset.sum_congr rfl fun d _ => ?_
  congr 3
  ext; show r.val * 64 + (h.val * 64 + j.val) % 64 = r.val * 64 + j.val; omega

theorem times1_apply (l x : H S512x256) (r : Fin 8) (i : Fin 64) (h : Fin 4) (j : Fin 64) :
    times1 l x (ix2 (row r i) (c4 h j)) = ∑ n : Fin 64, l (ix2 (row r i) (c4 h n)) * x (ix2 (row r n) (c4 h j)) := by
  unfold times1
  rw [cat8_apply]
  pointwise
  simp only [matT_apply, blk_apply]
  rw [show (h.val * 64 + j.val) / 64 = h.val by omega]
  refine (sum_c4 _ _ h).trans ?_
  refine Finset.sum_congr rfl fun d _ => ?_
  congr 3
  ext; show r.val * 64 + (h.val * 64 + d.val) % 64 = r.val * 64 + d.val; omega

theorem times2_top (l l' x : H S512x256) (r : Fin 8) (i : Fin 64) (h : Fin 4) (j : Fin 64) :
    topT (times2 l l' x r) (ix2 i (c4 h j)) = ∑ n : Fin 64, l (ix2 (row r i) (c4 h n)) * x (ix2 (row r n) (c4 h j)) := by
  unfold topT times2 stack
  pointwise
  simp only [matT_apply, blk_apply]
  rw [show (h.val * 64 + j.val) / 64 = h.val by omega]
  refine (sum_c4 _ _ h).trans ?_
  refine Finset.sum_congr rfl fun d _ => ?_
  congr 3
  ext; show r.val * 64 + (h.val * 64 + d.val) % 64 = r.val * 64 + d.val; omega

theorem times2_bot (l l' x : H S512x256) (r : Fin 8) (i : Fin 64) (h : Fin 4) (j : Fin 64) :
    botT (times2 l l' x r) (ix2 i (c4 h j)) = ∑ n : Fin 64, l' (ix2 (row r i) (c4 h n)) * x (ix2 (row r n) (c4 h j)) := by
  unfold botT times2 stack
  pointwise
  simp only [matT_apply, blk_apply]
  rw [show (h.val * 64 + j.val) / 64 = h.val by omega]
  refine (sum_c4 _ _ h).trans ?_
  refine Finset.sum_congr rfl fun d _ => ?_
  congr 3
  ext; show r.val * 64 + (h.val * 64 + d.val) % 64 = r.val * 64 + d.val; omega

/-- A 64×256 block times a block of rows arranged by heads. -/
theorem times_head (l : H S64x256) (b : H S64x512) (i : Fin 64) (h : Fin 4) (d : Fin 128) :
    matmul dot_S64x256_S256x512_S64x512_1_0_0_1_n_n none l (headT b) (constant S64x512 .f32 0x00000000#32) (ix2 i (w4 h d))
      = ∑ n : Fin 64, l (ix2 i (c4 h n)) * b (ix2 n (w4 h d)) := by
  pointwise
  simp only [headT_apply]
  rw [show (h.val * 128 + d.val) / 128 = h.val by omega]
  refine (sum_c4 _ _ h).trans ?_
  refine Finset.sum_congr rfl fun n _ => ?_
  congr 3
  ext; show (h.val * 64 + n.val) % 64 = n.val; omega

/-! ## Gates -/

theorem bc_apply (G : V S512x128) (c : Fin 8) (m : Fin 512) (l : Fin 128) : bcT G c (ix2 m l) = G (ix2 m ⟨c.val, by omega⟩) := by
  unfold bcT
  pointwise

theorem gwide_apply (G : V S512x128) (m : Fin 512) (h : Fin 4) (d : Fin 128) : gwideT G (ix2 m (w4 h d)) = G (ix2 m ⟨4 + h.val, by omega⟩) := by
  have e := concatenate_ofFn_apply (t := S512x512) (s₁ := S512x128) 1 (fun n : Fin 4 => bcT G ⟨4 + n.val, by omega⟩)
    concatenates_S512x128_S512x128_S512x128_S512x128_S512x512_d1
    rfl 128 rfl (ix2 m (w4 h d)) h (show (h.val * 128 + d.val) / 128 = h.val by omega) (ix2 m d)
    (show d.val = (h.val * 128 + d.val) % 128 by omega) (fun b hb => by
      match b, hb with
      | 0, _ => rfl
      | 1, hb => exact absurd rfl hb)
  exact e.trans (bc_apply ..)

theorem low_apply (m : Fin 512) (l : Fin 128) (x y : EReal) : Scalar.select (lowT (ix2 m l)) x y = if l.val < 64 then x else y := by
  unfold lowT
  pointwise
  rw [slt64, sel_ite]

theorem cols_apply (f : Fin 4 → V S512x128) (m : Fin 512) (h : Fin 4) (j : Fin 64) :
    colsT (f 0) (f 1) (f 2) (f 3) (ix2 m (c4 h j)) = f h (ix2 m ⟨h.val % 2 * 64 + j.val, by omega⟩) := by
  have e := concatenate_ofFn_apply (t := S512x256) (s₁ := S512x128) 1
    (fun n : Fin 2 => select lowT (f ⟨2 * n.val, by omega⟩) (f ⟨2 * n.val + 1, by omega⟩)) concatenates_S512x128_S512x128_S512x256_d1
    rfl 128 rfl (ix2 m (c4 h j)) ⟨h.val / 2, by omega⟩ (show (h.val * 64 + j.val) / 128 = h.val / 2 by omega) (ix2 m ⟨h.val % 2 * 64 + j.val, by omega⟩)
    (show h.val % 2 * 64 + j.val = (h.val * 64 + j.val) % 128 by omega) (fun b hb => by
      match b, hb with
      | 0, _ => rfl
      | 1, hb => exact absurd rfl hb)
  refine (show colsT (f 0) (f 1) (f 2) (f 3) (ix2 m (c4 h j)) = _ from e).trans ?_
  show Scalar.select (lowT (ix2 m ⟨h.val % 2 * 64 + j.val, _⟩)) _ _ = _
  rw [low_apply]
  show (if h.val % 2 * 64 + j.val < 64 then _ else _) = _
  split <;> rename_i hlt <;> congr 1 <;> ext <;> simp only [] <;> omega

theorem bcol_apply (G : V S512x128) (m : Fin 512) (h : Fin 4) (j : Fin 64) : bcolT G (ix2 m (c4 h j)) = G (ix2 m ⟨h.val, by omega⟩) :=
  (cols_apply (fun n : Fin 4 => bcT G ⟨n.val, by omega⟩) m h j).trans (bc_apply ..)

theorem gcol_apply (G : V S512x128) (m : Fin 512) (h : Fin 4) (j : Fin 64) : gcolT G (ix2 m (c4 h j)) = G (ix2 m ⟨4 + h.val, by omega⟩) :=
  (cols_apply (fun n : Fin 4 => bcT G ⟨4 + n.val, by omega⟩) m h j).trans (bc_apply ..)

theorem gt_apply (G : V S512x128) (b : Fin 4) (c : Fin 8) (l : Fin 128) :
    gtT G b (ix2 c l) = G (ix2 ⟨128 * b.val + l.val, by omega⟩ ⟨c.val, by omega⟩) := by
  unfold gtT
  pointwise

theorem gs_apply (G : V S512x128) (b : Fin 4) (c : Fin 8) (l : Fin 128) :
    gsT G b (ix2 c l) = G (ix2 ⟨128 * b.val + (l.val + 64) % 128, by omega⟩ ⟨c.val, by omega⟩) := by
  unfold gsT
  pointwise
  rw [gt_apply]
  rfl

theorem prow_apply (lo hi : V S8x128) (f : Fin 4 → Fin 8) (i : Fin 64) (h : Fin 4) (j : Fin 64) :
    prowT lo hi (f 0) (f 1) (f 2) (f 3) (ix2 i (c4 h j))
      = (if h.val % 2 = 0 then lo else hi) (ix2 (f h) ⟨h.val % 2 * 64 + j.val, by omega⟩) := by
  unfold prowT pickT lowrT
  pointwise
  have hj := j.isLt
  match h, h.isLt with
  | 0, _ => rw [dif_pos (by simp; omega), slt64 ⟨_, by simp; omega⟩, sel_ite, if_pos (by simp), if_pos (by simp)]; rfl
  | 1, _ => rw [dif_pos (by simp; omega), slt64 ⟨_, by simp; omega⟩, sel_ite, if_neg (by simp), if_neg (by simp)]; rfl
  | 2, _ =>
    rw [dif_neg (by simp), slt64 ⟨_, by simp; omega⟩, sel_ite, if_pos (by simp)]
    exact congrArg (fun x => lo (ix2 (f 2) x)) (Fin.ext (by simp))
  | 3, _ =>
    rw [dif_neg (by simp; omega), slt64 ⟨_, by simp; omega⟩, sel_ite, if_neg (by simp; omega)]
    exact congrArg (fun x => hi (ix2 (f 3) x)) (Fin.ext (by simp; omega))

theorem brow_apply (G : V S512x128) (r : Fin 8) (i : Fin 64) (h : Fin 4) (j : Fin 64) :
    browT G (ix2 (row r i) (c4 h j)) = G (ix2 (row r j) ⟨h.val, by omega⟩) := by
  unfold browT
  rw [cat8_apply]
  have e := fun lo hi => prow_apply lo hi (fun n : Fin 4 => ⟨n.val, by omega⟩) i h j
  split <;> refine (e _ _).trans ?_ <;> split <;> simp only [gt_apply, gs_apply] <;>
    exact congrArg (fun m => G (ix2 m _)) (Fin.ext (by simp only []; omega))

theorem grow_apply (G : V S512x128) (r : Fin 8) (i : Fin 64) (h : Fin 4) (j : Fin 64) :
    growT G (ix2 (row r i) (c4 h j)) = G (ix2 (row r j) ⟨4 + h.val, by omega⟩) := by
  unfold growT
  rw [cat8_apply]
  have e := fun lo hi => prow_apply lo hi (fun n : Fin 4 => ⟨4 + n.val, by omega⟩) i h j
  split <;> refine (e _ _).trans ?_ <;> split <;> simp only [gt_apply, gs_apply] <;>
    exact congrArg (fun m => G (ix2 m _)) (Fin.ext (by simp only []; omega))

theorem pi_apply (r : Fin 8) (i : Fin 64) (h : Fin 4) (j : Fin 64) : piT (ix2 (row r i) (c4 h j)) = BitVec.ofNat 32 i.val := by
  have e := and63 (row r i)
  unfold piT
  pointwise
  rw [show (row r i).val % 64 = i.val by simp only []; omega] at e
  exact e

theorem pj_apply (r : Fin 8) (i : Fin 64) (h : Fin 4) (j : Fin 64) : pjT (ix2 (row r i) (c4 h j)) = BitVec.ofNat 32 j.val := by
  have e := and63 ⟨(c4 h j).val, by omega⟩
  unfold pjT
  pointwise
  simp only [] at e
  rw [show (c4 h j).val % 64 = j.val by simp only []; omega] at e
  exact e

theorem incl_apply (r : Fin 8) (i : Fin 64) (h : Fin 4) (j : Fin 64) (x y : EReal) :
    Scalar.select (inclT (ix2 (row r i) (c4 h j))) x y = if j.val ≤ i.val then x else y := by
  have e : inclT (ix2 (row r i) (c4 h j)) = IntOp.cmpi .sge (piT (ix2 (row r i) (c4 h j))) (pjT (ix2 (row r i) (c4 h j))) := rfl
  rw [e, pi_apply, pj_apply, sge64, sel_ite]

theorem strict_apply (r : Fin 8) (i : Fin 64) (h : Fin 4) (j : Fin 64) (x y : EReal) :
    Scalar.select (strictT (ix2 (row r i) (c4 h j))) x y = if j.val < i.val then x else y := by
  have e : strictT (ix2 (row r i) (c4 h j)) = IntOp.cmpi .sgt (piT (ix2 (row r i) (c4 h j))) (pjT (ix2 (row r i) (c4 h j))) := rfl
  rw [e, pi_apply, pj_apply, sgt64, sel_ite]

theorem kf_one : (kf 0x3F800000#32 : EReal) = 1 := by
  show Ideal.ofBits .f32 0x3F800000#32 = 1
  simp [Ideal.ofBits_one_f32]

theorem kf_zero : (kf 0x00000000#32 : EReal) = 0 := Ideal.ofBits_zero_f32

theorem eye_apply (r : Fin 8) (i : Fin 64) (h : Fin 4) (j : Fin 64) :
    eyeT (ix2 (row r i) (c4 h j)) = if i.val = j.val then (1 : EReal) else 0 := by
  have e : eyeT (ix2 (row r i) (c4 h j)) = Scalar.select (IntOp.cmpi .eq (piT (ix2 (row r i) (c4 h j))) (pjT (ix2 (row r i) (c4 h j))))
    (kf 0x3F800000#32) (kf 0x00000000#32) := rfl
  rw [e, pi_apply, pj_apply, eq64, sel_ite, kf_one, kf_zero]

theorem decay_apply (G : V S512x128) (r : Fin 8) (i : Fin 64) (h : Fin 4) (j : Fin 64) :
    decayT G (ix2 (row r i) (c4 h j))
      = if j.val ≤ i.val then Ideal.exp ((G (ix2 (row r i) ⟨4 + h.val, by omega⟩) : EReal) - G (ix2 (row r j) ⟨4 + h.val, by omega⟩)) else (0 : EReal) := by
  have e : decayT G (ix2 (row r i) (c4 h j)) = Scalar.select (inclT (ix2 (row r i) (c4 h j)))
      (Ideal.exp (Scalar.select (inclT (ix2 (row r i) (c4 h j))) ((gcolT G (ix2 (row r i) (c4 h j)) : EReal) - growT G (ix2 (row r i) (c4 h j))) (kf 0x00000000#32)))
      (kf 0x00000000#32) := rfl
  rw [e, incl_apply, incl_apply, gcol_apply, grow_apply, kf_zero]
  split <;> rfl

end Cert.Proof.Mixer

end
-- ==== Proof.Delta.lean ====
/-
  The gated delta rule over the reals: the doubling product inverts a unit lower triangular matrix, and a chunk's corrected values give
  the state, position after position.
-/
module

public import Idealize.ShloMosaic.PureOps.Ideal
public import Mathlib.Data.Matrix.Mul
public import Mathlib.Tactic.Ring

@[expose] public section

noncomputable section

namespace Cert.Proof.Delta

open Finset

/-! ## The inverse by doubling -/

abbrev Mat := Matrix (Fin 64) (Fin 64) ℝ

def dbl (s : Mat × Mat) : Mat × Mat := (s.1 * s.1, s.2 + s.2 * s.1)

def inv (N : Mat) : Mat :=
  let s := dbl (dbl (dbl (dbl (N * N, 1 + N))))
  s.2 + s.2 * s.1

theorem dbl_spec (N P I : Mat) (h : (1 - N) * I = 1 - P) : (1 - N) * (I + I * P) = 1 - P * P := by
  rw [mul_add, ← mul_assoc, h]; noncomm_ring

theorem pow_lower (N : Mat) (h : ∀ i j, i ≤ j → N i j = 0) (n : Nat) : ∀ i j : Fin 64, i.val < j.val + n → (N ^ n) i j = 0 := by
  induction n with
  | zero => intro i j hij; rw [pow_zero, Matrix.one_apply_ne]; rintro rfl; omega
  | succ n ih =>
    intro i j hij
    rw [pow_succ, Matrix.mul_apply]
    refine sum_eq_zero fun l _ => ?_
    by_cases hl : i.val < l.val + n
    · rw [ih i l hl, zero_mul]
    · rw [h l j (by rw [Fin.le_def]; omega), mul_zero]

theorem inv_spec (N : Mat) (h : ∀ i j, i ≤ j → N i j = 0) : (1 - N) * inv N = 1 := by
  have h0 : (1 - N) * (1 + N) = 1 - N * N := by noncomm_ring
  have e := dbl_spec N _ _ (dbl_spec N _ _ (dbl_spec N _ _ (dbl_spec N _ _ (dbl_spec N _ _ h0))))
  have z : N ^ 64 = 0 := by
    ext i j
    exact pow_lower N h 64 i j (by omega)
  have p : ((((N * N) * (N * N)) * ((N * N) * (N * N))) * (((N * N) * (N * N)) * ((N * N) * (N * N)))) *
      ((((N * N) * (N * N)) * ((N * N) * (N * N))) * (((N * N) * (N * N)) * ((N * N) * (N * N)))) *
      (((((N * N) * (N * N)) * ((N * N) * (N * N))) * (((N * N) * (N * N)) * ((N * N) * (N * N)))) *
      ((((N * N) * (N * N)) * ((N * N) * (N * N))) * (((N * N) * (N * N)) * ((N * N) * (N * N))))) = N ^ 64 := by
    simp only [← sq, ← pow_mul]; norm_num
  unfold inv
  simp only [dbl]
  rw [e, p, z, sub_zero]

/-! ## The chunk -/

variable (g β : ℕ → ℝ) (q k v : ℕ → Fin 128 → ℝ) (S0 : Fin 128 → Fin 128 → ℝ)

def gc (i : ℕ) : ℝ := ∑ j ∈ range i, g j

def delta (S : Fin 128 → Fin 128 → ℝ) (i : ℕ) (e : Fin 128) : ℝ := β i * (v i e - ∑ d, k i d * (S d e * Real.exp (g i)))

/-- The state before position `i`. -/
def st : ℕ → Fin 128 → Fin 128 → ℝ
  | 0 => S0
  | i + 1 => fun d e => st i d e * Real.exp (g i) + k i d * delta g β k v (st i) i e

def kk (i j : ℕ) : ℝ := ∑ d, k i d * k j d

/-- What the chunk's corrected values satisfy. -/
def Corrected (vn : ℕ → Fin 128 → ℝ) : Prop :=
  ∀ i < 64, ∀ e, vn i e + ∑ j ∈ range i, kk k i j * β i * Real.exp (gc g (i + 1) - gc g (j + 1)) * vn j e
    = β i * v i e - ∑ d, β i * Real.exp (gc g (i + 1)) * k i d * S0 d e

variable {g β q k v S0}

theorem st_decay {vn : ℕ → Fin 128 → ℝ} {i : ℕ} {d e : Fin 128}
    (h : st g β k v S0 i d e = Real.exp (gc g i) * S0 d e + ∑ j ∈ range i, Real.exp (gc g i - gc g (j + 1)) * k j d * vn j e) :
    st g β k v S0 i d e * Real.exp (g i)
      = Real.exp (gc g (i + 1)) * S0 d e + ∑ j ∈ range i, Real.exp (gc g (i + 1) - gc g (j + 1)) * k j d * vn j e := by
  have hg : gc g (i + 1) = gc g i + g i := by unfold gc; rw [sum_range_succ]
  rw [h, add_mul, sum_mul, hg]
  congr 1
  · rw [Real.exp_add]; ring
  · refine sum_congr rfl fun j _ => ?_
    rw [show gc g i + g i - gc g (j + 1) = gc g i - gc g (j + 1) + g i by ring, Real.exp_add]; ring

theorem delta_eq {vn : ℕ → Fin 128 → ℝ} (hc : Corrected g β k v S0 vn) {i : ℕ} (hi : i < 64) (e : Fin 128)
    (h : ∀ d, st g β k v S0 i d e = Real.exp (gc g i) * S0 d e + ∑ j ∈ range i, Real.exp (gc g i - gc g (j + 1)) * k j d * vn j e) :
    delta g β k v (st g β k v S0 i) i e = vn i e := by
  unfold delta
  simp only [fun d => st_decay (h d)]
  have hv := hc i hi e
  rw [← eq_sub_iff_add_eq] at hv
  rw [hv, mul_sub, sub_sub, mul_sum]
  congr 1
  simp only [mul_add, sum_add_distrib, mul_sum]
  congr 1
  · exact sum_congr rfl fun d _ => by ring
  · rw [sum_comm]
    refine sum_congr rfl fun j _ => ?_
    unfold kk
    simp only [sum_mul]
    exact sum_congr rfl fun d _ => by ring

theorem st_eq {vn : ℕ → Fin 128 → ℝ} (hc : Corrected g β k v S0 vn) : ∀ i ≤ 64, ∀ d e,
    st g β k v S0 i d e = Real.exp (gc g i) * S0 d e + ∑ j ∈ range i, Real.exp (gc g i - gc g (j + 1)) * k j d * vn j e
  | 0, _, d, e => by simp [st, gc]
  | i + 1, hi, d, e => by
    have ih := st_eq hc i (by omega)
    rw [show st g β k v S0 (i + 1) d e = st g β k v S0 i d e * Real.exp (g i) + k i d * delta g β k v (st g β k v S0 i) i e from rfl,
      delta_eq hc (by omega) e (fun d => ih d e), st_decay (ih d e), sum_range_succ, sub_self, Real.exp_zero, one_mul, add_assoc]

/-- The output of position `i` of the chunk. -/
theorem out_eq {vn : ℕ → Fin 128 → ℝ} (hc : Corrected g β k v S0 vn) (i : ℕ) (hi : i < 64) (e : Fin 128) :
    ∑ d, q i d * st g β k v S0 (i + 1) d e = ∑ d, q i d * Real.exp (gc g (i + 1)) * S0 d e
      + ∑ j ∈ range (i + 1), (∑ d, q i d * k j d) * Real.exp (gc g (i + 1) - gc g (j + 1)) * vn j e := by
  simp only [fun d => st_eq hc (i + 1) (by omega) d e, mul_add, sum_add_distrib, mul_sum]
  congr 1
  · exact sum_congr rfl fun d _ => by ring
  · rw [sum_comm]
    refine sum_congr rfl fun j _ => ?_
    simp only [sum_mul]
    exact sum_congr rfl fun d _ => by ring

/-- The state after the chunk. -/
theorem last_eq {vn : ℕ → Fin 128 → ℝ} (hc : Corrected g β k v S0 vn) (d e : Fin 128) :
    st g β k v S0 64 d e = S0 d e * Real.exp (gc g 64) + ∑ j : Fin 64, k j d * Real.exp (gc g 64 - gc g (j.val + 1)) * vn j e := by
  rw [st_eq hc 64 le_rfl, Finset.sum_range, mul_comm]
  congr 1
  exact sum_congr rfl fun j _ => by ring

/-- Values made with the doubled inverse are corrected. -/
theorem corrected_of_inv (N : Mat) (hN : ∀ i j : Fin 64, N i j = if j < i then -(kk k i j * β i * Real.exp (gc g (i.val + 1) - gc g (j.val + 1))) else 0)
    (vn : ℕ → Fin 128 → ℝ)
    (hv : ∀ (i : Fin 64) e, vn i e = (∑ j, inv N i j * β j * v j e)
      - ∑ d, (∑ j, inv N i j * β j * Real.exp (gc g (j.val + 1)) * k j d) * S0 d e) :
    Corrected g β k v S0 vn := by
  have hi := inv_spec N (fun i j h => by rw [hN, if_neg (not_lt.mpr h)])
  intro i hlt e
  obtain ⟨i, rfl⟩ : ∃ i' : Fin 64, i = i'.val := ⟨⟨i, hlt⟩, rfl⟩
  have h1 : ∀ (b : Fin 64 → ℝ), ∑ l, (1 - N) i l * ∑ j, inv N l j * b j = b i := by
    intro b
    have : (1 - N).mulVec ((inv N).mulVec b) = b := by rw [Matrix.mulVec_mulVec, hi, Matrix.one_mulVec]
    exact congrFun this i
  have h2 : ∀ l : Fin 64, vn l e = ∑ j, inv N l j * (β j * v j e - ∑ d, β j * Real.exp (gc g (j.val + 1)) * k j d * S0 d e) := by
    intro l
    rw [hv]
    simp only [mul_sub, sum_sub_distrib, mul_sum, sum_mul]
    congr 1
    · exact sum_congr rfl fun j _ => by ring
    · rw [sum_comm]
      exact sum_congr rfl fun j _ => sum_congr rfl fun d _ => by ring
  have h3 := h1 (fun j => β j * v j e - ∑ d, β j * Real.exp (gc g (j.val + 1)) * k j d * S0 d e)
  simp only [← h2] at h3
  rw [← h3]
  simp only [Matrix.sub_apply, sub_mul, sum_sub_distrib, Matrix.one_apply, ite_mul, one_mul, zero_mul, sum_ite_eq, mem_univ, if_true, hN]
  rw [sub_eq_add_neg]
  congr 1
  rw [← sum_neg_distrib, Finset.sum_range (n := i.val)]
  rw [show (∑ l : Fin 64, -(if l < i then -(kk k i l * β i * Real.exp (gc g (i.val + 1) - gc g (l.val + 1))) * vn l e else 0))
    = ∑ l ∈ range 64, (if l < i.val then kk k i l * β i * Real.exp (gc g (i.val + 1) - gc g (l + 1)) * vn l e else 0) by
      rw [Finset.sum_range]
      refine sum_congr rfl fun l _ => ?_
      by_cases h : l < i
      · rw [if_pos h, if_pos (Fin.lt_def.mp h)]; ring
      · rw [if_neg h, if_neg (fun h' => h (Fin.lt_def.mpr h')), neg_zero]]
  rw [← sum_filter, ← Finset.sum_range (n := i.val) (f := fun l => kk k i l * β i * Real.exp (gc g (i.val + 1) - gc g (l + 1)) * vn l e)]
  refine sum_congr ?_ fun _ _ => rfl
  ext l
  simp only [mem_filter, mem_range]
  omega

end Cert.Proof.Delta

end
-- ==== Proof.MixSpec.lean ====
/-
  The mixer of one layer, position by position, over the elements of its arguments: what the kernel and the reference both compute.
-/
module

public import proofs.«01_k».proof.Defs
public import proofs.«01_k».proof.Proof.Delta

@[expose] public section

noncomputable section

namespace Cert.Proof.Spec

open Idealize.ShloMosaic

theorem sge128 : ∀ a b : Fin 128, IntOp.cmpi .sge (BitVec.ofNat 32 a.val) (BitVec.ofNat 32 b.val) = if b.val ≤ a.val then 1#1 else 0#1 := by
  decide +kernel

theorem sel_ite {p : Prop} [Decidable p] (x y : EReal) : Scalar.select (if p then 1#1 else 0#1) x y = if p then x else y := by
  by_cases h : p <;> simp [h, Scalar.select]

/-- The elements of the arguments that the mixer reads; positions from 2048 on are never read. -/
structure Args where
  x : Fin 8 → ℕ → Fin 1024 → EReal
  nm : Fin 1024 → EReal
  wi : Fin 1024 → Fin 3080 → EReal
  cw : Fin 4 → Fin 1536 → EReal
  al : Fin 4 → EReal
  dt : Fin 4 → EReal
  og : Fin 128 → EReal
  lg : Fin 512 → EReal
  lb : Fin 512 → EReal
  ws : Fin 4 → Fin 128 → Fin 128 → EReal
  bs : Fin 4 → Fin 128 → EReal
  wo : Fin 1024 → Fin 1024 → EReal

/-- The first layer's elements of the whole arguments. -/
def layer (x : Fin 8 → Fin 2048 → Fin 1024 → EReal) (nm : Fin 2 → Fin 1024 → EReal) (wi : Fin 2 → Fin 1024 → Fin 3080 → EReal)
    (cw : Fin 2 → Fin 4 → Fin 1536 → EReal) (al dt : Fin 2 → Fin 4 → EReal) (og : Fin 2 → Fin 128 → EReal) (lg lb : Fin 2 → Fin 512 → EReal)
    (ws : Fin 2 → Fin 4 → Fin 128 → Fin 128 → EReal) (bs : Fin 2 → Fin 4 → Fin 128 → EReal) (wo : Fin 2 → Fin 1024 → Fin 1024 → EReal) : Args where
  x b t e := if h : t < 2048 then x b ⟨t, h⟩ e else 0
  nm := nm 0
  wi := wi 0
  cw := cw 0
  al := al 0
  dt := dt 0
  og := og 0
  lg := lg 0
  lb := lb 0
  ws := ws 0
  bs := bs 0
  wo := wo 0

abbrev eps : EReal := Ideal.ofBits .f32 0x358637BD#32
abbrev kd : EReal := Ideal.ofBits .f32 0x43000000#32

def sig (y : EReal) : EReal := Ideal.div 1 (1 + Ideal.exp (0 - y))
def silu (y : EReal) : EReal := y * sig y
def l2 (f : Fin 128 → EReal) (d : Fin 128) : EReal := f d * Ideal.rsqrt ((∑ e, f e * f e) + eps)
def sp (a : EReal) : EReal := max a 0 + Ideal.log (1 + Ideal.exp (0 - max a (-a)))
def gelu (y : EReal) : EReal :=
  y * (Ideal.ofBits .f32 0x3F000000#32 *
    (1 + Ideal.tanh (Ideal.ofBits .f32 0x3F4C422A#32 * (y + Ideal.ofBits .f32 0x3D372713#32 * (y * y * y)))))
def mean (f : Fin 128 → EReal) : EReal := Ideal.div (∑ d, f d) kd
def ln (f g b : Fin 128 → EReal) (d : Fin 128) : EReal :=
  (f d - mean f) * Ideal.rsqrt (mean (fun e => (f e - mean f) * (f e - mean f)) + eps) * g d + b d
def rmsn (f g : Fin 128 → EReal) (d : Fin 128) : EReal := f d * Ideal.rsqrt (mean (fun e => f e * f e) + eps) * g d

/-- Column `d` of head (or group) `h` among 512. -/
abbrev at4 (h : Fin 4) (d : Fin 128) : Fin 512 := ⟨h.val * 128 + d.val, by omega⟩

namespace Args

variable (A : Args)

def xn (b : Fin 8) (t : ℕ) (e : Fin 1024) : EReal :=
  A.x b t e * Ideal.rsqrt (Ideal.div (∑ l, A.x b t l * A.x b t l) (Ideal.ofBits .f32 0x44800000#32) + eps) * A.nm e

def proj (b : Fin 8) (t : ℕ) (c : Fin 3080) : EReal := ∑ e, A.xn b t e * A.wi e c

/-- The projection `s` positions before `t`. -/
def past (b : Fin 8) (t s : ℕ) (c : Fin 1536) : EReal := if s ≤ t then A.proj b (t - s) ⟨c.val, by omega⟩ else 0

def conv (b : Fin 8) (t : ℕ) (c : Fin 1536) : EReal :=
  A.past b t 0 c * A.cw 3 c + A.past b t 1 c * A.cw 2 c + A.past b t 2 c * A.cw 1 c + A.past b t 3 c * A.cw 0 c

def qkv (b : Fin 8) (t : ℕ) (c : Fin 1536) : EReal := silu (A.conv b t c)

def q (b : Fin 8) (h : Fin 4) (t : ℕ) (d : Fin 128) : EReal :=
  l2 (fun e => A.qkv b t ⟨h.val * 128 + e.val, by omega⟩) d * Ideal.ofBits .f32 0x3DB504F3#32
def k (b : Fin 8) (h : Fin 4) (t : ℕ) (d : Fin 128) : EReal := l2 (fun e => A.qkv b t ⟨512 + (h.val * 128 + e.val), by omega⟩) d
def v (b : Fin 8) (h : Fin 4) (t : ℕ) (d : Fin 128) : EReal := A.qkv b t ⟨1024 + (h.val * 128 + d.val), by omega⟩
def z (b : Fin 8) (t : ℕ) (h : Fin 4) (d : Fin 128) : EReal := A.proj b t ⟨1536 + (h.val * 128 + d.val), by omega⟩
def beta (b : Fin 8) (h : Fin 4) (t : ℕ) : EReal := sig (A.proj b t ⟨2048 + h.val, by omega⟩)
def g (b : Fin 8) (h : Fin 4) (t : ℕ) : EReal := -Ideal.exp (A.al h) * sp (A.proj b t ⟨2052 + h.val, by omega⟩ + A.dt h)

def ug (b : Fin 8) (t : ℕ) (h : Fin 4) (d : Fin 128) : EReal := gelu (A.proj b t ⟨2056 + (h.val * 128 + d.val), by omega⟩)
def vg (b : Fin 8) (t : ℕ) (h : Fin 4) (d : Fin 128) : EReal :=
  ln (fun e => gelu (A.proj b t ⟨2568 + (h.val * 128 + e.val), by omega⟩)) (fun e => A.lg (at4 h e)) (fun e => A.lb (at4 h e)) d

def ogm (b : Fin 8) (t : ℕ) (h : Fin 4) (d : Fin 128) : EReal :=
  A.ug b t h d * ((∑ s : Fin 128, (if s.val ≤ t % 128 then A.ws h ⟨t % 128, by omega⟩ s else 0) * A.vg b (t / 128 * 128 + s.val) h d)
    + A.bs h ⟨t % 128, by omega⟩)

/-- What the delta rule reads is finite. -/
structure Fin' : Prop where
  q : ∀ b h t d, A.q b h t d = ((A.q b h t d).toReal : ℝ)
  k : ∀ b h t d, A.k b h t d = ((A.k b h t d).toReal : ℝ)
  v : ∀ b h t d, A.v b h t d = ((A.v b h t d).toReal : ℝ)
  beta : ∀ b h t, A.beta b h t = ((A.beta b h t).toReal : ℝ)
  g : ∀ b h t, A.g b h t = ((A.g b h t).toReal : ℝ)

def qR (b : Fin 8) (h : Fin 4) (t : ℕ) (d : Fin 128) : ℝ := (A.q b h t d).toReal
def kR (b : Fin 8) (h : Fin 4) (t : ℕ) (d : Fin 128) : ℝ := (A.k b h t d).toReal
def vR (b : Fin 8) (h : Fin 4) (t : ℕ) (d : Fin 128) : ℝ := (A.v b h t d).toReal
def bR (b : Fin 8) (h : Fin 4) (t : ℕ) : ℝ := (A.beta b h t).toReal
def gR (b : Fin 8) (h : Fin 4) (t : ℕ) : ℝ := (A.g b h t).toReal

/-- The state of head `h` before position `t`. -/
def st (b : Fin 8) (h : Fin 4) (t : ℕ) : Fin 128 → Fin 128 → ℝ := Delta.st (A.gR b h) (A.bR b h) (A.kR b h) (A.vR b h) (fun _ _ => 0) t

def o (b : Fin 8) (t : ℕ) (h : Fin 4) (e : Fin 128) : EReal := ((∑ d, A.qR b h t d * A.st b h (t + 1) d e : ℝ) : EReal)

def head (b : Fin 8) (t : ℕ) (h : Fin 4) (e : Fin 128) : EReal := rmsn (A.o b t h) A.og e * silu (A.z b t h e)

/-- The row that the output projection reads: the heads, then the groups. -/
def mix (b : Fin 8) (t : ℕ) (c : Fin 1024) : EReal :=
  if h : c.val < 512 then A.head b t ⟨c.val / 128, by omega⟩ ⟨c.val % 128, by omega⟩
  else A.ogm b t ⟨(c.val - 512) / 128, by omega⟩ ⟨c.val % 128, by omega⟩

def out (b : Fin 8) (t : ℕ) (l : Fin 1024) : EReal := A.x b t l + ∑ c, A.mix b t c * A.wo c l

end Args

end Cert.Proof.Spec

end
-- ==== Proof.MixTileVal.lean ====
/-
  The elements of one tile's steps, over the elements they read.
-/
module

public import proofs.«01_k».proof.Defs
public import proofs.«01_k».proof.Proof.MixIdx
public import proofs.«01_k».proof.Proof.MixSpec

@[expose] public section

set_option maxRecDepth 16384

noncomputable section

namespace Cert.Proof.Mixer

open Idealize.ShloMosaic Idealize.SL.Sem Cert.KernelIdeal Cert.KernelIdeal.Gen

/-! ## Projection and convolution -/

theorem projT_apply (x : V S4x128x1024) (nrm : V S1x1x1024) (w : H S1024x3200) (m : Fin 512) (c : Fin 3200) :
    projT x nrm w (ix2 m c) = ∑ e : Fin 1024, (x (ix3 ⟨m.val / 128, by omega⟩ ⟨m.val % 128, by omega⟩ e)
      * Ideal.rsqrt (Ideal.div (∑ l : Fin 1024, x (ix3 ⟨m.val / 128, by omega⟩ ⟨m.val % 128, by omega⟩ l) * x (ix3 ⟨m.val / 128, by omega⟩ ⟨m.val % 128, by omega⟩ l))
        (Ideal.ofBits .f32 0x44800000#32) + Spec.eps) * nrm (ix3 0 0 e)) * w (ix2 e c) := by
  have e : ∀ j, (k0_pay6 (F := Ideal) x (ix2 m j) : EReal) = x (ix3 ⟨m.val / 128, by omega⟩ ⟨m.val % 128, by omega⟩ j) := fun j => by
    unfold k0_pay6
    pointwise
  unfold projT k0_pay7
  pointwise [e]

theorem xT_apply (x : V S4x128x1024) (m : Fin 512) (c : Fin 1024) : xT x (ix2 m c) = x (ix3 ⟨m.val / 128, by omega⟩ ⟨m.val % 128, by omega⟩ c) := by
  unfold xT
  pointwise

theorem col_apply (P : V S512x3200) (c : Fin 25) (m : Fin 512) (d : Fin 128) : colT P c (ix2 m d) = P (ix2 m ⟨128 * c.val + d.val, by omega⟩) := by
  unfold colT
  pointwise

theorem z_apply (P : V S512x3200) (m j : Fin 512) : zT P (ix2 m j) = P (ix2 m ⟨2688 + j.val, by omega⟩) := by
  unfold zT
  pointwise

theorem cur_apply (P : V S512x3200) (j : Fin 12) (b : Fin 4) (p d : Fin 128) :
    curT P j (ix3 b p d) = P (ix2 ⟨b.val * 128 + p.val, by omega⟩ ⟨128 * j.val + d.val, by omega⟩) := by
  unfold curT
  pointwise [col_apply]

theorem pre_apply (P : V S512x3200) (j : Fin 12) (u : Fin 1) (b : Fin 4) (p d : Fin 128) :
    preT P j (ix4 u b p d) = P (ix2 ⟨b.val * 128 + p.val, by omega⟩ ⟨128 * j.val + d.val, by omega⟩) := by
  unfold preT
  pointwise [cur_apply]

theorem acc_apply (cur : V S4x128x128) (h1 h2 h3 : V S1x4x128x128) (w3 w2 w1 w0 : V S1x1x128) (b : Fin 4) (p d : Fin 128) :
    (accT cur h1 h2 h3 w3 w2 w1 w0 (ix3 b p d) : EReal) = cur (ix3 b p d) * w3 (ix3 0 0 d) + h1 (ix4 0 b p d) * w2 (ix3 0 0 d)
      + h2 (ix4 0 b p d) * w1 (ix3 0 0 d) + h3 (ix4 0 b p d) * w0 (ix3 0 0 d) := by
  unfold accT cwT shT
  pointwise

theorem silu_apply {s : Shape} (x : V s) (i : s.Idx) : (siluT x i : EReal) = Spec.silu (x i) := by
  have e : (siluT x i : EReal) = x i * Ideal.div (kf 0x3F800000#32) (kf 0x3F800000#32 + Ideal.exp (kf 0x00000000#32 - x i)) := rfl
  rw [e, kf_one, kf_zero]; rfl

theorem conv_apply (acc : V S4x128x128) (m : Fin 512) (d : Fin 128) :
    (convT acc (ix2 m d) : EReal) = Spec.silu (acc (ix3 ⟨m.val / 128, by omega⟩ ⟨m.val % 128, by omega⟩ d)) := by
  unfold convT
  pointwise [silu_apply]

theorem l2_apply (y : V S512x128) (m : Fin 512) (d : Fin 128) : (l2T y (ix2 m d) : EReal) = Spec.l2 (fun e => y (ix2 m e)) d := by
  unfold l2T Spec.l2
  pointwise

theorem q_apply (acc : V S4x128x128) (m : Fin 512) (d : Fin 128) :
    (qT acc (ix2 m d) : EReal) = Spec.l2 (fun e => Spec.silu (acc (ix3 ⟨m.val / 128, by omega⟩ ⟨m.val % 128, by omega⟩ e))) d * Ideal.ofBits .f32 0x3DB504F3#32 := by
  unfold qT sameT
  pointwise [l2_apply, conv_apply]

theorem k_apply (acc : V S4x128x128) (m : Fin 512) (d : Fin 128) :
    (kT acc (ix2 m d) : EReal) = Spec.l2 (fun e => Spec.silu (acc (ix3 ⟨m.val / 128, by omega⟩ ⟨m.val % 128, by omega⟩ e))) d := by
  unfold kT sameT
  pointwise [l2_apply, conv_apply]

theorem v_apply (acc : V S4x128x128) (m : Fin 512) (d : Fin 128) :
    (vT acc (ix2 m d) : EReal) = Spec.silu (acc (ix3 ⟨m.val / 128, by omega⟩ ⟨m.val % 128, by omega⟩ d)) := by
  unfold vT sameT
  pointwise [conv_apply]

/-! ## gMLP -/

theorem root_eq : Ideal.ofBits .f32 0x3F4C422A#32 = ((6693141 / 8388608 : ℝ) : EReal) := by
  simp [Ideal.ofBits, Ideal.ieee, -EReal.coe_mul]; norm_num

theorem third_eq : Ideal.ofBits .f32 0x3D372713#32 = ((12003091 / 268435456 : ℝ) : EReal) := by
  simp [Ideal.ofBits, Ideal.ieee, -EReal.coe_mul]; norm_num

theorem cubic_eq : (cubic : EReal) = ((80338380498831 / 2251799813685248 : ℝ) : EReal) :=
  IdealRules.named_const.ideal_named_scalar _ _ _ _ rfl

/-- The two ways to write the cubic under gelu's hyperbolic tangent, for every extended real. -/
theorem cubic_form (y : EReal) : Ideal.ofBits .f32 0x3F4C422A#32 * (y + Ideal.ofBits .f32 0x3D372713#32 * (y * y * y))
    = y * (Ideal.ofBits .f32 0x3F4C422A#32 + ((80338380498831 / 2251799813685248 : ℝ) : EReal) * (y * y)) := by
  rw [root_eq, third_eq]
  induction y with
  | bot => simp [EReal.coe_mul_bot_of_pos, EReal.coe_mul_top_of_pos]
  | top => simp [EReal.coe_mul_top_of_pos]
  | coe r =>
    norm_cast
    ring

theorem gelu_apply (x : V S512x128) (i : S512x128.Idx) : (geluT x i : EReal) = Spec.gelu (x i) := by
  have e : (geluT x i : EReal) = kf 0x3F000000#32 * x i * (kf 0x3F800000#32 + Ideal.tanh (x i * (kf 0x3F4C422A#32 + cubic * (x i * x i)))) := rfl
  rw [e, kf_one, cubic_eq, mul_comm (kf _) (x i), mul_assoc]
  exact congrArg (fun u => x i * (kf 0x3F000000#32 * (1 + Ideal.tanh u))) (cubic_form (x i)).symm

theorem ug_apply (P : V S512x3200) (g : Fin 4) (m : Fin 512) (d : Fin 128) :
    (ugT P g (ix2 m d) : EReal) = Spec.gelu (P (ix2 m ⟨128 * (g.val + 13) + d.val, by omega⟩)) := by
  unfold ugT sameT
  pointwise [gelu_apply, col_apply]

theorem ln_apply (x : V S512x128) (g b : V S1x1x128) (m : Fin 512) (d : Fin 128) :
    (lnT x g b (ix2 m d) : EReal) = Spec.ln (fun e => x (ix2 m e)) (fun e => g (ix3 0 0 e)) (fun e => b (ix3 0 0 e)) d := by
  unfold lnT ctrT rsT meanT rowT Spec.ln Spec.mean
  pointwise

theorem vln_apply (P : V S512x3200) (g : Fin 4) (lg lb : V S1x1x128) (m : Fin 512) (d : Fin 128) :
    (vlnT P g lg lb (ix2 m d) : EReal) = Spec.ln (fun e => Spec.gelu (P (ix2 m ⟨128 * (g.val + 17) + e.val, by omega⟩)))
      (fun e => lg (ix3 0 0 e)) (fun e => lb (ix3 0 0 e)) d := by
  unfold vlnT sameT
  pointwise [ln_apply, gelu_apply, col_apply]

theorem gm_apply (ws bs : V S1x1x128x128) (ug vln : V S128x128) (p d : Fin 128) :
    (gmT ws bs ug vln (ix2 p d) : EReal) = ug (ix2 p d) * ((∑ s : Fin 128, (if s.val ≤ p.val then ws (ix4 0 0 p s) else 0) * vln (ix2 s d))
      + bs (ix4 0 0 p d)) := by
  unfold gmT wsT
  pointwise
  refine congrArg (fun u => _ * (u + _)) (Finset.sum_congr rfl fun s _ => ?_)
  rw [Spec.sge128, sel_ite]
  by_cases h : s.val ≤ p.val
  · rw [if_pos h, if_pos h]
  · rw [if_neg h, if_neg h, zero_mul]

theorem gmRows_apply (ws bs : V S1x1x128x128) (ug vln : Fin 4 → V S128x128) (m : Fin 512) (d : Fin 128) :
    gmRowsT ws bs ug vln (ix2 m d) = gmT ws bs (ug ⟨m.val / 128, by omega⟩) (vln ⟨m.val / 128, by omega⟩) (ix2 ⟨m.val % 128, by omega⟩ d) :=
  concatenate_ofFn_apply (t := S512x128) (s₁ := S128x128) 0 (fun b : Fin 4 => gmT ws bs (ug b) (vln b)) concatenates_S128x128_S128x128_S128x128_S128x128_S512x128_d0
    rfl 128 rfl (ix2 m d) ⟨m.val / 128, by omega⟩ rfl (ix2 ⟨m.val % 128, by omega⟩ d) rfl (fun b hb => by
      match b with
      | 0 => exact absurd rfl hb
      | 1 => rfl)

theorem merge_apply (a b : H S512x128) (wo : H S256x1024) (m : Fin 512) (l : Fin 1024) :
    (mergeT a b wo (ix2 m l) : EReal) = ∑ j : Fin 128, a (ix2 m j) * wo (ix2 ⟨j.val, by omega⟩ l) + ∑ j : Fin 128, b (ix2 m j) * wo (ix2 ⟨128 + j.val, by omega⟩ l) := by
  unfold mergeT
  pointwise

/-! ## Gates -/

theorem gpre_apply (P : V S512x3200) (alog dtb : V S1x1x128) (m : Fin 512) (l : Fin 128) :
    (gpreT P alog dtb (ix2 m l) : EReal) = -Ideal.exp (alog (ix3 0 0 l)) * Spec.sp (P (ix2 m ⟨1536 + l.val, by omega⟩) + dtb (ix3 0 0 l)) := by
  unfold gpreT rowT Spec.sp
  pointwise [col_apply]
  rw [zero_sub]
  rfl

theorem step_apply (n : Fin 64) (g : V S512x128) (r : Fin 8) (i : Fin 64) (l : Fin 128) :
    (stepT (BitVec.ofNat 32 n.val) g (ix2 (row r i) l) : EReal) = g (ix2 (row r i) l) + if h : n.val ≤ i.val then g (ix2 (row r ⟨i.val - n.val, by omega⟩) l) else 0 := by
  unfold stepT posT
  pointwise
  rw [and63 (row r i), show (row r i).val % 64 = i.val by simp only []; omega, sge64, sel_ite]
  refine congrArg (_ + ·) ?_
  by_cases h : n.val ≤ i.val
  · rw [if_pos h, dif_pos h]
    refine congrArg (fun u => g (ix2 u l)) (Fin.ext ?_)
    have e : (BitVec.ofNat 32 n.val).toNat = n.val := by rw [BitVec.toNat_ofNat]; omega
    simp only [e]
    omega
  · rw [if_neg h, dif_neg h]

/-- The sum of the last `w` values up to `i`. -/
def win (f : ℕ → EReal) (w i : ℕ) : EReal := ∑ j ∈ Finset.range w, if j ≤ i then f (i - j) else 0

theorem win_double (f : ℕ → EReal) (w i : ℕ) : win f (w + w) i = win f w i + if w ≤ i then win f w (i - w) else 0 := by
  unfold win
  rw [Finset.sum_range_add]
  refine congrArg (_ + ·) ?_
  by_cases h : w ≤ i
  · rw [if_pos h]
    refine Finset.sum_congr rfl fun j _ => ?_
    by_cases hj : j ≤ i - w
    · rw [if_pos hj, if_pos (by omega), Nat.sub_sub]
    · rw [if_neg hj, if_neg (by omega)]
  · rw [if_neg h]
    exact Finset.sum_eq_zero fun j _ => if_neg (by omega)

theorem win_full (f : ℕ → EReal) (i : ℕ) (h : i < 64) : win f 64 i = ∑ j ∈ Finset.range (i + 1), f j := by
  unfold win
  rw [← Finset.sum_range_reflect f (i + 1), show 64 = (i + 1) + (63 - i) by omega, Finset.sum_range_add, Finset.sum_eq_zero (s := Finset.range (63 - i))
    (fun j _ => if_neg (by omega)), add_zero]
  exact Finset.sum_congr rfl fun j hj => by
    rw [Finset.mem_range] at hj
    rw [if_pos (by omega), show i + 1 - 1 - j = i - j by omega]

/-- Column `l` of block `r` is `f`. -/
def Wi (g : V S512x128) (r : Fin 8) (l : Fin 128) (w : ℕ) (f : ℕ → EReal) : Prop := ∀ i : Fin 64, (g (ix2 (row r i) l) : EReal) = win f w i.val

theorem Wi.step {g : V S512x128} {r : Fin 8} {l : Fin 128} {f : ℕ → EReal} (n : Fin 64) (h : Wi g r l n.val f) :
    Wi (stepT (BitVec.ofNat 32 n.val) g) r l (n.val + n.val) f := by
  intro i
  rw [step_apply, h i, win_double]
  refine congrArg (_ + ·) ?_
  by_cases hn : n.val ≤ i.val
  · rw [dif_pos hn, if_pos hn, h]
  · rw [dif_neg hn, if_neg hn]

theorem csum_apply (g : V S512x128) (r : Fin 8) (l : Fin 128) (f : ℕ → EReal) (h : ∀ i : Fin 64, (g (ix2 (row r i) l) : EReal) = f i.val) (i : Fin 64) :
    (csumT g (ix2 (row r i) l) : EReal) = ∑ j ∈ Finset.range (i.val + 1), f j := by
  have h1 : Wi g r l 1 f := fun i => by rw [h i]; simp [win]
  exact ((((((h1.step 1).step 2).step 4).step 8).step 16).step 32 i).trans (win_full f i.val i.isLt)

theorem gates_lo (P : V S512x3200) (alog dtb : V S1x1x128) (m : Fin 512) (h : Fin 4) :
    (gatesT P alog dtb (ix2 m ⟨h.val, by omega⟩) : EReal) = Spec.sig (P (ix2 m ⟨1536 + h.val, by omega⟩)) := by
  unfold gatesT
  pointwise [col_apply]
  rw [slt4 ⟨h.val, by omega⟩, sel_ite, if_pos h.isLt]
  rfl

theorem gates_hi (P : V S512x3200) (alog dtb : V S1x1x128) (m : Fin 512) (h : Fin 4) :
    (gatesT P alog dtb (ix2 m ⟨4 + h.val, by omega⟩) : EReal) = csumT (gpreT P alog dtb) (ix2 m ⟨4 + h.val, by omega⟩) := by
  unfold gatesT
  pointwise [col_apply]
  rw [slt4 ⟨4 + h.val, by omega⟩, sel_ite, if_neg (by simp only []; omega)]

/-! ## Output -/

theorem headOut_apply (o : V S512x512) (h : Fin 4) (ong : V S1x1x128) (z : V S512x128) (m : Fin 512) (d : Fin 128) :
    (headOutT o h ong z (ix2 m d) : EReal) = Spec.rmsn (fun e => o (ix2 m (w4 h e))) (fun e => ong (ix3 0 0 e)) d * Spec.silu (z (ix2 m d)) := by
  unfold headOutT ohT rsT meanT rowT Spec.rmsn Spec.mean
  pointwise [silu_apply]
  have e : ∀ x : Fin 128, (⟨128 * h.val + x.val, by omega⟩ : Fin 512) = w4 h x := fun x => Fin.ext (by simp only []; omega)
  simp only [e]

theorem out_apply (x y : V S512x1024) (o : V S512x512) (ong : V S1x1x128) (z : Fin 4 → V S512x128) (wo : Fin 2 → H S256x1024) (b : Fin 4) (p : Fin 128)
    (l : Fin 1024) : (outT x y o ong z wo (ix3 b p l) : EReal) = x (ix2 ⟨b.val * 128 + p.val, by omega⟩ l) + (y (ix2 ⟨b.val * 128 + p.val, by omega⟩ l)
      + mergeT (headOutT o 0 ong (z 0)) (headOutT o 1 ong (z 1)) (wo 0) (ix2 ⟨b.val * 128 + p.val, by omega⟩ l)
      + mergeT (headOutT o 2 ong (z 2)) (headOutT o 3 ong (z 3)) (wo 1) (ix2 ⟨b.val * 128 + p.val, by omega⟩ l)) := by
  unfold outT
  pointwise

end Cert.Proof.Mixer

end
-- ==== Proof.MixRead.lean ====
/-
  What a tile reads back from its scratch buffers: the piece that was stored there last.
-/
module

public import proofs.«01_k».proof.Defs
public import proofs.«01_k».proof.Proof.MixRun
public import proofs.«01_k».proof.Proof.MixTileVal

@[expose] public section

set_option maxRecDepth 16384

noncomputable section

namespace Cert.Proof.Mixer

open Idealize.ShloMosaic Idealize.SL.Sem Cert.KernelIdeal Cert.KernelIdeal.Gen

section Pieces

variable {s : Shape} {κ : _} {sp : _}

theorem cov_at (v : View sig κ sp s .f32) (L : List (Pc s)) (r : Rect s) (x : r.shape.Idx) (y : s.Idx)
    (hx : ∀ a, (y a).val = r.off a + r.stride a * (x a).val) : v.readCov L r.toLoadRect x = View.canon L y := by
  rw [View.readCov_eq_canon']
  exact congrArg (View.canon L) (r.emb_eq_of_coords x y hx)

theorem at_at (v : View sig κ sp s .f32) (f : v.ty.Contents (Elt Ideal)) (r : Rect s) (x : r.shape.Idx) (y : s.Idx)
    (hx : ∀ a, (y a).val = r.off a + r.stride a * (x a).val) : View.readAt (Elt Ideal) v r.toLoadRect f x = v.read (Elt Ideal) f y :=
  congrArg (v.read (Elt Ideal) f) (r.emb_eq_of_coords x y hx)

theorem canon_hit (r : Rect s) (w : r.shape.Idx → Elt Ideal .f32) (L : List (Pc s)) (x : r.shape.Idx) (y : s.Idx)
    (hx : ∀ a, (y a).val = r.off a + r.stride a * (x a).val) : View.canon ((⟨r, w⟩ : Pc s) :: L) y = w x := by
  rw [← r.emb_eq_of_coords x y hx]
  exact View.canon_cons_emb r w L x

theorem canon_miss (p : Pc s) (L : List (Pc s)) (y : s.Idx) (a : Fin s.rank) (o n : ℕ) (ho : p.1.off a = o) (hst : p.1.stride a = 1)
    (hn : p.1.size a = n) (h : (y a).val < o ∨ o + n ≤ (y a).val) : View.canon (p :: L) y = View.canon L y :=
  View.canon_cons_of_not_mem p L (p.1.not_mem_set_of_axis y a o n ho hst hn h)

end Pieces

theorem ofNat_val {k n : ℕ} [NeZero k] (h : n < k) : (Fin.ofNat k n).val = n := Nat.mod_eq_of_lt h

/-! ## Coordinates -/

theorem rQ_coords (j : Fin 12) (m : Fin 512) (d : Fin 128) : ∀ a, ((ix2 m ⟨128 * j.val + d.val, by omega⟩ : S512x1536.Idx) a).val
    = (rQ j).off a + (rQ j).stride a * ((ix2 m d : S512x128.Idx) a).val := fun a => by
  match a with
  | 0 => show m.val = 0 + 1 * m.val; omega
  | 1 => show 128 * j.val + d.val = 128 * j.val + 1 * d.val; omega

theorem rC_coords (g : Fin 4) (m : Fin 512) (d : Fin 128) : ∀ a, ((ix2 m ⟨128 * g.val + d.val, by omega⟩ : S512x512.Idx) a).val
    = (rC g).off a + (rC g).stride a * ((ix2 m d : S512x128.Idx) a).val := fun a => by
  match a with
  | 0 => show m.val = 0 + 1 * m.val; omega
  | 1 => show 128 * g.val + d.val = 128 * g.val + 1 * d.val; omega

abbrev rAll : Rect S512x512 := Rect.unit ![0, 0] S512x512.size inb_S512x512_S512x512_0_0

theorem rAll_coords (m n : Fin 512) : ∀ a, ((ix2 m n : S512x512.Idx) a).val = rAll.off a + rAll.stride a * ((ix2 m n : S512x512.Idx) a).val := fun a => by
  match a with
  | 0 => show m.val = 0 + 1 * m.val; omega
  | 1 => show n.val = 0 + 1 * n.val; omega

theorem rW_coords (j : Fin 3) (h : Fin 4) (m : Fin 512) (d : Fin 128) :
    ∀ a, ((ix2 m ⟨128 * (4 * j.val + h.val) + d.val, by omega⟩ : S512x1536.Idx) a).val
      = (rW j).off a + (rW j).stride a * ((ix2 m (w4 h d) : S512x512.Idx) a).val := fun a => by
  match a with
  | 0 => show m.val = 0 + 1 * m.val; omega
  | 1 => show 128 * (4 * j.val + h.val) + d.val = 512 * j.val + 1 * (h.val * 128 + d.val); omega

theorem rB_coords (b g : Fin 4) (p d : Fin 128) : ∀ a, ((ix2 ⟨b.val * 128 + p.val, by omega⟩ ⟨128 * g.val + d.val, by omega⟩ : S512x512.Idx) a).val
    = (rB b g).off a + (rB b g).stride a * ((ix2 p d : S128x128.Idx) a).val := fun a => by
  match a with
  | 0 => show b.val * 128 + p.val = 128 * b.val + 1 * p.val; omega
  | 1 => show 128 * g.val + d.val = 128 * g.val + 1 * d.val; omega

theorem rP_coords (j : Fin 12) (b : Fin 4) (p d : Fin 128) (k : Fin 136) (hk : k.val = 8 + p.val) : ∀ a, ((ix4 j b k d : S12x4x136x128.Idx) a).val
    = (rP j).off a + (rP j).stride a * ((ix4 0 b p d : S1x4x128x128.Idx) a).val := fun a => by
  match a with
  | 0 => show j.val = j.val + 1 * 0; omega
  | 1 => show b.val = 0 + 1 * b.val; omega
  | 2 => show k.val = 8 + 1 * p.val; omega
  | 3 => show d.val = 0 + 1 * d.val; omega

theorem rTop_coords (j : Fin 12) (b : Fin 4) (k : Fin 8) (d : Fin 128) : ∀ a, ((ix4 j b ⟨k.val, by omega⟩ d : S12x4x136x128.Idx) a).val
    = rTop.off a + rTop.stride a * ((ix4 j b k d : S12x4x8x128.Idx) a).val := fun a => by
  match a with
  | 0 => show j.val = 0 + 1 * j.val; omega
  | 1 => show b.val = 0 + 1 * b.val; omega
  | 2 => show k.val = 0 + 1 * k.val; omega
  | 3 => show d.val = 0 + 1 * d.val; omega

theorem rEnd_coords (j : Fin 12) (b : Fin 4) (k : Fin 8) (d : Fin 128) : ∀ a, ((ix4 j b ⟨8 + (120 + k.val), by omega⟩ d : S12x4x136x128.Idx) a).val
    = rEnd.off a + rEnd.stride a * ((ix4 j b k d : S12x4x8x128.Idx) a).val := fun a => by
  match a with
  | 0 => show j.val = 0 + 1 * j.val; omega
  | 1 => show b.val = 0 + 1 * b.val; omega
  | 2 => show 8 + (120 + k.val) = 128 + 1 * k.val; omega
  | 3 => show d.val = 0 + 1 * d.val; omega

theorem rS_coords (j : Fin 8) (r c : Fin 256) : ∀ a, ((ix3 j r c : S8x256x256.Idx) a).val
    = (rS j).off a + (rS j).stride a * ((ix3 0 r c : S1x256x256.Idx) a).val := fun a => by
  match a with
  | 0 => show j.val = j.val + 1 * 0; omega
  | 1 => show r.val = 0 + 1 * r.val; omega
  | 2 => show c.val = 0 + 1 * c.val; omega

variable (E : Env) (t : Fin 2) (s : St)

/-! ## Within the tile -/

theorem canon_qkv (j : Fin 12) (m : Fin 512) (d : Fin 128) : ∀ n ≤ 12, j.val < n →
    View.canon (E.qkvL t s n) (ix2 m ⟨128 * j.val + d.val, by omega⟩) = E.qkvV t s j (ix2 m d)
  | 0, _, h => absurd h (Nat.not_lt_zero _)
  | n + 1, hn, h => by
    have e := ofNat_val (k := 12) (n := n) (by omega)
    show View.canon ((⟨rQ (Fin.ofNat 12 n), E.qkvV t s (Fin.ofNat 12 n)⟩ : Pc _) :: E.qkvL t s n) _ = _
    by_cases hj : j.val = n
    · have hf : Fin.ofNat 12 n = j := Fin.ext (e.trans hj.symm)
      rw [hf]
      exact canon_hit (rQ j) _ _ (ix2 m d) _ (rQ_coords j m d)
    · rw [canon_miss _ _ _ 1 (128 * (Fin.ofNat 12 n).val) 128 rfl rfl rfl (by
        show 128 * j.val + d.val < _ ∨ _ ≤ 128 * j.val + d.val; omega)]
      exact canon_qkv j m d n (by omega) (by omega)

theorem canon_ug (g : Fin 4) (m : Fin 512) (d : Fin 128) : ∀ n ≤ 4, g.val < n →
    View.canon (E.ugL t s n) (ix2 m ⟨128 * g.val + d.val, by omega⟩) = ugT (E.P t) g (ix2 m d)
  | 0, _, h => absurd h (Nat.not_lt_zero _)
  | n + 1, hn, h => by
    have e := ofNat_val (k := 4) (n := n) (by omega)
    show View.canon ((⟨rC (Fin.ofNat 4 n), ugT (E.P t) (Fin.ofNat 4 n)⟩ : Pc _) :: E.ugL t s n) _ = _
    by_cases hj : g.val = n
    · have hf : Fin.ofNat 4 n = g := Fin.ext (e.trans hj.symm)
      rw [hf]
      exact canon_hit (rC g) _ _ (ix2 m d) _ (rC_coords g m d)
    · rw [canon_miss _ _ _ 1 (128 * (Fin.ofNat 4 n).val) 128 rfl rfl rfl (by
        show 128 * g.val + d.val < _ ∨ _ ≤ 128 * g.val + d.val; omega)]
      exact canon_ug g m d n (by omega) (by omega)

theorem canon_vln (g : Fin 4) (m : Fin 512) (d : Fin 128) : ∀ n ≤ 4, g.val < n →
    View.canon (E.vlnL t s n) (ix2 m ⟨128 * g.val + d.val, by omega⟩) = vlnT (E.P t) g (E.lg g) (E.lb g) (ix2 m d)
  | 0, _, h => absurd h (Nat.not_lt_zero _)
  | n + 1, hn, h => by
    have e := ofNat_val (k := 4) (n := n) (by omega)
    show View.canon ((⟨rC (Fin.ofNat 4 n), vlnT (E.P t) (Fin.ofNat 4 n) (E.lg (Fin.ofNat 4 n)) (E.lb (Fin.ofNat 4 n))⟩ : Pc _) :: E.vlnL t s n) _ = _
    by_cases hj : g.val = n
    · have hf : Fin.ofNat 4 n = g := Fin.ext (e.trans hj.symm)
      rw [hf]
      exact canon_hit (rC g) _ _ (ix2 m d) _ (rC_coords g m d)
    · rw [canon_miss _ _ _ 1 (128 * (Fin.ofNat 4 n).val) 128 rfl rfl rfl (by
        show 128 * g.val + d.val < _ ∨ _ ≤ 128 * g.val + d.val; omega)]
      exact canon_vln g m d n (by omega) (by omega)

/-- A wide load of the convolution's output. -/
theorem wide_apply (j : Fin 3) (h : Fin 4) (m : Fin 512) (d : Fin 128) :
    E.m21.view.readCov (E.qkvL t s 12) (rW j).toLoadRect (ix2 m (w4 h d)) = E.qkvV t s ⟨4 * j.val + h.val, by omega⟩ (ix2 m d) := by
  rw [cov_at _ _ _ _ (ix2 m ⟨128 * (4 * j.val + h.val) + d.val, by omega⟩) (rW_coords j h m d)]
  exact canon_qkv E t s ⟨4 * j.val + h.val, by omega⟩ m d 12 (le_refl _) (by simp only []; omega)

theorem rdUg_apply (b g : Fin 4) (p d : Fin 128) :
    E.m23.view.readCov (E.ugL t s 4) (rB b g).toLoadRect (ix2 p d) = ugT (E.P t) g (ix2 ⟨b.val * 128 + p.val, by omega⟩ d) := by
  rw [cov_at _ _ _ _ (ix2 ⟨b.val * 128 + p.val, by omega⟩ ⟨128 * g.val + d.val, by omega⟩) (rB_coords b g p d)]
  exact canon_ug E t s g _ d 4 (le_refl _) g.isLt

theorem rdVln_apply (b g : Fin 4) (p d : Fin 128) :
    E.m24.view.readCov (E.vlnL t s 4) (rB b g).toLoadRect (ix2 p d) = vlnT (E.P t) g (E.lg g) (E.lb g) (ix2 ⟨b.val * 128 + p.val, by omega⟩ d) := by
  rw [cov_at _ _ _ _ (ix2 ⟨b.val * 128 + p.val, by omega⟩ ⟨128 * g.val + d.val, by omega⟩) (rB_coords b g p d)]
  exact canon_vln E t s g _ d 4 (le_refl _) g.isLt

theorem rdZ_apply (h : Fin 4) (m : Fin 512) (d : Fin 128) :
    E.m22.view.readCov (E.zL t s) (rC h).toLoadRect (ix2 m d) = zT (E.P t) (ix2 m ⟨128 * h.val + d.val, by omega⟩) := by
  rw [cov_at _ _ _ _ (ix2 m ⟨128 * h.val + d.val, by omega⟩) (rC_coords h m d)]
  exact canon_hit rAll _ _ (ix2 m ⟨128 * h.val + d.val, by omega⟩) _ (rAll_coords m _)

/-! ## The projection's history -/

theorem canon_pre_lo (j : Fin 12) (b : Fin 4) (k : Fin 136) (d : Fin 128) (hk : k.val < 8) : ∀ n,
    View.canon (E.preL t s n) (ix4 j b k d) = View.canon s.pre (ix4 j b k d)
  | 0 => rfl
  | n + 1 => (canon_miss _ _ _ 2 8 128 rfl rfl rfl (.inl hk)).trans (canon_pre_lo j b k d hk n)

theorem canon_pre_hi (j : Fin 12) (b : Fin 4) (p d : Fin 128) : ∀ n ≤ 12, j.val < n →
    View.canon (E.preL t s n) (ix4 j b ⟨8 + p.val, by omega⟩ d) = E.P t (ix2 ⟨b.val * 128 + p.val, by omega⟩ ⟨128 * j.val + d.val, by omega⟩)
  | 0, _, h => absurd h (Nat.not_lt_zero _)
  | n + 1, hn, h => by
    have e := ofNat_val (k := 12) (n := n) (by omega)
    show View.canon ((⟨rP (Fin.ofNat 12 n), preT (E.P t) (Fin.ofNat 12 n)⟩ : Pc _) :: E.preL t s n) _ = _
    by_cases hj : j.val = n
    · have hf : Fin.ofNat 12 n = j := Fin.ext (e.trans hj.symm)
      rw [hf]
      rw [← pre_apply (E.P t) j 0 b p d]
      exact canon_hit (rP j) _ _ (ix4 0 b p d) _ (rP_coords j b p d _ rfl)
    · rw [canon_miss _ _ _ 0 (Fin.ofNat 12 n).val 1 rfl rfl rfl (by show j.val < _ ∨ _ ≤ j.val; omega)]
      exact canon_pre_hi j b p d n (by omega) (by omega)

/-- The rows a shifted load finds: the tile's own projections, or the eight rows before them. -/
def Hist (hal : Fin 12 → Fin 4 → Fin 8 → Fin 128 → EReal) : Prop := ∀ (j : Fin 12) (sh : Fin 3) (b : Fin 4) (p d : Fin 128),
  (E.rdH t (E.preL t s (j.val + 1)) j sh (ix4 0 b p d) : EReal) = if h : sh.val + 1 ≤ p.val then
    E.P t (ix2 ⟨b.val * 128 + (p.val - (sh.val + 1)), by omega⟩ ⟨128 * j.val + d.val, by omega⟩)
    else hal j b ⟨7 - sh.val + p.val, by omega⟩ d

theorem rH_coords (j : Fin 12) (sh : Fin 3) (b : Fin 4) (p d : Fin 128) : ∀ a,
    ((ix4 j b ⟨7 - sh.val + p.val, by omega⟩ d : S12x4x136x128.Idx) a).val = (rH j sh).off a + (rH j sh).stride a * ((ix4 0 b p d : S1x4x128x128.Idx) a).val :=
  fun a => by
    match a with
    | 0 => show j.val = j.val + 1 * 0; omega
    | 1 => show b.val = 0 + 1 * b.val; omega
    | 2 => show 7 - sh.val + p.val = 7 - sh.val + 1 * p.val; omega
    | 3 => show d.val = 0 + 1 * d.val; omega

theorem hist_cov (v : View sig .tc .vmem S12x4x136x128 .f32) (h : E.rdH t = fun L j sh => v.readCov L (rH j sh).toLoadRect) :
    Hist E t s fun j b k d => View.canon s.pre (ix4 j b ⟨k.val, by omega⟩ d) := by
  intro j sh b p d
  rw [h]
  show v.readCov _ (rH j sh).toLoadRect _ = _
  rw [cov_at _ _ _ _ (ix4 j b ⟨7 - sh.val + p.val, by omega⟩ d) (rH_coords j sh b p d)]
  by_cases hp : sh.val + 1 ≤ p.val
  · rw [dif_pos hp, ← canon_pre_hi E t s j b ⟨p.val - (sh.val + 1), by omega⟩ d (j.val + 1) (by omega) (by omega)]
    exact congrArg (fun k => View.canon (E.preL t s (j.val + 1)) (ix4 j b k d)) (Fin.ext (by simp only []; omega))
  · rw [dif_neg hp, canon_pre_lo E t s j b _ d (by simp only []; omega)]

theorem writes_pre_lo (v : View sig .tc .vmem S12x4x136x128 .f32) (f : v.ty.Contents (Elt Ideal)) (hs : s.pre = []) (j : Fin 12) (b : Fin 4) (k : Fin 136)
    (d : Fin 128) (hk : k.val < 8) : ∀ n, v.read (Elt Ideal) (v.writes (Elt Ideal) f (E.preL t s n)) (ix4 j b k d) = v.read (Elt Ideal) f (ix4 j b k d)
  | 0 => by rw [show E.preL t s 0 = [] from hs]; rfl
  | n + 1 => (View.read_writes_cons_miss_of_axis v f _ _ _ 2 8 128 rfl rfl rfl (.inl hk)).trans (writes_pre_lo v f hs j b k d hk n)

theorem hist_at (v : View sig .tc .vmem S12x4x136x128 .f32) (f : v.ty.Contents (Elt Ideal)) (hs : s.pre = [])
    (h : E.rdH t = fun L j sh => View.readAt (Elt Ideal) v (rH j sh).toLoadRect (v.writes (Elt Ideal) f L)) :
    Hist E t s fun j b k d => v.read (Elt Ideal) f (ix4 j b ⟨k.val, by omega⟩ d) := by
  intro j sh b p d
  rw [h]
  show View.readAt (Elt Ideal) v (rH j sh).toLoadRect _ _ = _
  rw [at_at _ _ _ _ (ix4 j b ⟨7 - sh.val + p.val, by omega⟩ d) (rH_coords j sh b p d)]
  by_cases hp : sh.val + 1 ≤ p.val
  · have e := ofNat_val (k := 12) (n := j.val) j.isLt
    have ej : Fin.ofNat 12 j.val = j := Fin.ext e
    rw [dif_pos hp, ← pre_apply (E.P t) j 0 b ⟨p.val - (sh.val + 1), by omega⟩ d]
    show v.read (Elt Ideal) (v.writes (Elt Ideal) f ((⟨rP (Fin.ofNat 12 j.val), preT (E.P t) (Fin.ofNat 12 j.val)⟩ : Pc _) :: E.preL t s j.val)) _ = _
    rw [ej]
    exact View.read_writes_cons_hit_of_coords v f (rP j) _ _ (ix4 0 b ⟨p.val - (sh.val + 1), by omega⟩ d) _ (rP_coords j b _ d _ (by simp only []; omega))
  · rw [dif_neg hp, writes_pre_lo E t s v f hs j b _ d (by simp only []; omega)]

/-- The eight rows left for the next tile are this one's last. -/
theorem next_pre (v : View sig .tc .vmem S12x4x136x128 .f32) (h : E.rdE = fun L => v.readCov L rEnd.toLoadRect) (j : Fin 12) (b : Fin 4) (k : Fin 8) (d : Fin 128) :
    View.canon (E.next t s).pre (ix4 j b ⟨k.val, by omega⟩ d) = E.P t (ix2 ⟨b.val * 128 + (120 + k.val), by omega⟩ ⟨128 * j.val + d.val, by omega⟩) := by
  show View.canon ((⟨rTop, shapeCast S12x4x8x128 (E.rdE (E.preL t s 12)) shapeCasts_S12x4x8x128_S12x4x8x128⟩ : Pc _) :: E.preL t s 12) _ = _
  rw [canon_hit rTop _ _ (ix4 j b k d) _ (rTop_coords j b k d)]
  have e : shapeCast S12x4x8x128 (E.rdE (E.preL t s 12)) shapeCasts_S12x4x8x128_S12x4x8x128 (ix4 j b k d) = E.rdE (E.preL t s 12) (ix4 j b k d) := by
    pointwise
  refine e.trans ?_
  rw [h]
  show v.readCov _ rEnd.toLoadRect _ = _
  rw [cov_at _ _ _ _ (ix4 j b ⟨8 + (120 + k.val), by omega⟩ d) (rEnd_coords j b k d)]
  exact canon_pre_hi E t s j b ⟨120 + k.val, by omega⟩ d 12 (le_refl _) j.isLt

/-! ## The states -/

/-- Sequence `b`'s pair of states, the last of chunk `n`'s. -/
theorem canon_sp_hit (k : ℕ) (p : Fin 2) (r c : Fin 256) : ∀ n, k < n → n ≤ k + 4 →
    View.canon (E.spL t s n) (ix3 ⟨2 * (k % 4) + p.val, by omega⟩ r c) = E.upd t s (E.spL t s k) k p (ix3 0 r c)
  | 0, h, _ => absurd h (Nat.not_lt_zero _)
  | n + 1, h, hn => by
    show View.canon ((⟨rS ⟨2 * (n % 4) + 1, by omega⟩, E.upd t s (E.spL t s n) n 1⟩ : Pc _) :: (⟨rS ⟨2 * (n % 4), by omega⟩, E.upd t s (E.spL t s n) n 0⟩ : Pc _)
      :: E.spL t s n) _ = _
    by_cases hk : k = n
    · subst hk
      match p with
      | 1 => exact canon_hit (rS ⟨2 * (k % 4) + 1, by omega⟩) _ _ (ix3 0 r c) _ (rS_coords ⟨2 * (k % 4) + 1, by omega⟩ r c)
      | 0 =>
        rw [canon_miss _ _ _ 0 (2 * (k % 4) + 1) 1 rfl rfl rfl (by show 2 * (k % 4) + 0 < _ ∨ _ ≤ 2 * (k % 4) + 0; omega)]
        exact canon_hit (rS ⟨2 * (k % 4), by omega⟩) _ _ (ix3 0 r c) _ (rS_coords ⟨2 * (k % 4), by omega⟩ r c)
    · rw [canon_miss _ _ _ 0 (2 * (n % 4) + 1) 1 rfl rfl rfl (by
          show 2 * (k % 4) + p.val < _ ∨ _ ≤ 2 * (k % 4) + p.val; omega),
        canon_miss _ _ _ 0 (2 * (n % 4)) 1 rfl rfl rfl (by
          show 2 * (k % 4) + p.val < _ ∨ _ ≤ 2 * (k % 4) + p.val; omega)]
      exact canon_sp_hit k p r c n (by omega) (by omega)

theorem canon_sp_old (b : Fin 4) (p : Fin 2) (r c : Fin 256) : ∀ n ≤ b.val,
    View.canon (E.spL t s n) (ix3 ⟨2 * b.val + p.val, by omega⟩ r c) = View.canon s.sp (ix3 ⟨2 * b.val + p.val, by omega⟩ r c)
  | 0, _ => rfl
  | n + 1, h => by
    show View.canon ((⟨rS ⟨2 * (n % 4) + 1, by omega⟩, E.upd t s (E.spL t s n) n 1⟩ : Pc _) :: (⟨rS ⟨2 * (n % 4), by omega⟩, E.upd t s (E.spL t s n) n 0⟩ : Pc _)
      :: E.spL t s n) _ = _
    rw [canon_miss _ _ _ 0 (2 * (n % 4) + 1) 1 rfl rfl rfl (by
          show 2 * b.val + p.val < _ ∨ _ ≤ 2 * b.val + p.val; omega),
        canon_miss _ _ _ 0 (2 * (n % 4)) 1 rfl rfl rfl (by
          show 2 * b.val + p.val < _ ∨ _ ≤ 2 * b.val + p.val; omega)]
    exact canon_sp_old b p r c n (by omega)

theorem sT_apply (x : V S1x256x256) (r c : Fin 256) : sT x (ix2 r c) = x (ix3 0 r c) := by
  unfold sT
  pointwise

theorem stT_apply (x : V S256x256) (u : Fin 1) (r c : Fin 256) : stT x (ix3 u r c) = x (ix2 r c) := by
  unfold stT
  pointwise

end Cert.Proof.Mixer

end
-- ==== Proof.MixChunk.lean ====
/-
  One chunk of 64 positions of one head: with finite queries, keys, values and gates, what the tile computes from the state is the
  delta rule's output and its state, position after position.
-/
module

public import proofs.«01_k».proof.Defs
public import proofs.«01_k».proof.Proof.MixIdx
public import proofs.«01_k».proof.Proof.Delta

@[expose] public section

set_option maxRecDepth 16384

noncomputable section

namespace Cert.Proof.Mixer

open Idealize.ShloMosaic Idealize.SL.Sem Cert.KernelIdeal Cert.KernelIdeal.Gen

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem coe_dot {ι : Type} [Fintype ι] {f g : ι → EReal} {f' g' : ι → ℝ} (hf : ∀ i, f i = (f' i : ℝ)) (hg : ∀ i, g i = (g' i : ℝ)) :
    ∑ i, f i * g i = ((∑ i, f' i * g' i : ℝ) : EReal) := by
  rw [← coe_sum]
  exact Finset.sum_congr rfl fun i _ => by rw [hf, hg, EReal.coe_mul]

/-- Head `h` of block `r` of a tile's matrix is a real matrix. -/
def Is (X : V S512x256) (r : Fin 8) (h : Fin 4) (M : Delta.Mat) : Prop := ∀ i j, (X (ix2 (row r i) (c4 h j)) : EReal) = ((M i j : ℝ) : EReal)

section Inverse

variable {r : Fin 8} {h : Fin 4}

theorem Is.times1 {X Y : V S512x256} {A B : Delta.Mat} (hX : Is X r h A) (hY : Is Y r h B) : Is (times1 (t16 X) (t16 Y)) r h (A * B) := by
  intro i j
  rw [times1_apply, Matrix.mul_apply]
  exact coe_dot (hX i) fun n => hY n j

theorem Is.add {X Y : V S512x256} {A B : Delta.Mat} (hX : Is X r h A) (hY : Is Y r h B) : Is (addf X Y) r h (A + B) := by
  intro i j
  show (X _ : EReal) + Y _ = _
  rw [hX, hY, Matrix.add_apply, EReal.coe_add]

theorem Is.neg {X : V S512x256} {A : Delta.Mat} (hX : Is X r h A) : Is (negT X) r h (-A) := by
  intro i j
  show (kf 0x00000000#32 : EReal) - X _ = _
  rw [hX, kf_zero, zero_sub, Matrix.neg_apply, EReal.coe_neg]

theorem Is.eye : Is eyeT r h 1 := by
  intro i j
  rw [eye_apply, Matrix.one_apply]
  by_cases e : i = j
  · simp [e]
  · rw [if_neg (fun e' => e (Fin.ext e')), if_neg e]; simp

theorem Is.dbl {s : V S512x256 × V S512x256} {A B : Delta.Mat} (hA : Is s.1 r h A) (hB : Is s.2 r h B) :
    Is (dblT s).1 r h (Delta.dbl (A, B)).1 ∧ Is (dblT s).2 r h (Delta.dbl (A, B)).2 := by
  constructor
  · intro i j
    show (cat8 (fun r => topT (times2 (t16 s.1) (t16 s.2) (t16 s.1) r)) (ix2 (row r i) (c4 h j)) : EReal) = (((A * A) i j : ℝ) : EReal)
    rw [cat8_apply, times2_top, Matrix.mul_apply]
    exact coe_dot (hA i) fun n => hA n j
  · refine Is.add hB fun i j => ?_
    rw [cat8_apply, times2_bot, Matrix.mul_apply]
    exact coe_dot (hB i) fun n => hA n j

theorem Is.inv {X : V S512x256} {A : Delta.Mat} (hX : Is X r h A) : Is (invT X) r h (Delta.inv (-A)) := by
  have h1 := Is.dbl (s := inv1T X) (hX.neg.times1 hX.neg) (Is.eye.add hX.neg)
  have h2 := Is.dbl h1.1 h1.2
  have h3 := Is.dbl h2.1 h2.2
  have h4 := Is.dbl h3.1 h3.2
  exact h4.2.add (h4.2.times1 h4.1)

end Inverse

/-! ## A chunk -/

/-- The reals of one head's chunk. -/
structure Chunk (G : V S512x128) (q k v : V S512x512) (r : Fin 8) (h : Fin 4) (g β : ℕ → ℝ) (q' k' v' : ℕ → Fin 128 → ℝ) : Prop where
  b : ∀ i : Fin 64, (G (ix2 (row r i) ⟨h.val, by omega⟩) : EReal) = ((β i : ℝ) : EReal)
  g : ∀ i : Fin 64, (G (ix2 (row r i) ⟨4 + h.val, by omega⟩) : EReal) = ((Delta.gc g (i.val + 1) : ℝ) : EReal)
  q : ∀ (i : Fin 64) d, (q (ix2 (row r i) (w4 h d)) : EReal) = ((q' i d : ℝ) : EReal)
  k : ∀ (i : Fin 64) d, (k (ix2 (row r i) (w4 h d)) : EReal) = ((k' i d : ℝ) : EReal)
  v : ∀ (i : Fin 64) d, (v (ix2 (row r i) (w4 h d)) : EReal) = ((v' i d : ℝ) : EReal)

namespace Chunk

variable {G : V S512x128} {q k v : V S512x512} {r : Fin 8} {h : Fin 4} {g β : ℕ → ℝ} {q' k' v' : ℕ → Fin 128 → ℝ}
  (C : Chunk G q k v r h g β q' k' v')

/-- The strictly lower part, negated. -/
def N (g β : ℕ → ℝ) (k' : ℕ → Fin 128 → ℝ) : Delta.Mat :=
  fun i j => if j < i then -(Delta.kk k' i j * β i * Real.exp (Delta.gc g (i.val + 1) - Delta.gc g (j.val + 1))) else 0

include C

theorem exp_sub (i j : Fin 64) : Ideal.exp ((G (ix2 (row r i) ⟨4 + h.val, by omega⟩) : EReal) - G (ix2 (row r j) ⟨4 + h.val, by omega⟩))
    = ((Real.exp (Delta.gc g (i.val + 1) - Delta.gc g (j.val + 1)) : ℝ) : EReal) := by
  rw [C.g, C.g, ← EReal.coe_sub, Ideal.exp_coe]

theorem amat : Is (amatT G (t16 q) (t16 k)) r h (-N g β k') := by
  intro i j
  have e : amatT G (t16 q) (t16 k) (ix2 (row r i) (c4 h j)) = Scalar.select (strictT (ix2 (row r i) (c4 h j)))
      ((kkT (t16 q) (t16 k) (ix2 (row r i) (c4 h j)) : EReal) * bcolT G (ix2 (row r i) (c4 h j)) * decayT G (ix2 (row r i) (c4 h j)))
      (kf 0x00000000#32) := rfl
  rw [e, strict_apply, kk_apply, bcol_apply, decay_apply, kf_zero, Matrix.neg_apply]
  unfold N
  by_cases hlt : j < i
  · have hlt' : j.val < i.val := hlt
    rw [if_pos hlt', if_pos (by omega), if_pos hlt, C.exp_sub, C.b, neg_neg, EReal.coe_mul, EReal.coe_mul]
    congr 2
    exact coe_dot (C.k i) (C.k j)
  · rw [if_neg (show ¬j.val < i.val from hlt), if_neg hlt]; simp

theorem inv : Is (invT (amatT G (t16 q) (t16 k))) r h (Delta.inv (N g β k')) := by
  have := C.amat.inv
  rwa [neg_neg] at this

theorem invb (i j : Fin 64) : (invbT G (invT (amatT G (t16 q) (t16 k))) (ix2 (row r i) (c4 h j)) : EReal)
    = ((Delta.inv (N g β k') i j * β j : ℝ) : EReal) := by
  show (invT (amatT G (t16 q) (t16 k)) (ix2 (row r i) (c4 h j)) : EReal) * browT G (ix2 (row r i) (c4 h j)) = _
  rw [C.inv, brow_apply, C.b, EReal.coe_mul]

theorem u (i : Fin 64) (d : Fin 128) : (uT G (invT (amatT G (t16 q) (t16 k))) (t16 v) (ix2 (row r i) (w4 h d)) : EReal)
    = ((∑ j : Fin 64, Delta.inv (N g β k') i j * β j * v' j d : ℝ) : EReal) := by
  unfold uT
  rw [cat8w_apply, times_head]
  exact coe_dot (fun n => (blk_apply ..).trans (C.invb i n)) (fun n => (blkw_apply ..).trans (C.v n d))

theorem w (i : Fin 64) (d : Fin 128) : (w16T G (invT (amatT G (t16 q) (t16 k))) (t16 k) (ix2 (row r i) (w4 h d)) : EReal)
    = ((∑ j : Fin 64, Delta.inv (N g β k') i j * β j * Real.exp (Delta.gc g (j.val + 1)) * k' j d : ℝ) : EReal) := by
  show cat8w (fun r => matmul dot_S64x256_S256x512_S64x512_1_0_0_1_n_n none
    (blk (t16 (mulf (invbT G (invT (amatT G (t16 q) (t16 k)))) (exp (growT G)))) r) (headT (blkw (t16 k) r))
    (constant S64x512 .f32 0x00000000#32)) (ix2 (row r i) (w4 h d)) = _
  rw [cat8w_apply, times_head]
  refine coe_dot (fun n => (blk_apply ..).trans ?_) (fun n => (blkw_apply ..).trans (C.k n d))
  show (invbT G (invT (amatT G (t16 q) (t16 k))) (ix2 (row r i) (c4 h n)) : EReal) * Ideal.exp (growT G (ix2 (row r i) (c4 h n))) = _
  rw [C.invb, grow_apply, C.g, Ideal.exp_coe, EReal.coe_mul _ (Real.exp _)]

theorem qk (i j : Fin 64) : (qk16T G (t16 q) (t16 k) (ix2 (row r i) (c4 h j)) : EReal)
    = (((if j.val ≤ i.val then (∑ d, q' i d * k' j d) * Real.exp (Delta.gc g (i.val + 1) - Delta.gc g (j.val + 1)) else 0) : ℝ) : EReal) := by
  show (qkT (t16 q) (t16 k) (ix2 (row r i) (c4 h j)) : EReal) * decayT G (ix2 (row r i) (c4 h j)) = _
  rw [qk_apply, decay_apply]
  split
  · rw [C.exp_sub, EReal.coe_mul]
    congr 1
    exact coe_dot (C.q i) (C.k j)
  · simp

theorem qg (i : Fin 64) (d : Fin 128) : (qg16T G q (ix2 (row r i) (w4 h d)) : EReal) = ((q' i d * Real.exp (Delta.gc g (i.val + 1)) : ℝ) : EReal) := by
  show (q (ix2 (row r i) (w4 h d)) : EReal) * Ideal.exp (gwideT G (ix2 (row r i) (w4 h d))) = _
  rw [gwide_apply, C.g, C.q, Ideal.exp_coe, EReal.coe_mul]

omit C in
theorem glast_apply (i : Fin 64) (d : Fin 128) : glastT G (ix2 (row r i) (w4 h d)) = G (ix2 (row r 63) ⟨4 + h.val, by omega⟩) := by
  unfold glastT
  rw [cat8w_apply]
  pointwise
  rw [blkw_apply, gwide_apply]

theorem kd (i : Fin 64) (d : Fin 128) : (kd16T G k (ix2 (row r i) (w4 h d)) : EReal)
    = ((k' i d * Real.exp (Delta.gc g 64 - Delta.gc g (i.val + 1)) : ℝ) : EReal) := by
  show (k (ix2 (row r i) (w4 h d)) : EReal) * Ideal.exp ((glastT G (ix2 (row r i) (w4 h d)) : EReal) - gwideT G (ix2 (row r i) (w4 h d))) = _
  rw [glast_apply, gwide_apply, C.exp_sub, C.k, EReal.coe_mul]
  rfl

theorem sd (i : Fin 64) (d : Fin 128) : (sdecayT G (ix2 (row r i) (w4 h d)) : EReal) = ((Real.exp (Delta.gc g 64) : ℝ) : EReal) := by
  show Ideal.exp (glastT G (ix2 (row r i) (w4 h d))) = _
  rw [glast_apply, C.g, Ideal.exp_coe]
  rfl

end Chunk

/-! ## The state -/

/-- A pair of heads' states, block diagonal. -/
def IsS (s : V S256x256) (p : Fin 2) (S : Fin 4 → Fin 128 → Fin 128 → ℝ) : Prop :=
  ∀ n c : Fin 256, (s (ix2 n c) : EReal)
    = if n.val / 128 = c.val / 128 then ((S ⟨2 * p.val + n.val / 128, by omega⟩ ⟨n.val % 128, by omega⟩ ⟨c.val % 128, by omega⟩ : ℝ) : EReal) else 0

theorem half_apply {φ : FTy} (x : FVec Ideal S64x512 φ) (p : Fin 2) (i : Fin 64) (c : Fin 256) :
    half x p (ix2 i c) = x (ix2 i ⟨256 * p.val + c.val, by omega⟩) := by
  unfold half
  pointwise

theorem join_apply (f : Fin 2 → V S64x256) (i : Fin 64) (h : Fin 4) (e : Fin 128) :
    joinT f (ix2 i (w4 h e)) = f ⟨h.val / 2, by omega⟩ (ix2 i ⟨h.val % 2 * 128 + e.val, by omega⟩) :=
  concatenate_ofFn_apply (t := S64x512) (s₁ := S64x256) 1 f concatenates_S64x256_S64x256_S64x512_d1
    rfl 256 rfl (ix2 i (w4 h e)) ⟨h.val / 2, by omega⟩ (show (h.val * 128 + e.val) / 256 = h.val / 2 by omega) (ix2 i ⟨h.val % 2 * 128 + e.val, by omega⟩)
    (show h.val % 2 * 128 + e.val = (h.val * 128 + e.val) % 256 by omega) (fun b hb => by
      match b, hb with
      | 0, _ => rfl
      | 1, hb => exact absurd rfl hb)

theorem wq_top (w qg : H S64x512) (s : V S256x256) (p : Fin 2) (i : Fin 64) (c : Fin 256) :
    topT (wqT w qg s p) (ix2 i c) = ∑ n : Fin 256, w (ix2 i ⟨256 * p.val + n.val, by omega⟩) * s (ix2 n c) := by
  unfold topT wqT stack
  pointwise
  simp only [half_apply]

theorem wq_bot (w qg : H S64x512) (s : V S256x256) (p : Fin 2) (i : Fin 64) (c : Fin 256) :
    botT (wqT w qg s p) (ix2 i c) = ∑ n : Fin 256, qg (ix2 i ⟨256 * p.val + n.val, by omega⟩) * s (ix2 n c) := by
  unfold botT wqT stack
  pointwise
  simp only [half_apply]

/-- A row of a pair times the pair's state. -/
theorem sum_state {s : V S256x256} {S : Fin 4 → Fin 128 → Fin 128 → ℝ} (h : Fin 4) (hs : IsS s ⟨h.val / 2, by omega⟩ S) (x : Fin 512 → EReal)
    (x' : Fin 128 → ℝ) (hx : ∀ d, x (w4 h d) = ((x' d : ℝ) : EReal)) (e : Fin 128) :
    ∑ n : Fin 256, x ⟨256 * (h.val / 2) + n.val, by omega⟩ * (s (ix2 n ⟨h.val % 2 * 128 + e.val, by omega⟩) : EReal)
      = ((∑ d, x' d * S h d e : ℝ) : EReal) := by
  rw [Fin.sum_univ_tiles 2 128 rfl, Finset.sum_eq_single (⟨h.val % 2, by omega⟩ : Fin 2)]
  · refine coe_dot (fun d => Eq.trans ?_ (hx d)) fun d => ?_
    · exact congrArg x (Fin.ext (by simp only []; omega))
    · rw [hs, if_pos (by simp only []; omega)]
      congr 2
      · ext; simp only []; omega
      · ext; simp only []; omega
      · ext; simp only []; omega
  · intro b _ hne
    refine Finset.sum_eq_zero fun j _ => ?_
    have := Fin.val_ne_of_ne hne
    simp only [] at this
    rw [hs, if_neg (by simp only []; omega), mul_zero]
  · exact fun h' => absurd (Finset.mem_univ _) h'

namespace Chunk

variable {G : V S512x128} {q k v : V S512x512} {r : Fin 8} {h : Fin 4} {g β : ℕ → ℝ} {q' k' v' : ℕ → Fin 128 → ℝ}
  (C : Chunk G q k v r h g β q' k' v')

/-- The corrected values. -/
def vnR (g β : ℕ → ℝ) (k' v' : ℕ → Fin 128 → ℝ) (S0 : Fin 128 → Fin 128 → ℝ) (i : ℕ) (e : Fin 128) : ℝ :=
  if hi : i < 64 then (∑ j : Fin 64, Delta.inv (N g β k') ⟨i, hi⟩ j * β j * v' j e)
    - ∑ d, (∑ j : Fin 64, Delta.inv (N g β k') ⟨i, hi⟩ j * β j * Real.exp (Delta.gc g (j.val + 1)) * k' j d) * S0 d e
  else 0

theorem corrected (g β : ℕ → ℝ) (k' v' : ℕ → Fin 128 → ℝ) (S0 : Fin 128 → Fin 128 → ℝ) :
    Delta.Corrected g β k' v' S0 (vnR g β k' v' S0) :=
  Delta.corrected_of_inv (N g β k') (fun _ _ => rfl) _ fun i e => by unfold vnR; rw [dif_pos i.isLt]

/-- The tile's values of one chunk. -/
abbrev tu (G : V S512x128) (q k v : V S512x512) (r : Fin 8) : V S64x512 := blkw (uT G (invT (amatT G (t16 q) (t16 k))) (t16 v)) r
abbrev tw (G : V S512x128) (q k : V S512x512) (r : Fin 8) : H S64x512 := blkw (w16T G (invT (amatT G (t16 q) (t16 k))) (t16 k)) r

include C

variable {s : Fin 2 → V S256x256} {S : Fin 4 → Fin 128 → Fin 128 → ℝ} (hs : ∀ p, IsS (s p) p S)

include hs

theorem vn (i : Fin 64) (e : Fin 128) : (vnT (tu G q k v r) (tw G q k r) (blkw (qg16T G q) r) s (ix2 i (w4 h e)) : EReal)
    = ((vnR g β k' v' (S h) i e : ℝ) : EReal) := by
  show joinT (fun p => subf (half (tu G q k v r) p) (topT (wqT (tw G q k r) (blkw (qg16T G q) r) (s p) p))) (ix2 i (w4 h e)) = _
  rw [join_apply]
  show (half (tu G q k v r) _ _ : EReal) - topT _ _ = _
  rw [half_apply, wq_top, sum_state h (hs _) (fun c => tw G q k r (ix2 i c)) _ (fun d => (blkw_apply ..).trans (C.w i d)) e]
  unfold vnR
  rw [dif_pos i.isLt, EReal.coe_sub]
  congr 1
  refine Eq.trans ?_ ((blkw_apply ..).trans (C.u i e))
  exact congrArg (fun c => blkw (uT G (invT (amatT G (t16 q) (t16 k))) (t16 v)) r (ix2 i c)) (Fin.ext (by simp only []; omega))

/-- The chunk's outputs. -/
theorem o (i : Fin 64) (e : Fin 128) :
    (oT (tu G q k v r) (tw G q k r) (blkw (qg16T G q) r) (blk (qk16T G (t16 q) (t16 k)) r) s (ix2 i (w4 h e)) : EReal)
    = ((∑ d, q' i d * Delta.st g β k' v' (S h) (i.val + 1) d e : ℝ) : EReal) := by
  show (joinT (fun p => botT (wqT (tw G q k r) (blkw (qg16T G q) r) (s p) p)) (ix2 i (w4 h e)) : EReal)
    + matmul dot_S64x256_S256x512_S64x512_1_0_0_1_n_n none (blk (qk16T G (t16 q) (t16 k)) r)
      (headT (vnT (tu G q k v r) (tw G q k r) (blkw (qg16T G q) r) s)) (constant S64x512 .f32 0x00000000#32) (ix2 i (w4 h e)) = _
  rw [join_apply, wq_bot, sum_state h (hs _) (fun c => blkw (qg16T G q) r (ix2 i c)) _ (fun d => (blkw_apply ..).trans (C.qg i d)) e, times_head,
    coe_dot (fun n => (blk_apply ..).trans (C.qk i n)) (fun n => C.vn hs n e), ← EReal.coe_add,
    Delta.out_eq (corrected g β k' v' (S h)) i.val i.isLt e]
  congr 2
  rw [Fin.sum_univ_eq_sum_range (fun j => (if j ≤ i.val then (∑ d, q' i d * k' j d) * Real.exp (Delta.gc g (i.val + 1) - Delta.gc g (j + 1)) else 0)
    * vnR g β k' v' (S h) j e) 64, ← Finset.sum_subset (Finset.range_subset_range.mpr (show i.val + 1 ≤ 64 by omega))]
  · exact Finset.sum_congr rfl fun j hj => by rw [if_pos (by have := Finset.mem_range.mp hj; omega)]
  · intro j _ hj
    rw [if_neg (by have := mt Finset.mem_range.mpr hj; omega), zero_mul]

end Chunk

/-- The pair's states after a chunk. -/
theorem upd_apply {G : V S512x128} {q k v : V S512x512} {r : Fin 8} {g β : Fin 4 → ℕ → ℝ} {q' k' v' : Fin 4 → ℕ → Fin 128 → ℝ}
    (C : ∀ h, Chunk G q k v r h (g h) (β h) (q' h) (k' h) (v' h)) {s : Fin 2 → V S256x256} {S : Fin 4 → Fin 128 → Fin 128 → ℝ}
    (hs : ∀ p, IsS (s p) p S) (p : Fin 2) :
    IsS (updT (blkw (kd16T G k) r) (vnT (Chunk.tu G q k v r) (Chunk.tw G q k r) (blkw (qg16T G q) r) s) (blkw (sdecayT G) r) (s p) p) p
      (fun h => Delta.st (g h) (β h) (k' h) (v' h) (S h) 64) := by
  intro n c
  unfold updT
  show (s p (ix2 n c) : EReal) * _ + Scalar.select (mpairT (ix2 n c)) _ _ = _
  rw [mpair_apply]
  have hsd : (broadcastTo S256x256 (extractStridedSlice S1x256 ![0, 256 * p.val] (blkw (sdecayT G) r) (half1_ok p)) broadcasts_S1x256_S256x256 (ix2 n c) : EReal)
      = ((Real.exp (Delta.gc (g ⟨2 * p.val + c.val / 128, by omega⟩) 64) : ℝ) : EReal) := by
    pointwise
    refine Eq.trans ?_ ((blkw_apply ..).trans ((C ⟨2 * p.val + c.val / 128, by omega⟩).sd 0 ⟨c.val % 128, by omega⟩))
    exact congrArg (fun c => blkw (sdecayT G) r (ix2 0 c)) (Fin.ext (by simp only []; omega))
  have hm : matmul dot_S64x256_S64x256_S256x256_0_0_1_1_n_n none (half (blkw (kd16T G k) r) p)
      (half (vnT (Chunk.tu G q k v r) (Chunk.tw G q k r) (blkw (qg16T G q) r) s) p) (constant S256x256 .f32 0x00000000#32) (ix2 n c)
      = ∑ i : Fin 64, blkw (kd16T G k) r (ix2 i ⟨256 * p.val + n.val, by omega⟩) *
        vnT (Chunk.tu G q k v r) (Chunk.tw G q k r) (blkw (qg16T G q) r) s (ix2 i ⟨256 * p.val + c.val, by omega⟩) := by
    pointwise
    simp only [half_apply]
  rw [hsd, hm, hs p n c]
  by_cases hd : n.val / 128 = c.val / 128
  · rw [if_pos hd, if_pos hd, if_pos hd]
    have hh : (⟨2 * p.val + n.val / 128, by omega⟩ : Fin 4) = ⟨2 * p.val + c.val / 128, by omega⟩ := Fin.ext (by simp only []; omega)
    rw [hh]
    generalize hH : (⟨2 * p.val + c.val / 128, by omega⟩ : Fin 4) = H
    have hv : H.val = 2 * p.val + c.val / 128 := by rw [← hH]
    rw [coe_dot (f' := fun i : Fin 64 => k' H i ⟨n.val % 128, by omega⟩ * Real.exp (Delta.gc (g H) 64 - Delta.gc (g H) (i.val + 1)))
      (g' := fun i : Fin 64 => Chunk.vnR (g H) (β H) (k' H) (v' H) (S H) i ⟨c.val % 128, by omega⟩)
      (fun i => Eq.trans ?_ ((blkw_apply ..).trans ((C H).kd i ⟨n.val % 128, by omega⟩))) (fun i => Eq.trans ?_ ((C H).vn hs i ⟨c.val % 128, by omega⟩)),
      ← EReal.coe_mul, ← EReal.coe_add, ← Delta.last_eq (Chunk.corrected (g H) (β H) (k' H) (v' H) (S H))]
    · exact congrArg (fun c => blkw (kd16T G k) r (ix2 i c)) (Fin.ext (by simp only []; omega))
    · exact congrArg (fun c => vnT (Chunk.tu G q k v r) (Chunk.tw G q k r) (blkw (qg16T G q) r) s (ix2 i c)) (Fin.ext (by simp only []; omega))
  · rw [if_neg hd, if_neg hd, if_neg hd, zero_mul, zero_add]
    exact kf_zero

end Cert.Proof.Mixer

end
-- ==== Proof.MixTileSpec.lean ====
/-
  One tile of the mixer computes the mixer's rows of its positions, and leaves what the next tile needs.
-/
module

public import proofs.«01_k».proof.Defs
public import proofs.«01_k».proof.Proof.MixRead
public import proofs.«01_k».proof.Proof.MixChunk

@[expose] public section

set_option maxRecDepth 16384

noncomputable section

namespace Cert.Proof.Mixer

open Idealize.ShloMosaic Idealize.SL.Sem Cert.KernelIdeal Cert.KernelIdeal.Gen

/-- The delta rule from position `a` on is the whole one, started from its state there. -/
theorem st_shift (g β : ℕ → ℝ) (k v : ℕ → Fin 128 → ℝ) (S : Fin 128 → Fin 128 → ℝ) (a : ℕ) : ∀ i,
    Delta.st (fun n => g (a + n)) (fun n => β (a + n)) (fun n => k (a + n)) (fun n => v (a + n)) (Delta.st g β k v S a) i = Delta.st g β k v S (a + i)
  | 0 => rfl
  | i + 1 => by
    funext d e
    show _ = Delta.st g β k v S ((a + i) + 1) d e
    unfold Delta.st
    rw [st_shift g β k v S a i]
    rfl

theorem sum8 {s0 s1 s2 s3 s4 s5 s6 s7 r0 r1 r2 r3 r4 r5 r6 r7 : EReal} (h0 : s0 = r0) (h1 : s1 = r1) (h2 : s2 = r2) (h3 : s3 = r3) (h4 : s4 = r4)
    (h5 : s5 = r5) (h6 : s6 = r6) (h7 : s7 = r7) :
    r4 + r5 + (r6 + r7) + (r0 + r1) + (r2 + r3) = s0 + s1 + s2 + s3 + s4 + s5 + s6 + s7 := by
  subst h0 h1 h2 h3 h4 h5 h6 h7
  ac_rfl

/-- The step's blocks hold the arguments' elements; its sequences are `sq`, its tiles start at `T`. -/
structure Reads (E : Env) (A : Spec.Args) (sq : Fin 4 → Fin 8) (T : Fin 2 → ℕ) : Prop where
  x : ∀ t b p e, (E.x t (ix3 b p e) : EReal) = A.x (sq b) (T t + p.val) e
  nrm : ∀ e, (E.nrm (ix3 0 0 e) : EReal) = A.nm e
  wq : ∀ e (c : Fin 1536), (E.w (ix2 e ⟨c.val, by omega⟩) : EReal) = A.wi e ⟨c.val, by omega⟩
  wg : ∀ e (c : Fin 8), (E.w (ix2 e ⟨1536 + c.val, by omega⟩) : EReal) = A.wi e ⟨2048 + c.val, by omega⟩
  wm : ∀ e (c : Fin 1024), (E.w (ix2 e ⟨1664 + c.val, by omega⟩) : EReal) = A.wi e ⟨2056 + c.val, by omega⟩
  wz : ∀ e (c : Fin 512), (E.w (ix2 e ⟨2688 + c.val, by omega⟩) : EReal) = A.wi e ⟨1536 + c.val, by omega⟩
  cw : ∀ j k d, (E.cw j k (ix3 0 0 d) : EReal) = A.cw k ⟨128 * j.val + d.val, by omega⟩
  alog : ∀ h : Fin 4, (E.alog (ix3 0 0 ⟨4 + h.val, by omega⟩) : EReal) = A.al h
  dtb : ∀ h : Fin 4, (E.dtb (ix3 0 0 ⟨4 + h.val, by omega⟩) : EReal) = A.dt h
  ong : ∀ d, (E.ong (ix3 0 0 d) : EReal) = A.og d
  lg : ∀ g d, (E.lg g (ix3 0 0 d) : EReal) = A.lg (Spec.at4 g d)
  lb : ∀ g d, (E.lb g (ix3 0 0 d) : EReal) = A.lb (Spec.at4 g d)
  ws : ∀ g p s, (E.ws g (ix4 0 0 p s) : EReal) = A.ws g p s
  bs : ∀ g p d, (E.bs g (ix4 0 0 p d) : EReal) = A.bs g p
  wo : ∀ (p : Fin 4) (i : Fin 256) l, (E.wo p (ix2 i l) : EReal) = A.wo ⟨256 * p.val + i.val, by omega⟩ l

section Tile

variable {E : Env} {A : Spec.Args} {sq : Fin 4 → Fin 8} {T : Fin 2 → ℕ} (R : Reads E A sq T) (t : Fin 2) (s : St)

abbrev mb (m : Fin 512) : Fin 4 := ⟨m.val / 128, by omega⟩
abbrev mp (m : Fin 512) : Fin 128 := ⟨m.val % 128, by omega⟩

include R

theorem P_of (m : Fin 512) (c : Fin 3200) (c' : Fin 3080) (hw : ∀ e, (E.w (ix2 e c) : EReal) = A.wi e c') :
    (E.P t (ix2 m c) : EReal) = A.proj (sq (mb m)) (T t + m.val % 128) c' := by
  unfold Env.P
  rw [projT_apply]
  simp only [R.x, R.nrm, hw]
  rfl

theorem P_q (m : Fin 512) (c : Fin 1536) : (E.P t (ix2 m ⟨c.val, by omega⟩) : EReal) = A.proj (sq (mb m)) (T t + m.val % 128) ⟨c.val, by omega⟩ :=
  P_of R t m _ _ fun e => R.wq e c
theorem P_g (m : Fin 512) (c : Fin 8) : (E.P t (ix2 m ⟨1536 + c.val, by omega⟩) : EReal) = A.proj (sq (mb m)) (T t + m.val % 128) ⟨2048 + c.val, by omega⟩ :=
  P_of R t m _ _ fun e => R.wg e c
theorem P_m (m : Fin 512) (c : Fin 1024) : (E.P t (ix2 m ⟨1664 + c.val, by omega⟩) : EReal) = A.proj (sq (mb m)) (T t + m.val % 128) ⟨2056 + c.val, by omega⟩ :=
  P_of R t m _ _ fun e => R.wm e c
theorem P_z (m : Fin 512) (c : Fin 512) : (E.P t (ix2 m ⟨2688 + c.val, by omega⟩) : EReal) = A.proj (sq (mb m)) (T t + m.val % 128) ⟨1536 + c.val, by omega⟩ :=
  P_of R t m _ _ fun e => R.wz e c

/-! ## Gates -/

theorem G_lo (m : Fin 512) (h : Fin 4) : (E.G t (ix2 m ⟨h.val, by omega⟩) : EReal) = A.beta (sq (mb m)) h (T t + m.val % 128) := by
  unfold Env.G
  rw [gates_lo]
  exact congrArg Spec.sig (P_g R t m ⟨h.val, by omega⟩)

theorem G_hi (r : Fin 8) (i : Fin 64) (h : Fin 4) : (E.G t (ix2 (row r i) ⟨4 + h.val, by omega⟩) : EReal)
    = ∑ j ∈ Finset.range (i.val + 1), A.g (sq ⟨r.val / 2, by omega⟩) h (T t + 64 * (r.val % 2) + j) := by
  unfold Env.G
  rw [gates_hi]
  refine csum_apply _ r _ (fun j => A.g (sq ⟨r.val / 2, by omega⟩) h (T t + 64 * (r.val % 2) + j)) (fun i => ?_) i
  rw [gpre_apply, R.alog, R.dtb]
  have e1 := P_g R t (row r i) ⟨4 + h.val, by omega⟩
  have e2 : (mb (row r i)) = ⟨r.val / 2, by omega⟩ := Fin.ext (by show (r.val * 64 + i.val) / 128 = r.val / 2; omega)
  have e3 : T t + (row r i).val % 128 = T t + 64 * (r.val % 2) + i.val := by show T t + (r.val * 64 + i.val) % 128 = _; omega
  rw [e2, e3] at e1
  unfold Spec.Args.g
  refine congrArg (fun u => -Ideal.exp (A.al h) * Spec.sp (u + A.dt h)) (e1.trans ?_)
  exact congrArg (A.proj _ _) (Fin.ext (by simp only []; omega))

/-! ## Convolution -/

/-- The eight rows before the tile are the projections of the eight positions before it. -/
def HalOk (A : Spec.Args) (sq : Fin 4 → Fin 8) (T0 : ℕ) (hal : Fin 12 → Fin 4 → Fin 8 → Fin 128 → EReal) : Prop :=
  ∀ j b (k : Fin 8) (d : Fin 128), hal j b k d = if 8 ≤ T0 + k.val then A.proj (sq b) (T0 + k.val - 8) ⟨128 * j.val + d.val, by omega⟩ else 0

variable {hal : Fin 12 → Fin 4 → Fin 8 → Fin 128 → EReal} (hh : Hist E t s hal) (ho : HalOk A sq (T t) hal)

include hh ho

theorem past_apply (j : Fin 12) (sh : Fin 3) (b : Fin 4) (p d : Fin 128) :
    (E.rdH t (E.preL t s (j.val + 1)) j sh (ix4 0 b p d) : EReal) = A.past (sq b) (T t + p.val) (sh.val + 1) ⟨128 * j.val + d.val, by omega⟩ := by
  rw [hh j sh b p d]
  unfold Spec.Args.past
  by_cases h : sh.val + 1 ≤ p.val
  · rw [dif_pos h, if_pos (by omega)]
    have e := P_q R t ⟨b.val * 128 + (p.val - (sh.val + 1)), by omega⟩ ⟨128 * j.val + d.val, by omega⟩
    refine e.trans ?_
    have e1 : mb ⟨b.val * 128 + (p.val - (sh.val + 1)), by omega⟩ = b := Fin.ext (by simp only []; omega)
    rw [e1]
    exact congrArg (fun u => A.proj (sq b) u _) (by simp only []; omega)
  · rw [dif_neg h, ho]
    by_cases h8 : sh.val + 1 ≤ T t + p.val
    · rw [if_pos (by simp only []; omega), if_pos h8]
      exact congrArg (fun u => A.proj (sq b) u _) (by simp only []; omega)
    · rw [if_neg (by simp only []; omega), if_neg h8]

theorem acc_apply' (j : Fin 12) (b : Fin 4) (p d : Fin 128) :
    (E.acc t s j (ix3 b p d) : EReal) = A.conv (sq b) (T t + p.val) ⟨128 * j.val + d.val, by omega⟩ := by
  unfold Env.acc
  rw [acc_apply, past_apply R t s hh ho, past_apply R t s hh ho, past_apply R t s hh ho, cur_apply]
  simp only [R.cw]
  unfold Spec.Args.conv
  have e := P_q R t ⟨b.val * 128 + p.val, by omega⟩ ⟨128 * j.val + d.val, by omega⟩
  have e1 : mb ⟨b.val * 128 + p.val, by omega⟩ = b := Fin.ext (by simp only []; omega)
  have e2 : (b.val * 128 + p.val) % 128 = p.val := by omega
  rw [e1] at e
  simp only [e2] at e
  have e3 : A.past (sq b) (T t + p.val) 0 ⟨128 * j.val + d.val, by omega⟩ = A.proj (sq b) (T t + p.val) ⟨128 * j.val + d.val, by omega⟩ := by
    unfold Spec.Args.past
    rw [if_pos (Nat.zero_le _)]; rfl
  rw [e3, ← e]
  rfl

theorem silu_acc (j : Fin 12) (m : Fin 512) (d : Fin 128) : Spec.silu (E.acc t s j (ix3 ⟨m.val / 128, by omega⟩ ⟨m.val % 128, by omega⟩ d))
    = A.qkv (sq (mb m)) (T t + m.val % 128) ⟨128 * j.val + d.val, by omega⟩ := by
  rw [acc_apply' R t s hh ho]; rfl

theorem q_eq (m : Fin 512) (h : Fin 4) (d : Fin 128) : (E.q t s (ix2 m (w4 h d)) : EReal) = A.q (sq (mb m)) h (T t + m.val % 128) d := by
  unfold Env.q
  rw [wide_apply E t s 0 h m d]
  unfold Env.qkvV
  rw [if_pos (by simp only [Fin.val_zero]; omega), q_apply]
  simp only [silu_acc R t s hh ho]
  unfold Spec.Args.q
  refine congrArg (fun f => Spec.l2 f d * _) (funext fun e => congrArg (A.qkv _ _) (Fin.ext ?_))
  simp only [Fin.val_zero]; omega

theorem k_eq (m : Fin 512) (h : Fin 4) (d : Fin 128) : (E.k t s (ix2 m (w4 h d)) : EReal) = A.k (sq (mb m)) h (T t + m.val % 128) d := by
  unfold Env.k
  rw [wide_apply E t s 1 h m d]
  unfold Env.qkvV
  rw [if_neg (by simp only [Fin.val_one]; omega), if_pos (by simp only [Fin.val_one]; omega), k_apply]
  simp only [silu_acc R t s hh ho]
  unfold Spec.Args.k
  refine congrArg (fun f => Spec.l2 f d) (funext fun e => congrArg (A.qkv _ _) (Fin.ext ?_))
  simp only [Fin.val_one]; omega

theorem v_eq (m : Fin 512) (h : Fin 4) (d : Fin 128) : (E.v t s (ix2 m (w4 h d)) : EReal) = A.v (sq (mb m)) h (T t + m.val % 128) d := by
  unfold Env.v
  rw [wide_apply E t s 2 h m d]
  unfold Env.qkvV
  rw [if_neg (by simp only [Fin.val_two]; omega), if_neg (by simp only [Fin.val_two]; omega), v_apply]
  rw [silu_acc R t s hh ho]
  unfold Spec.Args.v
  refine congrArg (A.qkv _ _) (Fin.ext ?_)
  simp only [Fin.val_two]; omega

/-! ## The chunks -/

variable (F : A.Fin')

include F

/-- Head `h` of block `r`: the arguments of the delta rule, from the chunk's first position on. -/
theorem chunk (r : Fin 8) (h : Fin 4) : Chunk (E.G t) (E.q t s) (E.k t s) (E.v t s) r h
    (fun n => A.gR (sq ⟨r.val / 2, by omega⟩) h (T t + 64 * (r.val % 2) + n)) (fun n => A.bR (sq ⟨r.val / 2, by omega⟩) h (T t + 64 * (r.val % 2) + n))
    (fun n => A.qR (sq ⟨r.val / 2, by omega⟩) h (T t + 64 * (r.val % 2) + n)) (fun n => A.kR (sq ⟨r.val / 2, by omega⟩) h (T t + 64 * (r.val % 2) + n))
    (fun n => A.vR (sq ⟨r.val / 2, by omega⟩) h (T t + 64 * (r.val % 2) + n)) := by
  have e2 : ∀ i : Fin 64, (mb (row r i)) = ⟨r.val / 2, by omega⟩ := fun i => Fin.ext (by show (r.val * 64 + i.val) / 128 = r.val / 2; omega)
  have e3 : ∀ i : Fin 64, T t + (row r i).val % 128 = T t + 64 * (r.val % 2) + i.val := fun i => by show T t + (r.val * 64 + i.val) % 128 = _; omega
  constructor
  · intro i
    rw [G_lo R t, e2, e3]; exact F.beta ..
  · intro i
    rw [G_hi R t]
    unfold Delta.gc
    rw [← coe_sum]
    exact Finset.sum_congr rfl fun j _ => F.g ..
  · intro i d
    rw [q_eq R t s hh ho, e2, e3]; exact F.q ..
  · intro i d
    rw [k_eq R t s hh ho, e2, e3]; exact F.k ..
  · intro i d
    rw [v_eq R t s hh ho, e2, e3]; exact F.v ..

/-! ## The states -/

/-- A pair holds the states of its sequence's heads at position `T0`. -/
def PairOk (A : Spec.Args) (sq : Fin 4 → Fin 8) (T0 : ℕ) (b : Fin 4) (p : Fin 2) (x : Fin 256 → Fin 256 → EReal) : Prop :=
  ∀ n c : Fin 256, x n c = if n.val / 128 = c.val / 128 then
    ((A.st (sq b) ⟨2 * p.val + n.val / 128, by omega⟩ T0 ⟨n.val % 128, by omega⟩ ⟨c.val % 128, by omega⟩ : ℝ) : EReal) else 0

/-- One chunk takes the pairs from its first position to the next chunk's. -/
theorem upd_ok (n : ℕ) (L : List (Pc S8x256x256)) (b : Fin 4) (hb : n % 4 = b.val) (ch : ℕ) (hch : n / 4 % 2 = ch)
    (hs : ∀ p, IsS (E.sOld t n L b p) p fun h => A.st (sq b) h (T t + 64 * ch)) (p : Fin 2) :
    PairOk A sq (T t + 64 * ch + 64) b p fun r c => E.upd t s L n p (ix3 0 r c) := by
  have er : (Env.rn n).val / 2 = b.val := by show (2 * (n % 4) + n / 4 % 2) / 2 = b.val; omega
  have em : (Env.rn n).val % 2 = ch := by show (2 * (n % 4) + n / 4 % 2) % 2 = ch; omega
  have eb : Fin.ofNat 4 n = b := Fin.ext hb
  have C := fun h => chunk R t s hh ho F (Env.rn n) h
  simp only [er, em] at C
  have u := upd_apply C hs p
  intro r c
  unfold Env.upd
  show (stT _ (ix3 0 r c) : EReal) = _
  rw [stT_apply, eb]
  refine (u r c).trans ?_
  simp only [Spec.Args.st, st_shift, Fin.eta]

variable (h0 : ∀ (b : Fin 4) (p : Fin 2), IsS (E.sOld t b.val (E.spL t s b.val) b p) p fun h => A.st (sq b) h (T t))
  (v : View sig .tc .vmem S8x256x256 .f32) (hv : ∀ n L j, 4 ≤ n → E.rdS t n L j = v.readCov L (rS j).toLoadRect)

include h0 hv

theorem sOld_ok (n : ℕ) (hn : n < 8) (b : Fin 4) (hb : n % 4 = b.val) (p : Fin 2) :
    IsS (E.sOld t n (E.spL t s n) b p) p fun h => A.st (sq b) h (T t + 64 * (n / 4)) := by
  by_cases h4 : n < 4
  · obtain rfl : n = b.val := by omega
    have e : b.val / 4 = 0 := by omega
    rw [e]
    exact h0 b p
  · intro r c
    unfold Env.sOld
    rw [sT_apply, hv n _ _ (by omega), cov_at _ _ _ _ (ix3 ⟨2 * b.val + p.val, by omega⟩ r c) (rS_coords _ r c)]
    have e : (⟨2 * b.val + p.val, by omega⟩ : Fin 8) = ⟨2 * ((n - 4) % 4) + p.val, by omega⟩ := Fin.ext (by simp only []; omega)
    rw [e, canon_sp_hit E t s (n - 4) p r c n (by omega) (by omega)]
    have u := upd_ok R t s hh ho F (n - 4) (E.spL t s (n - 4)) b (by omega) 0 (by omega) (fun p => by
      have e : n - 4 = b.val := by omega
      rw [e]
      exact h0 b p) p r c
    refine u.trans ?_
    have e4 : n / 4 = 1 := by omega
    rw [e4]

theorem next_sp (b : Fin 4) (p : Fin 2) : PairOk A sq (T t + 128) b p fun r c => View.canon (E.next t s).sp (ix3 ⟨2 * b.val + p.val, by omega⟩ r c) := by
  intro r c
  show View.canon (E.spL t s 8) _ = _
  have e : (⟨2 * b.val + p.val, by omega⟩ : Fin 8) = ⟨2 * ((4 + b.val) % 4) + p.val, by omega⟩ := Fin.ext (by simp only []; omega)
  rw [e, canon_sp_hit E t s (4 + b.val) p r c 8 (by omega) (by omega)]
  exact upd_ok R t s hh ho F (4 + b.val) (E.spL t s (4 + b.val)) b (by omega) 1 (by omega) (fun p => by
    have u := sOld_ok R t s hh ho F h0 v hv (4 + b.val) (by omega) b (by omega) p
    have e4 : (4 + b.val) / 4 = 1 := by omega
    rw [e4] at u
    exact u) p r c

theorem o_eq (m : Fin 512) (h : Fin 4) (e : Fin 128) : (E.o t s (ix2 m (w4 h e)) : EReal) = A.o (sq (mb m)) (T t + m.val % 128) h e := by
  have em : m = row ⟨m.val / 64, by omega⟩ ⟨m.val % 64, by omega⟩ := Fin.ext (by simp only []; omega)
  have key : ∀ (r : Fin 8) (i : Fin 64), (E.o t s (ix2 (row r i) (w4 h e)) : EReal) = A.o (sq ⟨r.val / 2, by omega⟩) (T t + 64 * (r.val % 2) + i.val) h e := by
    intro r i
    have hs : ∀ p, IsS (E.sOld t (4 * (r.val % 2) + r.val / 2) (E.spL t s (4 * (r.val % 2) + r.val / 2)) ⟨r.val / 2, by omega⟩ p) p
        fun h => A.st (sq ⟨r.val / 2, by omega⟩) h (T t + 64 * (r.val % 2)) := fun p => by
      have u := sOld_ok R t s hh ho F h0 v hv (4 * (r.val % 2) + r.val / 2) (by omega) ⟨r.val / 2, by omega⟩ (by simp only []; omega) p
      have e4 : (4 * (r.val % 2) + r.val / 2) / 4 = r.val % 2 := by omega
      rw [e4] at u
      exact u
    unfold Env.o
    rw [cat8w_apply]
    refine (Chunk.o (chunk R t s hh ho F r h) hs i e).trans ?_
    simp only [Spec.Args.o, Spec.Args.st, st_shift]
    rfl
  have k := key ⟨m.val / 64, by omega⟩ ⟨m.val % 64, by omega⟩
  rw [← em] at k
  refine k.trans ?_
  have e2 : (⟨m.val / 64 / 2, by omega⟩ : Fin 4) = mb m := Fin.ext (by simp only []; omega)
  have e3 : T t + 64 * (m.val / 64 % 2) + m.val % 64 = T t + m.val % 128 := by omega
  simp only [e2, e3]

omit hh ho F h0 hv

theorem gm_eq (hT : T t % 128 = 0) (g : Fin 4) (m : Fin 512) (d : Fin 128) : (E.gm t s g (ix2 m d) : EReal) = A.ogm (sq (mb m)) (T t + m.val % 128) g d := by
  unfold Env.gm
  rw [gmRows_apply, gm_apply, rdUg_apply, ug_apply]
  simp only [rdVln_apply, vln_apply, R.bs, R.ws, R.lg, R.lb]
  have eb : ∀ p : Fin 128, mb ⟨m.val / 128 * 128 + p.val, by omega⟩ = mb m := fun p => Fin.ext (by simp only []; omega)
  have ep : ∀ p : Fin 128, (m.val / 128 * 128 + p.val) % 128 = p.val := fun p => by omega
  have eu : ∀ (p e : Fin 128), (E.P t (ix2 ⟨m.val / 128 * 128 + p.val, by omega⟩ ⟨128 * (g.val + 13) + e.val, by omega⟩) : EReal)
      = A.proj (sq (mb m)) (T t + p.val) ⟨2056 + (g.val * 128 + e.val), by omega⟩ := fun p e => by
    have k := P_m R t ⟨m.val / 128 * 128 + p.val, by omega⟩ ⟨g.val * 128 + e.val, by omega⟩
    rw [eb] at k
    simp only [ep] at k
    rw [← k]
    exact congrArg (fun c => E.P t (ix2 _ c)) (Fin.ext (by simp only []; omega))
  have ev : ∀ (p e : Fin 128), (E.P t (ix2 ⟨m.val / 128 * 128 + p.val, by omega⟩ ⟨128 * (g.val + 17) + e.val, by omega⟩) : EReal)
      = A.proj (sq (mb m)) (T t + p.val) ⟨2568 + (g.val * 128 + e.val), by omega⟩ := fun p e => by
    have k := P_m R t ⟨m.val / 128 * 128 + p.val, by omega⟩ ⟨512 + (g.val * 128 + e.val), by omega⟩
    rw [eb] at k
    simp only [ep] at k
    refine Eq.trans ?_ (k.trans ?_)
    · exact congrArg (fun c => E.P t (ix2 _ c)) (Fin.ext (by simp only []; omega))
    · exact congrArg (A.proj _ _) (Fin.ext (by simp only []; omega))
  unfold Spec.Args.ogm Spec.Args.ug Spec.Args.vg
  have e1 : (T t + m.val % 128) % 128 = m.val % 128 := by omega
  have e2 : (T t + m.val % 128) / 128 * 128 = T t := by omega
  simp only [eu ⟨m.val % 128, by omega⟩, ev, e1, e2]

theorem zz_eq (h : Fin 4) (m : Fin 512) (d : Fin 128) : (E.m22.view.readCov (E.zL t s) (rC h).toLoadRect (ix2 m d) : EReal)
    = A.z (sq (mb m)) (T t + m.val % 128) h d := by
  rw [rdZ_apply, z_apply]
  refine (P_z R t m ⟨128 * h.val + d.val, by omega⟩).trans ?_
  unfold Spec.Args.z
  exact congrArg (A.proj _ _) (Fin.ext (by simp only []; omega))

include hh ho F h0 hv

theorem head_eq (h : Fin 4) (m : Fin 512) (d : Fin 128) :
    (headOutT (E.o t s) h E.ong (E.m22.view.readCov (E.zL t s) (rC h).toLoadRect) (ix2 m d) : EReal) = A.head (sq (mb m)) (T t + m.val % 128) h d := by
  rw [headOut_apply, zz_eq R t s]
  simp only [o_eq R t s hh ho F h0 v hv, R.ong]
  rfl

/-- The tile's output rows. -/
theorem out_eq (hT : T t % 128 = 0) (b : Fin 4) (p : Fin 128) (l : Fin 1024) : (E.out t s (ix3 b p l) : EReal) = A.out (sq b) (T t + p.val) l := by
  have eb : mb ⟨b.val * 128 + p.val, by omega⟩ = b := Fin.ext (by simp only []; omega)
  have ep : (b.val * 128 + p.val) % 128 = p.val := by omega
  have hgm : ∀ (g : Fin 4) (d : Fin 128), (E.gm t s g (ix2 ⟨b.val * 128 + p.val, by omega⟩ d) : EReal) = A.ogm (sq b) (T t + p.val) g d := fun g d => by
    have k := gm_eq R t s hT g ⟨b.val * 128 + p.val, by omega⟩ d
    rw [eb] at k; simp only [ep] at k; exact k
  have hhd : ∀ (h : Fin 4) (d : Fin 128), (headOutT (E.o t s) h E.ong (E.m22.view.readCov (E.zL t s) (rC h).toLoadRect) (ix2 ⟨b.val * 128 + p.val, by omega⟩ d) : EReal)
      = A.head (sq b) (T t + p.val) h d := fun h d => by
    have k := head_eq R t s hh ho F h0 v hv h ⟨b.val * 128 + p.val, by omega⟩ d
    rw [eb] at k; simp only [ep] at k; exact k
  have hx : (xT (E.x t) (ix2 ⟨b.val * 128 + p.val, by omega⟩ l) : EReal) = A.x (sq b) (T t + p.val) l := by
    rw [xT_apply, R.x]
    have e1 : (⟨(b.val * 128 + p.val) / 128, by omega⟩ : Fin 4) = b := Fin.ext (by simp only []; omega)
    rw [e1]; simp only [ep]
  unfold Env.out
  rw [out_apply, hx]
  have hy : (E.y t s (ix2 ⟨b.val * 128 + p.val, by omega⟩ l) : EReal)
      = mergeT (E.gm t s 0) (E.gm t s 1) (E.wo 2) (ix2 ⟨b.val * 128 + p.val, by omega⟩ l)
        + mergeT (E.gm t s 2) (E.gm t s 3) (E.wo 3) (ix2 ⟨b.val * 128 + p.val, by omega⟩ l) := rfl
  rw [hy, merge_apply, merge_apply, merge_apply, merge_apply]
  simp only [hgm, hhd, R.wo]
  unfold Spec.Args.out
  refine congrArg (_ + ·) ?_
  rw [Fin.sum_univ_tiles 8 128 rfl, Fin.sum_univ_eight]
  have mh : ∀ (h : Fin 4) (d : Fin 128) (c : Fin 1024), c.val = h.val * 128 + d.val → A.mix (sq b) (T t + p.val) c = A.head (sq b) (T t + p.val) h d := by
    intro h d c hc
    unfold Spec.Args.mix
    rw [dif_pos (by omega)]
    have e1 : (⟨c.val / 128, by omega⟩ : Fin 4) = h := Fin.ext (by simp only []; omega)
    have e2 : (⟨c.val % 128, by omega⟩ : Fin 128) = d := Fin.ext (by simp only []; omega)
    rw [e1, e2]
  have mg : ∀ (h : Fin 4) (d : Fin 128) (c : Fin 1024), c.val = 512 + h.val * 128 + d.val → A.mix (sq b) (T t + p.val) c = A.ogm (sq b) (T t + p.val) h d := by
    intro h d c hc
    unfold Spec.Args.mix
    rw [dif_neg (by omega)]
    have e1 : (⟨(c.val - 512) / 128, by omega⟩ : Fin 4) = h := Fin.ext (by simp only []; omega)
    have e2 : (⟨c.val % 128, by omega⟩ : Fin 128) = d := Fin.ext (by simp only []; omega)
    rw [e1, e2]
  have sH : ∀ (h : Fin 4) (f g : Fin 128 → Fin 1024), (∀ d, (f d).val = h.val * 128 + d.val) → (∀ d, (g d).val = (f d).val) →
      ∑ d, A.mix (sq b) (T t + p.val) (f d) * A.wo (f d) l = ∑ d, A.head (sq b) (T t + p.val) h d * A.wo (g d) l :=
    fun h f g hf hg => Finset.sum_congr rfl fun d _ => by rw [mh h d (f d) (hf d), show g d = f d from Fin.ext (hg d)]
  have sG : ∀ (h : Fin 4) (f g : Fin 128 → Fin 1024), (∀ d, (f d).val = 512 + h.val * 128 + d.val) → (∀ d, (g d).val = (f d).val) →
      ∑ d, A.mix (sq b) (T t + p.val) (f d) * A.wo (f d) l = ∑ d, A.ogm (sq b) (T t + p.val) h d * A.wo (g d) l :=
    fun h f g hf hg => Finset.sum_congr rfl fun d _ => by rw [mg h d (f d) (hf d), show g d = f d from Fin.ext (hg d)]
  refine sum8 (sH 0 _ _ (fun d => rfl) fun d => ?_) (sH 1 _ _ (fun d => rfl) fun d => ?_) (sH 2 _ _ (fun d => rfl) fun d => ?_)
    (sH 3 _ _ (fun d => rfl) fun d => ?_) (sG 0 _ _ (fun d => ?_) fun d => ?_) (sG 1 _ _ (fun d => ?_) fun d => ?_) (sG 2 _ _ (fun d => ?_) fun d => ?_)
    (sG 3 _ _ (fun d => ?_) fun d => ?_)
  · show 256 * 0 + d.val = 0 * 128 + d.val; omega
  · show 256 * 0 + (128 + d.val) = 1 * 128 + d.val; omega
  · show 256 * 1 + d.val = 2 * 128 + d.val; omega
  · show 256 * 1 + (128 + d.val) = 3 * 128 + d.val; omega
  · show 4 * 128 + d.val = 512 + 0 * 128 + d.val; omega
  · show 256 * 2 + d.val = 4 * 128 + d.val; omega
  · show 5 * 128 + d.val = 512 + 1 * 128 + d.val; omega
  · show 256 * 2 + (128 + d.val) = 5 * 128 + d.val; omega
  · show 6 * 128 + d.val = 512 + 2 * 128 + d.val; omega
  · show 256 * 3 + d.val = 6 * 128 + d.val; omega
  · show 7 * 128 + d.val = 512 + 3 * 128 + d.val; omega
  · show 256 * 3 + (128 + d.val) = 7 * 128 + d.val; omega

end Tile

end Cert.Proof.Mixer

end
-- ==== Proof.MixIn.lean ====
/-
  What the mixer's windows hold at a grid point, read at an element over the arguments.
-/
module

public import proofs.«01_k».proof.Defs
public import proofs.«01_k».proof.Proof.Gen.KernelIdeal.Value
public import proofs.«01_k».proof.Proof.MixTileSpec
public import Idealize.ShloMosaic.Lib.StableHlo.RunRead

@[expose] public section

set_option maxRecDepth 16384

noncomputable section

namespace Cert.Proof.Mixer

open Idealize.ShloMosaic Idealize.SL.Sem Cert.KernelIdeal Cert.KernelIdeal.Gen
open Idealize.ShloMosaic.TcCoe

variable (m : (ℓ : Loc nD τ sig) → Buf (Elt Ideal) ℓ) (c : Dev nD) (t : Fin cfg0.N)

theorem at0 : ∀ t : Fin cfg0.N, win0_0.index t = ![t.val / 8, t.val % 8, 0] :=
  (by decide +kernel : ∀ t : Fin grid0.N, win0_0.index t = ![t.val / 8, t.val % 8, 0])
theorem at1 : ∀ t : Fin cfg0.N, win0_1.index t = ![0, 0, 0] := (by decide +kernel : ∀ t : Fin grid0.N, win0_1.index t = ![0, 0, 0])
theorem at2 : ∀ t : Fin cfg0.N, win0_2.index t = ![0, 0] := (by decide +kernel : ∀ t : Fin grid0.N, win0_2.index t = ![0, 0])
theorem at3 : ∀ t : Fin cfg0.N, win0_3.index t = ![0, 0, 0] := (by decide +kernel : ∀ t : Fin grid0.N, win0_3.index t = ![0, 0, 0])
theorem at4' : ∀ t : Fin cfg0.N, win0_4.index t = ![0, 0, 0] := (by decide +kernel : ∀ t : Fin grid0.N, win0_4.index t = ![0, 0, 0])
theorem at5 : ∀ t : Fin cfg0.N, win0_5.index t = ![0, 0, 0] := (by decide +kernel : ∀ t : Fin grid0.N, win0_5.index t = ![0, 0, 0])
theorem at6 : ∀ t : Fin cfg0.N, win0_6.index t = ![0, 0, 0] := (by decide +kernel : ∀ t : Fin grid0.N, win0_6.index t = ![0, 0, 0])
theorem at7 : ∀ t : Fin cfg0.N, win0_7.index t = ![0, 0, 0] := (by decide +kernel : ∀ t : Fin grid0.N, win0_7.index t = ![0, 0, 0])
theorem at8 : ∀ t : Fin cfg0.N, win0_8.index t = ![0, 0, 0] := (by decide +kernel : ∀ t : Fin grid0.N, win0_8.index t = ![0, 0, 0])
theorem at9 : ∀ t : Fin cfg0.N, win0_9.index t = ![0, 0, 0, 0] := (by decide +kernel : ∀ t : Fin grid0.N, win0_9.index t = ![0, 0, 0, 0])
theorem at10 : ∀ t : Fin cfg0.N, win0_10.index t = ![0, 0, 0, 0] := (by decide +kernel : ∀ t : Fin grid0.N, win0_10.index t = ![0, 0, 0, 0])
theorem at11 : ∀ t : Fin cfg0.N, win0_11.index t = ![0, 0] := (by decide +kernel : ∀ t : Fin grid0.N, win0_11.index t = ![0, 0])
theorem at12 : ∀ t : Fin cfg0.N, win0_12.index t = ![0, t.val, 0] := (by decide +kernel : ∀ t : Fin grid0.N, win0_12.index t = ![0, t.val, 0])
theorem at13 : ∀ t : Fin cfg0.N, win0_13.index t = ![0, t.val, 0] := (by decide +kernel : ∀ t : Fin grid0.N, win0_13.index t = ![0, t.val, 0])
theorem at14 : ∀ t : Fin cfg0.N, win0_14.index t = ![0, t.val, 0] := (by decide +kernel : ∀ t : Fin grid0.N, win0_14.index t = ![0, t.val, 0])
theorem at15 : ∀ t : Fin cfg0.N, win0_15.index t = ![t.val / 8, t.val % 8, 0] :=
  (by decide +kernel : ∀ t : Fin grid0.N, win0_15.index t = ![t.val / 8, t.val % 8, 0])
theorem at16 : ∀ t : Fin cfg0.N, win0_16.index t = ![t.val, 0] := (by decide +kernel : ∀ t : Fin grid0.N, win0_16.index t = ![t.val, 0])
theorem at17 : ∀ t : Fin cfg0.N, win0_17.index t = ![t.val, 0] := (by decide +kernel : ∀ t : Fin grid0.N, win0_17.index t = ![t.val, 0])

theorem t_lt : t.val < 16 := t.isLt

theorem emb0 (b : Fin 4) (p : Fin 256) (e : Fin 1024) : (win0_0.blk t).view.emb (ix3 b p e) =
    ix3 (⟨4 * (t.val / 8) + b.val, by have := t_lt t; omega⟩ : Fin 8) (⟨256 * (t.val % 8) + p.val, by omega⟩ : Fin 2048) e := by
  blk_ext [at0]
theorem emb1 (e : Fin 1024) : (win0_1.blk t).view.emb (ix3 (0 : Fin 1) (0 : Fin 1) e) = ix3 (0 : Fin 2) (0 : Fin 1) e := by blk_ext [at1]
theorem emb2 (e : Fin 1024) (f : Fin 3200) : (win0_2.blk t).view.emb (ix2 e f) = ix2 e f := by blk_ext [at2]
theorem emb3 (k : Fin 4) (f : Fin 1536) : (win0_3.blk t).view.emb (ix3 (0 : Fin 1) k f) = ix3 (0 : Fin 2) k f := by blk_ext [at3]
theorem emb4 (e : Fin 128) : (win0_4.blk t).view.emb (ix3 (0 : Fin 1) (0 : Fin 1) e) = ix3 (0 : Fin 2) (0 : Fin 1) e := by blk_ext [at4']
theorem emb5 (e : Fin 128) : (win0_5.blk t).view.emb (ix3 (0 : Fin 1) (0 : Fin 1) e) = ix3 (0 : Fin 2) (0 : Fin 1) e := by blk_ext [at5]
theorem emb6 (e : Fin 128) : (win0_6.blk t).view.emb (ix3 (0 : Fin 1) (0 : Fin 1) e) = ix3 (0 : Fin 2) (0 : Fin 1) e := by blk_ext [at6]
theorem emb7 (e : Fin 512) : (win0_7.blk t).view.emb (ix3 (0 : Fin 1) (0 : Fin 1) e) = ix3 (0 : Fin 2) (0 : Fin 1) e := by blk_ext [at7]
theorem emb8 (e : Fin 512) : (win0_8.blk t).view.emb (ix3 (0 : Fin 1) (0 : Fin 1) e) = ix3 (0 : Fin 2) (0 : Fin 1) e := by blk_ext [at8]
theorem emb9 (g : Fin 4) (p s : Fin 128) : (win0_9.blk t).view.emb (ix4 (0 : Fin 1) g p s) = ix4 (0 : Fin 2) g p s := by blk_ext [at9]
theorem emb10 (g : Fin 4) (p s : Fin 128) : (win0_10.blk t).view.emb (ix4 (0 : Fin 1) g p s) = ix4 (0 : Fin 2) g p s := by blk_ext [at10]
theorem emb11 (e f : Fin 1024) : (win0_11.blk t).view.emb (ix2 e f) = ix2 e f := by blk_ext [at11]

/-! ## What the host leaves in the arrays the windows read -/

section Host

variable (a : FVec Ideal S2x4 .f32) (w : FVec Ideal S2x1024x3080 .f32)

def padH : FVec Ideal S2x1x128 .f32 :=
  broadcastInDim S2x1x128 ![0, 2] bcast_S2x128_S2x1x128_0_2
    (pad S2x128 ![0, 4] ![0, 120] ![0, 0] a (sitofp .f32 (constantI S_ 32 0#32)) pads_S2x4_S2x128_000_41200 h_S_)

def wH : FVec Ideal S1024x3080 .bf16 :=
  truncf .bf16 (shapeCast S1024x3080 (extractStridedSlice S1x1024x3080 ![0, 0, 0] w slices_S2x1024x3080_S1x1024x3080_0_0_0)
    shapeCasts_S1x1024x3080_S1024x3080) bitsLt_bf16_f32

def gateH : FVec Ideal S1024x128 .bf16 :=
  select (cmpi .slt (iotaInDim S1024x128 32 1) (broadcastInDim S1024x128 ![] bcast_S_S1024x128 (constantI S_ 32 8#32)))
    (extractStridedSlice S1024x128 ![0, 2048] (wH w) slices_S1024x3080_S1024x128_0_2048)
    (broadcastInDim S1024x128 ![] bcast_S_S1024x128 (truncf .bf16 (constant (F := Ideal) S_ .f32 0x00000000#32) bitsLt_bf16_f32))

def packH : FVec Ideal S1024x3200 .bf16 :=
  concatenate S1024x3200 1 [⟨S1024x1536, extractStridedSlice S1024x1536 ![0, 0] (wH w) slices_S1024x3080_S1024x1536_0_0⟩,
    ⟨S1024x128, gateH w⟩,
    ⟨S1024x1024, extractStridedSlice S1024x1024 ![0, 2056] (wH w) slices_S1024x3080_S1024x1024_0_2056⟩,
    ⟨S1024x512, extractStridedSlice S1024x512 ![0, 1536] (wH w) slices_S1024x3080_S1024x512_0_1536⟩]
    concatenates_S1024x1536_S1024x128_S1024x1024_S1024x512_S1024x3200_d1

theorem pad_apply (h : Fin 4) : (padH a (ix3 0 0 ⟨4 + h.val, by omega⟩) : EReal) = a (ix2 0 h) := by
  unfold padH
  pointwise

theorem pack_q (e : Fin 1024) (f : Fin 1536) : (packH w (ix2 e ⟨f.val, by omega⟩) : EReal) = w (ix3 0 e ⟨f.val, by omega⟩) := by
  unfold packH wH
  pointwise
theorem pack_g (e : Fin 1024) (f : Fin 8) : (packH w (ix2 e ⟨1536 + f.val, by omega⟩) : EReal) = w (ix3 0 e ⟨2048 + f.val, by omega⟩) := by
  unfold packH gateH wH
  pointwise
  have h8 : ∀ f : Fin 8, IntOp.cmpi .slt (BitVec.ofNat 32 f.val) 8#32 = 1#1 := by decide
  rw [dif_pos (by omega), h8]
  rfl
theorem pack_m (e f : Fin 1024) : (packH w (ix2 e ⟨1664 + f.val, by omega⟩) : EReal) = w (ix3 0 e ⟨2056 + f.val, by omega⟩) := by
  unfold packH wH
  pointwise
  rw [dif_neg (by omega), dif_neg (by omega), dif_pos (by omega)]
  exact congrArg (fun u => w (ix3 0 e u)) (Fin.ext (by simp only []; omega))
theorem pack_z (e : Fin 1024) (f : Fin 512) : (packH w (ix2 e ⟨2688 + f.val, by omega⟩) : EReal) = w (ix3 0 e ⟨1536 + f.val, by omega⟩) := by
  unfold packH wH
  pointwise
  rw [dif_neg (by omega), dif_neg (by omega), dif_neg (by omega)]
  exact congrArg (fun u => w (ix3 0 e u)) (Fin.ext (by simp only []; omega))

end Host

theorem v_11 : Gen.V m c main_v11 = packH (m ((c.tc : Thread nD τ).loc main_arg2)) := by
  unfold Gen.V
  simp only [List.flatten_cons, List.flatten_nil, List.append_nil, StableHlo.after_append]
  after_reads_simp
  unfold packH
  congr 1
theorem v_18 : Gen.V m c main_v18 = padH (m ((c.tc : Thread nD τ).loc main_arg4)) := by
  unfold Gen.V
  simp only [List.flatten_cons, List.flatten_nil, List.append_nil, StableHlo.after_append]
  after_reads_simp
  rfl
theorem v_20 : Gen.V m c main_v20 = padH (m ((c.tc : Thread nD τ).loc main_arg5)) := by
  unfold Gen.V
  simp only [List.flatten_cons, List.flatten_nil, List.append_nil, StableHlo.after_append]
  after_reads_simp
  rfl

theorem blk0 (b : Fin 4) (p : Fin 256) (e : Fin 1024) : iblk m c 0 t (ix3 b p e) =
    m ((c.tc : Thread nD τ).loc main_arg0) (ix3 (⟨4 * (t.val / 8) + b.val, by have := t_lt t; omega⟩ : Fin 8) (⟨256 * (t.val % 8) + p.val, by omega⟩ : Fin 2048) e) := by
  unfold iblk
  blk_simp
  rw [emb0]
  unfold Gen.V
  simp only [List.flatten_cons, List.flatten_nil, List.append_nil, StableHlo.after_append]
  after_reads_simp
theorem blk1 (e : Fin 1024) : iblk m c 1 t (ix3 0 0 e) = m ((c.tc : Thread nD τ).loc main_arg1) (ix2 0 e) := by
  unfold iblk
  blk_simp
  rw [emb1]
  unfold Gen.V
  simp only [List.flatten_cons, List.flatten_nil, List.append_nil, StableHlo.after_append]
  after_reads_simp
  pointwise
theorem blk3 (k : Fin 4) (f : Fin 1536) : iblk m c 3 t (ix3 0 k f) = m ((c.tc : Thread nD τ).loc main_arg3) (ix3 0 k f) := by
  unfold iblk
  blk_simp
  rw [emb3]
  unfold Gen.V
  simp only [List.flatten_cons, List.flatten_nil, List.append_nil, StableHlo.after_append]
  after_reads_simp
theorem blk4 (h : Fin 4) : iblk m c 4 t (ix3 0 0 ⟨4 + h.val, by omega⟩) = m ((c.tc : Thread nD τ).loc main_arg4) (ix2 0 h) := by
  unfold iblk
  blk_simp
  rw [emb4]
  exact (congrFun (v_18 m c) _).trans (pad_apply _ h)
theorem blk5 (h : Fin 4) : iblk m c 5 t (ix3 0 0 ⟨4 + h.val, by omega⟩) = m ((c.tc : Thread nD τ).loc main_arg5) (ix2 0 h) := by
  unfold iblk
  blk_simp
  rw [emb5]
  exact (congrFun (v_20 m c) _).trans (pad_apply _ h)
theorem blk6 (e : Fin 128) : iblk m c 6 t (ix3 0 0 e) = m ((c.tc : Thread nD τ).loc main_arg6) (ix2 0 e) := by
  unfold iblk
  blk_simp
  rw [emb6]
  unfold Gen.V
  simp only [List.flatten_cons, List.flatten_nil, List.append_nil, StableHlo.after_append]
  after_reads_simp
  pointwise
theorem blk7 (e : Fin 512) : iblk m c 7 t (ix3 0 0 e) = m ((c.tc : Thread nD τ).loc main_arg7) (ix2 0 e) := by
  unfold iblk
  blk_simp
  rw [emb7]
  unfold Gen.V
  simp only [List.flatten_cons, List.flatten_nil, List.append_nil, StableHlo.after_append]
  after_reads_simp
  pointwise
theorem blk8 (e : Fin 512) : iblk m c 8 t (ix3 0 0 e) = m ((c.tc : Thread nD τ).loc main_arg8) (ix2 0 e) := by
  unfold iblk
  blk_simp
  rw [emb8]
  unfold Gen.V
  simp only [List.flatten_cons, List.flatten_nil, List.append_nil, StableHlo.after_append]
  after_reads_simp
  pointwise
theorem blk9 (g : Fin 4) (p s : Fin 128) : iblk m c 9 t (ix4 0 g p s) = m ((c.tc : Thread nD τ).loc main_arg9) (ix4 0 g p s) := by
  unfold iblk
  blk_simp
  rw [emb9]
  unfold Gen.V
  simp only [List.flatten_cons, List.flatten_nil, List.append_nil, StableHlo.after_append]
  after_reads_simp
theorem blk10 (g : Fin 4) (p s : Fin 128) : iblk m c 10 t (ix4 0 g p s) = m ((c.tc : Thread nD τ).loc main_arg10) (ix3 0 g p) := by
  unfold iblk
  blk_simp
  rw [emb10]
  unfold Gen.V
  simp only [List.flatten_cons, List.flatten_nil, List.append_nil, StableHlo.after_append]
  after_reads_simp
  pointwise
theorem blk11 (e f : Fin 1024) : iblk m c 11 t (ix2 e f) = m ((c.tc : Thread nD τ).loc main_arg11) (ix3 0 e f) := by
  unfold iblk
  blk_simp
  rw [emb11]
  unfold Gen.V
  simp only [List.flatten_cons, List.flatten_nil, List.append_nil, StableHlo.after_append]
  after_reads_simp
  pointwise
theorem blk2 (e : Fin 1024) (f : Fin 3200) : (iblk m c 2 t (ix2 e f) : EReal) = packH (m ((c.tc : Thread nD τ).loc main_arg2)) (ix2 e f) := by
  unfold iblk
  blk_simp
  rw [emb2]
  exact congrFun (v_11 m c) _

end Cert.Proof.Mixer

end
-- ==== Proof.MixStep.lean ====
/-
  What a grid step of the mixer reads are the arguments' elements at its sequences and positions.
-/
module

public import proofs.«01_k».proof.Defs
public import proofs.«01_k».proof.Proof.MixIn

@[expose] public section

set_option maxRecDepth 16384

noncomputable section

namespace Cert.Proof.Mixer

open Idealize.ShloMosaic Idealize.SL.Sem Cert.KernelIdeal Cert.KernelIdeal.Gen
open Idealize.ShloMosaic.TcCoe

variable (m : (ℓ : Loc nD τ sig) → Buf (Elt Ideal) ℓ) (t : Fin cfg0.N)

theorem ld_at {s : Shape} {e : EltTy} (a : Memref sig .tc .vmem s e) (h : a.IsWhole) (X : s.Idx → Elt Ideal e) (r : Rect s) (x : r.shape.Idx) (y : s.Idx)
    (hx : ∀ a, (y a).val = r.off a + r.stride a * (x a).val) : View.readAt (Elt Ideal) a.view r.toLoadRect (h.unread X) x = X y :=
  (congrArg (a.view.read (Elt Ideal) (h.unread X)) (r.emb_eq_of_coords x y hx)).trans (congrFun (h.read_unread X) y)

section Coords

variable (u : Fin 2) (j : Fin 12) (k : Fin 4) (g : Fin 4)

abbrev lX : Rect S4x256x1024 := Rect.unit (s := S4x256x1024) ![0, 128 * u.val, 0] S4x128x1024.size (ldX_ok u)
abbrev lN : Rect S1x1x1024 := Rect.unit (s := S1x1x1024) ![0, 0, 0] S1x1x1024.size inb_S1x1x1024_S1x1x1024_0_0_0
abbrev lWi : Rect S1024x3200 := Rect.unit (s := S1024x3200) ![0, 0] S1024x3200.size inb_S1024x3200_S1024x3200_0_0
abbrev lC : Rect S1x4x1536 := Rect.unit (s := S1x4x1536) ![0, k.val, 128 * j.val] S1x1x128.size (ldC_ok j k)
abbrev lV : Rect S1x1x128 := Rect.unit (s := S1x1x128) ![0, 0, 0] S1x1x128.size inb_S1x1x128_S1x1x128_0_0_0
abbrev lL : Rect S1x1x512 := Rect.unit (s := S1x1x512) ![0, 0, 128 * g.val] S1x1x128.size (ldL_ok g)
abbrev lW : Rect S1x4x128x128 := Rect.unit (s := S1x4x128x128) ![0, g.val, 0, 0] S1x1x128x128.size (ldW_ok g)
abbrev lO : Rect S1024x1024 := Rect.unit (s := S1024x1024) ![256 * g.val, 0] S256x1024.size (ldO_ok g)

theorem lX_coords (b : Fin 4) (p : Fin 128) (e : Fin 1024) : ∀ a, ((ix3 b ⟨128 * u.val + p.val, by omega⟩ e : S4x256x1024.Idx) a).val
    = (lX u).off a + (lX u).stride a * ((ix3 b p e : S4x128x1024.Idx) a).val := fun a => by
  match a with
  | 0 => show b.val = 0 + 1 * b.val; omega
  | 1 => show 128 * u.val + p.val = 128 * u.val + 1 * p.val; omega
  | 2 => show e.val = 0 + 1 * e.val; omega
theorem lN_coords (e : Fin 1024) : ∀ a, ((ix3 0 0 e : S1x1x1024.Idx) a).val = lN.off a + lN.stride a * ((ix3 0 0 e : S1x1x1024.Idx) a).val := fun a => by
  match a with
  | 0 => rfl
  | 1 => rfl
  | 2 => show e.val = 0 + 1 * e.val; omega
theorem lWi_coords (e : Fin 1024) (f : Fin 3200) : ∀ a, ((ix2 e f : S1024x3200.Idx) a).val = lWi.off a + lWi.stride a * ((ix2 e f : S1024x3200.Idx) a).val := fun a => by
  match a with
  | 0 => show e.val = 0 + 1 * e.val; omega
  | 1 => show f.val = 0 + 1 * f.val; omega
theorem lC_coords (d : Fin 128) : ∀ a, ((ix3 0 k ⟨128 * j.val + d.val, by omega⟩ : S1x4x1536.Idx) a).val
    = (lC j k).off a + (lC j k).stride a * ((ix3 0 0 d : S1x1x128.Idx) a).val := fun a => by
  match a with
  | 0 => rfl
  | 1 => rfl
  | 2 => show 128 * j.val + d.val = 128 * j.val + 1 * d.val; omega
theorem lV_coords (e : Fin 128) : ∀ a, ((ix3 0 0 e : S1x1x128.Idx) a).val = lV.off a + lV.stride a * ((ix3 0 0 e : S1x1x128.Idx) a).val := fun a => by
  match a with
  | 0 => rfl
  | 1 => rfl
  | 2 => show e.val = 0 + 1 * e.val; omega
theorem lL_coords (d : Fin 128) : ∀ a, ((ix3 0 0 (Spec.at4 g d) : S1x1x512.Idx) a).val = (lL g).off a + (lL g).stride a * ((ix3 0 0 d : S1x1x128.Idx) a).val := fun a => by
  match a with
  | 0 => rfl
  | 1 => rfl
  | 2 => show g.val * 128 + d.val = 128 * g.val + 1 * d.val; omega
theorem lW_coords (p q : Fin 128) : ∀ a, ((ix4 0 g p q : S1x4x128x128.Idx) a).val = (lW g).off a + (lW g).stride a * ((ix4 0 0 p q : S1x1x128x128.Idx) a).val :=
  fun a => by
  match a with
  | 0 => rfl
  | 1 => rfl
  | 2 => show p.val = 0 + 1 * p.val; omega
  | 3 => show q.val = 0 + 1 * q.val; omega
theorem lO_coords (i : Fin 256) (l : Fin 1024) : ∀ a, ((ix2 ⟨256 * g.val + i.val, by omega⟩ l : S1024x1024.Idx) a).val
    = (lO g).off a + (lO g).stride a * ((ix2 i l : S256x1024.Idx) a).val := fun a => by
  match a with
  | 0 => show 256 * g.val + i.val = 256 * g.val + 1 * i.val; omega
  | 1 => show l.val = 0 + 1 * l.val; omega

end Coords

/-! ## What a step reads -/

section Step

variable (c : Dev nD) (arg2 : Memref sig .tc .vmem S4x256x1024 .f32) (harg2 : arg2.IsWhole)
  (arg3 : Memref sig .tc .vmem S1x1x1024 .f32) (harg3 : arg3.IsWhole) (arg4 : Memref sig .tc .vmem S1024x3200 .bf16)
  (harg4 : arg4.IsWhole) (arg5 : Memref sig .tc .vmem S1x4x1536 .f32) (harg5 : arg5.IsWhole)
  (arg6 : Memref sig .tc .vmem S1x1x128 .f32) (harg6 : arg6.IsWhole) (arg7 : Memref sig .tc .vmem S1x1x128 .f32)
  (harg7 : arg7.IsWhole) (arg8 : Memref sig .tc .vmem S1x1x128 .f32) (harg8 : arg8.IsWhole)
  (arg9 : Memref sig .tc .vmem S1x1x512 .f32) (harg9 : arg9.IsWhole) (arg10 : Memref sig .tc .vmem S1x1x512 .f32)
  (harg10 : arg10.IsWhole) (arg11 : Memref sig .tc .vmem S1x4x128x128 .f32) (harg11 : arg11.IsWhole)
  (arg12 : Memref sig .tc .vmem S1x4x128x128 .f32) (harg12 : arg12.IsWhole)
  (arg13 : Memref sig .tc .vmem S1024x1024 .bf16) (harg13 : arg13.IsWhole)
  (arg20 : Memref sig .tc .vmem S12x4x136x128 .f32)
  (arg21 : Memref sig .tc .vmem S512x1536 .f32) (arg22 : Memref sig .tc .vmem S512x512 .f32)
  (arg23 : Memref sig .tc .vmem S512x512 .f32)
  (arg24 : Memref sig .tc .vmem S512x512 .f32)
  (rdH : Fin 2 → List (Pc S12x4x136x128) → Fin 12 → Fin 3 → V S1x4x128x128)
  (rdS : Fin 2 → Nat → List (Pc S8x256x256) → Fin 8 → V S1x256x256)

/-- The kernel's arguments' elements. -/
def A : Spec.Args := Spec.layer (fun b t e => m ((c.tc : Thread nD τ).loc main_arg0) (ix3 b t e)) (fun l e => m ((c.tc : Thread nD τ).loc main_arg1) (ix2 l e))
  (fun l e f => m ((c.tc : Thread nD τ).loc main_arg2) (ix3 l e f)) (fun l e f => m ((c.tc : Thread nD τ).loc main_arg3) (ix3 l e f))
  (fun l e => m ((c.tc : Thread nD τ).loc main_arg4) (ix2 l e)) (fun l e => m ((c.tc : Thread nD τ).loc main_arg5) (ix2 l e))
  (fun l e => m ((c.tc : Thread nD τ).loc main_arg6) (ix2 l e)) (fun l e => m ((c.tc : Thread nD τ).loc main_arg7) (ix2 l e))
  (fun l e => m ((c.tc : Thread nD τ).loc main_arg8) (ix2 l e)) (fun l g p s => m ((c.tc : Thread nD τ).loc main_arg9) (ix4 l g p s))
  (fun l e f => m ((c.tc : Thread nD τ).loc main_arg10) (ix3 l e f)) (fun l e f => m ((c.tc : Thread nD τ).loc main_arg11) (ix3 l e f))

def sqOf (t : Fin cfg0.N) (b : Fin 4) : Fin 8 := ⟨4 * (t.val / 8) + b.val, by have := t_lt t; omega⟩
def TOf (t : Fin cfg0.N) (k : Fin 2) : ℕ := 256 * (t.val % 8) + 128 * k.val

set_option maxHeartbeats 2000000 in
theorem reads : Reads (env arg2 harg2 arg3 harg3 arg4 harg4 arg5 harg5 arg6 harg6 arg7 harg7 arg8 harg8 arg9 harg9 arg10 harg10 arg11 harg11 arg12
    harg12 arg13 harg13 arg20 arg21 arg22 arg23 arg24 (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) rdH rdS) (A m c) (sqOf t) (TOf t) where
  x k b p e := by
    refine (ld_at _ _ _ (lX k) (ix3 b p e) (ix3 b ⟨128 * k.val + p.val, by omega⟩ e) (lX_coords k b p e)).trans ((blk0 m c t b _ e).trans ?_)
    have h : TOf t k + p.val < 2048 := by unfold TOf; omega
    refine Eq.trans ?_ (dif_pos h).symm
    exact congrArg (fun u => m ((c.tc : Thread nD τ).loc main_arg0) (ix3 _ u e)) (Fin.ext (by simp only [TOf]; omega))
  nrm e := (ld_at _ _ _ lN (ix3 0 0 e) (ix3 0 0 e) (lN_coords e)).trans (blk1 m c t e)
  wq e f := (ld_at _ _ _ lWi (ix2 e _) (ix2 e _) (lWi_coords e _)).trans ((blk2 m c t e _).trans (pack_q _ e f))
  wg e f := (ld_at _ _ _ lWi (ix2 e _) (ix2 e _) (lWi_coords e _)).trans ((blk2 m c t e _).trans (pack_g _ e f))
  wm e f := (ld_at _ _ _ lWi (ix2 e _) (ix2 e _) (lWi_coords e _)).trans ((blk2 m c t e _).trans (pack_m _ e f))
  wz e f := (ld_at _ _ _ lWi (ix2 e _) (ix2 e _) (lWi_coords e _)).trans ((blk2 m c t e _).trans (pack_z _ e f))
  cw j k d := (ld_at _ _ _ (lC j k) (ix3 0 0 d) (ix3 0 k ⟨128 * j.val + d.val, by omega⟩) (lC_coords j k d)).trans (blk3 m c t k _)
  alog h := (ld_at _ _ _ lV (ix3 0 0 _) (ix3 0 0 _) (lV_coords _)).trans (blk4 m c t h)
  dtb h := (ld_at _ _ _ lV (ix3 0 0 _) (ix3 0 0 _) (lV_coords _)).trans (blk5 m c t h)
  ong d := (ld_at _ _ _ lV (ix3 0 0 d) (ix3 0 0 d) (lV_coords d)).trans (blk6 m c t d)
  lg g d := (ld_at _ _ _ (lL g) (ix3 0 0 d) (ix3 0 0 (Spec.at4 g d)) (lL_coords g d)).trans (blk7 m c t _)
  lb g d := (ld_at _ _ _ (lL g) (ix3 0 0 d) (ix3 0 0 (Spec.at4 g d)) (lL_coords g d)).trans (blk8 m c t _)
  ws g p s := (ld_at _ _ _ (lW g) (ix4 0 0 p s) (ix4 0 g p s) (lW_coords g p s)).trans (blk9 m c t g p s)
  bs g p d := (ld_at _ _ _ (lW g) (ix4 0 0 p d) (ix4 0 g p d) (lW_coords g p d)).trans (blk10 m c t g p d)
  wo p i l := (ld_at _ _ _ (lO p) (ix2 i l) (ix2 ⟨256 * p.val + i.val, by omega⟩ l) (lO_coords p i l)).trans (blk11 m c t _ l)

end Step

end Cert.Proof.Mixer

end
-- ==== Proof.MixGrid.lean ====
/-
  The mixer's grid, point by point: every point leaves its block of the result, and in the carried scratch the last projections and the states.
-/
module

public import proofs.«01_k».proof.Defs
public import proofs.«01_k».proof.Proof.MixStep
public import Idealize.ShloMosaic.Lib.Pipeline.ReadBack

@[expose] public section

set_option maxRecDepth 16384

noncomputable section

namespace Cert.Proof.Mixer

open Idealize.ShloMosaic Idealize.SL.Sem Cert.KernelIdeal Cert.KernelIdeal.Gen
open Idealize.ShloMosaic.TcCoe

/-! ## Two tiles -/

section Two

variable {E : Env} {A : Spec.Args} {sq : Fin 4 → Fin 8} {T : Fin 2 → ℕ} (R : Reads E A sq T)

include R in
theorem next_hal (t : Fin 2) (s : St) (v : View sig .tc .vmem S12x4x136x128 .f32) (h : E.rdE = fun L => v.readCov L rEnd.toLoadRect) :
    HalOk A sq (T t + 128) fun j b k d => View.canon (E.next t s).pre (ix4 j b ⟨k.val, by omega⟩ d) := by
  intro j b k d
  simp only []
  rw [next_pre E t s v h, if_pos (by omega)]
  refine (P_q R t ⟨b.val * 128 + (120 + k.val), by omega⟩ ⟨128 * j.val + d.val, by omega⟩).trans ?_
  have e1 : mb ⟨b.val * 128 + (120 + k.val), by omega⟩ = b := Fin.ext (by simp only []; omega)
  rw [e1]
  exact congrArg (fun u => A.proj (sq b) u _) (by simp only []; omega)

theorem isS_of_canon (t : Fin 2) (s : St) (T0 : ℕ) (b : Fin 4) (p : Fin 2) (v : View sig .tc .vmem S8x256x256 .f32)
    (hv : ∀ L j, E.rdS t b.val L j = v.readCov L (rS j).toLoadRect)
    (h : PairOk A sq T0 b p fun r c => View.canon s.sp (ix3 ⟨2 * b.val + p.val, by omega⟩ r c)) :
    IsS (E.sOld t b.val (E.spL t s b.val) b p) p fun h => A.st (sq b) h T0 := by
  intro n c
  unfold Env.sOld
  rw [sT_apply, hv, cov_at v _ (rS ⟨2 * b.val + p.val, by omega⟩) (ix3 0 n c) (ix3 ⟨2 * b.val + p.val, by omega⟩ n c) (rS_coords _ n c),
    canon_sp_old E t s b p n c b.val (le_refl _)]
  exact h n c

variable (F : A.Fin') (hT : T 0 % 128 = 0) (hT1 : T 1 = T 0 + 128) (s : St) (v : View sig .tc .vmem S12x4x136x128 .f32)
  (w : View sig .tc .vmem S8x256x256 .f32) (hE : E.rdE = fun L => v.readCov L rEnd.toLoadRect)
  (hH : E.rdH 1 = fun L j s => v.readCov L (rH j s).toLoadRect) {hal : Fin 12 → Fin 4 → Fin 8 → Fin 128 → EReal} (hh : Hist E 0 s hal)
  (ho : HalOk A sq (T 0) hal)
  (h0 : ∀ (b : Fin 4) (p : Fin 2), IsS (E.sOld 0 b.val (E.spL 0 s b.val) b p) p fun h => A.st (sq b) h (T 0))
  (hv0 : ∀ n L j, 4 ≤ n → E.rdS 0 n L j = w.readCov L (rS j).toLoadRect) (hv1 : ∀ n L j, E.rdS 1 n L j = w.readCov L (rS j).toLoadRect)

include R F hT hT1 hE hH hh ho h0 hv0 hv1

theorem two : (∀ b p l, (E.out 0 s (ix3 b p l) : EReal) = A.out (sq b) (T 0 + p.val) l)
    ∧ (∀ b p l, (E.out 1 (E.next 0 s) (ix3 b p l) : EReal) = A.out (sq b) (T 0 + 128 + p.val) l)
    ∧ HalOk A sq (T 0 + 256) (fun j b k d => View.canon (E.next 1 (E.next 0 s)).pre (ix4 j b ⟨k.val, by omega⟩ d))
    ∧ ∀ b p, PairOk A sq (T 0 + 256) b p (fun r c => View.canon (E.next 1 (E.next 0 s)).sp (ix3 ⟨2 * b.val + p.val, by omega⟩ r c)) := by
  have p0 := next_sp R 0 s hh ho F h0 w hv0
  have hh1 := hist_cov E 1 (E.next 0 s) v hH
  have ho1 := next_hal R 0 s v hE
  rw [← hT1] at ho1 p0
  have h1 : ∀ (b : Fin 4) (p : Fin 2), IsS (E.sOld 1 b.val (E.spL 1 (E.next 0 s) b.val) b p) p fun h => A.st (sq b) h (T 1) :=
    fun b p => isS_of_canon 1 (E.next 0 s) (T 1) b p w (fun L j => hv1 _ L j) (p0 b p)
  have e : T 1 + 128 = T 0 + 256 := by omega
  refine ⟨fun b p l => out_eq R 0 s hh ho F h0 w hv0 hT b p l, fun b p l => ?_, ?_, fun b p => ?_⟩
  · rw [← hT1]
    exact out_eq R 1 (E.next 0 s) hh1 ho1 F h1 w (fun n L j _ => hv1 n L j) (by omega) b p l
  · rw [← e]
    exact next_hal R 1 (E.next 0 s) v hE
  · rw [← e]
    exact next_sp R 1 (E.next 0 s) hh1 ho1 F h1 w (fun n L j _ => hv1 n L j) b p

end Two

/-! ## The block a point leaves -/

abbrev oHi : Rect S4x256x1024 := Rect.unit (s := S4x256x1024) ![0, 128, 0] S4x128x1024.size inb_S4x256x1024_S4x128x1024_0_128_0
abbrev oLo : Rect S4x256x1024 := Rect.unit (s := S4x256x1024) ![0, 0, 0] S4x128x1024.size inb_S4x256x1024_S4x128x1024_0_0_0

theorem oHi_coords (b : Fin 4) (p : Fin 256) (q : Fin 128) (l : Fin 1024) (h : p.val = 128 + q.val) : ∀ a, ((ix3 b p l : S4x256x1024.Idx) a).val
    = oHi.off a + oHi.stride a * ((ix3 b q l : S4x128x1024.Idx) a).val := fun a => by
  match a with
  | 0 => show b.val = 0 + 1 * b.val; omega
  | 1 => show p.val = 128 + 1 * q.val; omega
  | 2 => show l.val = 0 + 1 * l.val; omega

theorem oLo_coords (b : Fin 4) (p : Fin 256) (q : Fin 128) (l : Fin 1024) (h : p.val = q.val) : ∀ a, ((ix3 b p l : S4x256x1024.Idx) a).val
    = oLo.off a + oLo.stride a * ((ix3 b q l : S4x128x1024.Idx) a).val := fun a => by
  match a with
  | 0 => show b.val = 0 + 1 * b.val; omega
  | 1 => show p.val = 0 + 1 * q.val; omega
  | 2 => show l.val = 0 + 1 * l.val; omega

theorem canon_out (x y : V S4x128x1024) (f : Fin 4 → ℕ → Fin 1024 → EReal) (hy : ∀ b (p : Fin 128) l, (y (ix3 b p l) : EReal) = f b p.val l)
    (hx : ∀ b (p : Fin 128) l, (x (ix3 b p l) : EReal) = f b (128 + p.val) l) (b : Fin 4) (p : Fin 256) (l : Fin 1024) :
    (View.canon ([⟨oHi, x⟩, ⟨oLo, y⟩] : List (Pc S4x256x1024)) (ix3 b p l) : EReal) = f b p.val l := by
  by_cases h : p.val < 128
  · rw [canon_miss _ _ _ 1 128 128 rfl rfl rfl (.inl h), canon_hit oLo _ _ (ix3 b ⟨p.val, h⟩ l) _ (oLo_coords b p ⟨p.val, h⟩ l rfl)]
    exact hy b ⟨p.val, h⟩ l
  · have e : p.val = 128 + (p.val - 128) := by omega
    rw [canon_hit oHi _ _ (ix3 b ⟨p.val - 128, by omega⟩ l) _ (oHi_coords b p ⟨p.val - 128, by omega⟩ l e)]
    refine (hx b ⟨p.val - 128, by omega⟩ l).trans ?_
    exact congrArg (fun u => f b u l) e.symm

/-! ## The points -/

variable (m : (ℓ : Loc nD τ sig) → Buf (Elt Ideal) ℓ) (c : Dev nD)

abbrev EA (t : Fin cfg0.N) : Env :=
  envA (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 scM0_1 scM0_2 scM0_3 scM0_4 scM0_5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

abbrev EB (t : Fin cfg0.N) (xs0 : Vec Ideal S12x4x136x128 .f32) (xs5 : Vec Ideal S8x256x256 .f32) : Env :=
  envB (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 scM0_2 scM0_3 scM0_4 scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs5

theorem readsA (t : Fin cfg0.N) : Reads (EA m c t) (A m c) (sqOf t) (TOf t) :=
  reads m t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 scM0_1 scM0_2 scM0_3 scM0_4 _ _

theorem readsB (t : Fin cfg0.N) (xs0 : Vec Ideal S12x4x136x128 .f32) (xs5 : Vec Ideal S8x256x256 .f32) : Reads (EB m c t xs0 xs5) (A m c) (sqOf t) (TOf t) :=
  reads m t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 scM0_1 scM0_2 scM0_3 scM0_4 _ _

theorem T0_mod (t : Fin cfg0.N) : TOf t 0 % 128 = 0 := by show (256 * (t.val % 8) + 128 * 0) % 128 = 0; omega
theorem T1_eq (t : Fin cfg0.N) : TOf t 1 = TOf t 0 + 128 := by show 256 * (t.val % 8) + 128 * 1 = 256 * (t.val % 8) + 128 * 0 + 128; omega
theorem T0_eq (t : Fin cfg0.N) : TOf t 0 = 256 * (t.val % 8) := by show 256 * (t.val % 8) + 128 * 0 = _; omega

/-- What point `t` leaves: its block of the result, the projections of its last eight positions, the states after it. -/
structure Good (t : Fin cfg0.N) (o : Vec Ideal S4x256x1024 .f32) (xs0 : Vec Ideal S12x4x136x128 .f32) (xs5 : Vec Ideal S8x256x256 .f32) : Prop where
  out : ∀ b p l, (o (ix3 b p l) : EReal) = (A m c).out (sqOf t b) (256 * (t.val % 8) + p.val) l
  hal : HalOk (A m c) (sqOf t) (256 * (t.val % 8) + 256) fun j b k d => xs0 (ix4 j b ⟨k.val, by omega⟩ d)
  st : ∀ b p, PairOk (A m c) (sqOf t) (256 * (t.val % 8) + 256) b p fun r c => xs5 (ix3 ⟨2 * b.val + p.val, by omega⟩ r c)

theorem good_of {E : Env} (t : Fin cfg0.N) (s : St)
    (h : (∀ b p l, (E.out 0 s (ix3 b p l) : EReal) = (A m c).out (sqOf t b) (TOf t 0 + p.val) l)
      ∧ (∀ b p l, (E.out 1 (E.next 0 s) (ix3 b p l) : EReal) = (A m c).out (sqOf t b) (TOf t 0 + 128 + p.val) l)
      ∧ HalOk (A m c) (sqOf t) (TOf t 0 + 256) (fun j b k d => View.canon (E.next 1 (E.next 0 s)).pre (ix4 j b ⟨k.val, by omega⟩ d))
      ∧ ∀ b p, PairOk (A m c) (sqOf t) (TOf t 0 + 256) b p (fun r c => View.canon (E.next 1 (E.next 0 s)).sp (ix3 ⟨2 * b.val + p.val, by omega⟩ r c)))
    (o : Vec Ideal S4x256x1024 .f32) (xs0 : Vec Ideal S12x4x136x128 .f32) (xs5 : Vec Ideal S8x256x256 .f32)
    (eo : o = VO0_15.read (Elt Ideal) (VO0_15.writes (Elt Ideal) VO0_15.junk [⟨oHi, E.out 1 (E.next 0 s)⟩, ⟨oLo, E.out 0 s⟩]))
    (e0 : xs0 = VS0_0.read (Elt Ideal) (VS0_0.writes (Elt Ideal) VS0_0.junk (E.next 1 (E.next 0 s)).pre))
    (e5 : xs5 = VS0_5.read (Elt Ideal) (VS0_5.writes (Elt Ideal) VS0_5.junk (E.next 1 (E.next 0 s)).sp)) : Good m c t o xs0 xs5 := by
  obtain ⟨h1, h2, h3, h4⟩ := h
  rw [T0_eq] at h1 h2 h3 h4
  refine ⟨fun b p l => ?_, fun j b k d => ?_, fun b p r c' => ?_⟩
  · rw [eo, View.read_writes_junk_apply_eq_canon]
    exact canon_out _ _ (fun b p l => (A m c).out (sqOf t b) (256 * (t.val % 8) + p) l) h1
      (fun b p l => (h2 b p l).trans (congrArg (fun u => (A m c).out (sqOf t b) u l) (by omega))) b p l
  · simp only []
    rw [e0, View.read_writes_junk_apply_eq_canon]
    exact h3 j b k d
  · simp only []
    rw [e5, View.read_writes_junk_apply_eq_canon]
    exact h4 b p r c'

/-! ### The first point of a row of blocks -/

theorem canon_stA_pre (j : Fin 12) (b : Fin 4) (k : Fin 8) (d : Fin 128) : (View.canon stA.pre (ix4 j b ⟨k.val, by omega⟩ d) : EReal) = 0 := by
  unfold stA
  simp only []
  rw [canon_hit rTop _ _ (ix4 j b k d) _ (rTop_coords j b k d)]
  unfold k0_pay5
  pointwise

abbrev rSp : Rect S8x256x256 := Rect.unit (s := S8x256x256) ![0, 0, 0] S8x256x256.size inb_S8x256x256_S8x256x256_0_0_0

theorem rSp_coords (j : Fin 8) (r c : Fin 256) : ∀ a, ((ix3 j r c : S8x256x256.Idx) a).val = rSp.off a + rSp.stride a * ((ix3 j r c : S8x256x256.Idx) a).val := fun a => by
  match a with
  | 0 => show j.val = 0 + 1 * j.val; omega
  | 1 => show r.val = 0 + 1 * r.val; omega
  | 2 => show c.val = 0 + 1 * c.val; omega

theorem canon_stA_sp (j : Fin 8) (r c : Fin 256) : (View.canon stA.sp (ix3 j r c) : EReal) = 0 := by
  unfold stA
  simp only []
  rw [canon_hit rSp _ _ (ix3 j r c) _ (rSp_coords j r c)]
  unfold k0_pay4
  pointwise

variable (F : (A m c).Fin')

include F

theorem stepA (t : Fin cfg0.N) (h : t.val % 8 = 0) : Good m c t (outsAt0 m c t.val t.isLt).1 (outsAt0 m c t.val t.isLt).2.2.2.1 (outsAt0 m c t.val t.isLt).2.2.2.2 := by
  rw [outsAt0_A m c t h]
  have hT : TOf t 0 = 0 := by rw [T0_eq, h]
  refine good_of m c (E := EA m c t) t stA (two (readsA m c t) F (T0_mod t) (T1_eq t) stA scM0_0.view scM0_5.view rfl rfl
    (hist_cov (EA m c t) 0 stA scM0_0.view rfl) ?_ ?_ (fun _ _ _ _ => rfl) (fun _ _ _ => rfl)) _ _ _ ?_ ?_ ?_
  · intro j b k d
    rw [hT, if_neg (by omega)]
    exact canon_stA_pre j b k d
  · intro b p
    rw [hT]
    refine isS_of_canon 0 stA 0 b p scM0_5.view (fun L j => rfl) fun n c' => ?_
    refine (canon_stA_sp _ n c').trans ?_
    split
    · rfl
    · rfl
  · simp only []
    unfold out0_A_15
    rw [runA_out]
  · simp only []
    unfold sout0_A_0
    rw [runA_pre]
  · simp only []
    unfold sout0_A_5
    rw [runA_sp]

/-! ### The other points -/

theorem stepB (t : Fin cfg0.N) (h : ¬t.val % 8 = 0) (o : Vec Ideal S4x256x1024 .f32)
    (hg : Good m c ⟨t.val - 1, Nat.lt_of_le_of_lt (Nat.sub_le _ _) t.isLt⟩ o (outsAt0 m c (t.val - 1) (Nat.lt_of_le_of_lt (Nat.sub_le _ _) t.isLt)).2.2.2.1
      (outsAt0 m c (t.val - 1) (Nat.lt_of_le_of_lt (Nat.sub_le _ _) t.isLt)).2.2.2.2) :
    Good m c t (outsAt0 m c t.val t.isLt).1 (outsAt0 m c t.val t.isLt).2.2.2.1 (outsAt0 m c t.val t.isLt).2.2.2.2 := by
  rw [outsAt0_B m c t h]
  generalize (outsAt0 m c (t.val - 1) (Nat.lt_of_le_of_lt (Nat.sub_le _ _) t.isLt)).2.2.2.1 = xs0 at hg ⊢
  generalize (outsAt0 m c (t.val - 1) (Nat.lt_of_le_of_lt (Nat.sub_le _ _) t.isLt)).2.2.2.2 = xs5 at hg ⊢
  have eT : 256 * ((t.val - 1) % 8) + 256 = TOf t 0 := by rw [T0_eq]; omega
  have eS : sqOf ⟨t.val - 1, Nat.lt_of_le_of_lt (Nat.sub_le _ _) t.isLt⟩ = sqOf t :=
    funext fun b => Fin.ext (show 4 * ((t.val - 1) / 8) + b.val = 4 * (t.val / 8) + b.val by omega)
  obtain ⟨-, g0, g5⟩ := hg
  simp only [] at g0 g5
  rw [eT, eS] at g0 g5
  refine good_of m c (E := EB m c t xs0 xs5) t stB (two (readsB m c t xs0 xs5) F (T0_mod t) (T1_eq t) stB scM0_0.view scM0_5.view rfl rfl
    (hist_at (EB m c t xs0 xs5) 0 stB scM0_0.view ((Memref.isWhole_whole _ : scM0_0.IsWhole).unread xs0) rfl rfl) ?_ ?_ ?_ (fun _ _ _ => rfl)) _ _ _ ?_ ?_ ?_
  · intro j b k d
    refine (congrFun (read_unread_whole cc0_scratch0 _ xs0) _).trans ?_
    exact g0 j b k d
  · intro b p n c'
    unfold Env.sOld
    rw [sT_apply]
    refine Eq.trans ?_ (g5 b p n c')
    have hb : (0 : Fin 2).val = 0 ∧ b.val < 4 := ⟨rfl, b.isLt⟩
    refine (congrFun (if_pos hb : (EB m c t xs0 xs5).rdS 0 b.val ((EB m c t xs0 xs5).spL 0 stB b.val) ⟨2 * b.val + p.val, by omega⟩
      = View.readAt (Elt Ideal) scM0_5.view (rS ⟨2 * b.val + p.val, by omega⟩).toLoadRect ((Memref.isWhole_whole _ : scM0_5.IsWhole).unread xs5)) _).trans ?_
    rw [at_at scM0_5.view _ (rS ⟨2 * b.val + p.val, by omega⟩) (ix3 0 n c') (ix3 ⟨2 * b.val + p.val, by omega⟩ n c') (rS_coords _ n c')]
    exact congrFun (read_unread_whole cc0_scratch5 _ xs5) _
  · intro n L j hn
    exact if_neg (fun hh => by omega)
  · simp only []
    unfold out0_B_15
    rw [runB_out]
  · simp only []
    unfold sout0_B_0
    rw [runB_pre]
  · simp only []
    unfold sout0_B_5
    rw [runB_sp]

theorem good : ∀ (n : ℕ) (hn : n < cfg0.N), Good m c ⟨n, hn⟩ (outsAt0 m c n hn).1 (outsAt0 m c n hn).2.2.2.1 (outsAt0 m c n hn).2.2.2.2
  | 0, hn => stepA m c F ⟨0, hn⟩ rfl
  | n + 1, hn => by
    by_cases h : (n + 1) % 8 = 0
    · exact stepA m c F ⟨n + 1, hn⟩ h
    · exact stepB m c F ⟨n + 1, hn⟩ h _ (good n (by omega))

/-! ## The result array -/

omit F in
theorem emb15 (t : Fin cfg0.N) (b : Fin 4) (p : Fin 256) (e : Fin 1024) : (win0_15.blk t).view.emb (ix3 b p e) =
    ix3 (⟨4 * (t.val / 8) + b.val, by have := t_lt t; omega⟩ : Fin 8) (⟨256 * (t.val % 8) + p.val, by omega⟩ : Fin 2048) e := by
  blk_ext [at15]

omit F in
def outF (b : Fin 8) (t : Fin 2048) (l : Fin 1024) : EReal := (A m c).out b t.val l

theorem array15 : (dats m 0 c).arrAt 15 cfg0.N = fun i : S8x2048x1024.Idx => outF m c (i 0) (i 1) (i 2) := by
  refine (dats m 0 c).arrAt_eq_of_covers 15 _ (by decide +kernel) fun t hf y => ?_
  blk_simp
  rw [after0_15]
  idx_vars y
  change _ = outF m c ((win0_15.blk t).view.emb (ix3 y0 y1 y2) 0) ((win0_15.blk t).view.emb (ix3 y0 y1 y2) 1) ((win0_15.blk t).view.emb (ix3 y0 y1 y2) 2)
  rw [emb15]
  exact (good m c F t.val t.isLt).out y0 y1 y2

end Cert.Proof.Mixer

end
-- ==== Proof.MixRefEntry.lean ====
/-
  What the mixer's reference computes before its loop over the positions, stage by stage, read at an element.
-/
module

public import proofs.«01_k».proof.Defs
public import proofs.«01_k».proof.Proof.Gen.MixRefIdeal.Run
public import Idealize.ShloMosaic.Lib.Pointwise
public import Idealize.ShloMosaic.Lib.Pipeline.ValueKit
public import Idealize.ShloMosaic.Lib.Tactic.CleanTypes
public import proofs.«01_k».proof.Proof.MixSpec

@[expose] public section

set_option maxRecDepth 16384

noncomputable section

namespace Cert.Proof.MixRef

open Idealize.ShloMosaic Idealize.SL.Sem Idealize.ShloMosaic.StableHlo Idealize.ShloMosaic.Pipeline
open Cert.MixRefIdeal Cert.MixRefIdeal.Gen Cert.MixRefIdeal.Value Idealize.ShloMosaic.TcCoe

abbrev V (s : Shape) := FVec Ideal s .f32

def projR (x : V S8x2048x1024) (nm : V S2x1024) (wi : V S2x1024x3080) : V S8x2048x3080 :=
  Host.dotGeneral dot_S8x2048x1024_S1024x3080_S8x2048x3080_2_0_01_1_n_n none
    (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
        (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
      (broadcastInDim S8x2048x1024 ![0, 1, 2] bcast_S1x1x1024_S8x2048x1024_0_1_2
        (broadcastInDim S1x1x1024 ![2] bcast_S1024_S1x1x1024_2
          (shapeCast S1024 (extractStridedSlice S1x1024 ![0, 0] nm slices_S2x1024_S1x1024_0_0) shapeCasts_S1x1024_S1024))))
    (shapeCast S1024x3080 (extractStridedSlice S1x1024x3080 ![0, 0, 0] wi slices_S2x1024x3080_S1x1024x3080_0_0_0)
      shapeCasts_S1x1024x3080_S1024x3080)

def tapR (w : V S1x1x1536) : V S8x2048x1536 :=
  broadcastInDim S8x2048x1536 ![0, 1, 2] bcast_S1x1x1536_S8x2048x1536_0_1_2 (broadcastInDim S1x1x1536 ![2] bcast_S1536_S1x1x1536_2
    (shapeCast S1536 w shapeCasts_S1x1x1536_S1536))

def convR (y : V S8x2051x1536) (cw : V S2x4x1536) : V S8x2048x1536 :=
  addf (addf (addf
    (mulf (extractStridedSlice S8x2048x1536 ![0, 3, 0] y slices_S8x2051x1536_S8x2048x1536_0_3_0)
      (tapR (extractStridedSlice S1x1x1536 ![0, 3, 0] cw slices_S2x4x1536_S1x1x1536_0_3_0)))
    (mulf (extractStridedSlice S8x2048x1536 ![0, 2, 0] y slices_S8x2051x1536_S8x2048x1536_0_2_0)
      (tapR (extractStridedSlice S1x1x1536 ![0, 2, 0] cw slices_S2x4x1536_S1x1x1536_0_2_0))))
    (mulf (extractStridedSlice S8x2048x1536 ![0, 1, 0] y slices_S8x2051x1536_S8x2048x1536_0_1_0)
      (tapR (extractStridedSlice S1x1x1536 ![0, 1, 0] cw slices_S2x4x1536_S1x1x1536_0_1_0))))
    (mulf (extractStridedSlice S8x2048x1536 ![0, 0, 0] y slices_S8x2051x1536_S8x2048x1536_0_0_0)
      (tapR (extractStridedSlice S1x1x1536 ![0, 0, 0] cw slices_S2x4x1536_S1x1x1536_0_0_0)))

def l2R (y : V S8x2048x4x128) : V S8x2048x4x128 :=
  mulf y (broadcastInDim S8x2048x4x128 ![0, 1, 2, 3] bcast_S8x2048x4x1_S8x2048x4x128_0_1_2_3
    (Host.rsqrt (addf (broadcastInDim S8x2048x4x1 ![0, 1, 2] bcast_S8x2048x4_S8x2048x4x1_0_1_2
      (Host.reduceAdd (mulf y y) (constant S_ .f32 0x00000000#32) reducesTo_S8x2048x4x128_S8x2048x4_d3 h_S_))
      (broadcastInDim S8x2048x4x1 ![] bcast_S_S8x2048x4x1 (constant S_ .f32 0x358637BD#32)))))

def qR (y : V S8x2048x12x128) : V S8x2048x4x128 :=
  mulf (l2R (extractStridedSlice S8x2048x4x128 ![0, 0, 0, 0] y slices_S8x2048x12x128_S8x2048x4x128_0_0_0_0))
    (broadcastInDim S8x2048x4x128 ![] bcast_S_S8x2048x4x128 (constant S_ .f32 0x3DB504F3#32))
def kR (y : V S8x2048x12x128) : V S8x2048x4x128 := l2R (extractStridedSlice S8x2048x4x128 ![0, 0, 4, 0] y slices_S8x2048x12x128_S8x2048x4x128_0_0_4_0)
def vR (y : V S8x2048x12x128) : V S8x2048x4x128 := extractStridedSlice S8x2048x4x128 ![0, 0, 8, 0] y slices_S8x2048x12x128_S8x2048x4x128_0_0_8_0

def zR (p : V S8x2048x3080) : V S8x2048x4x128 :=
  shapeCast S8x2048x4x128 (extractStridedSlice S8x2048x512 ![0, 0, 1536] p slices_S8x2048x3080_S8x2048x512_0_0_1536) shapeCasts_S8x2048x512_S8x2048x4x128

def betaR (p : V S8x2048x3080) : V S8x2048x4 :=
  Host.divf (broadcastInDim S8x2048x4 ![] bcast_S_S8x2048x4 (constant S_ .f32 0x3F800000#32))
    (addf (broadcastInDim S8x2048x4 ![] bcast_S_S8x2048x4 (constant S_ .f32 0x3F800000#32))
      (Host.exp (Host.negf (extractStridedSlice S8x2048x4 ![0, 0, 2048] p slices_S8x2048x3080_S8x2048x4_0_0_2048))))

def row4 (a : V S4) : V S8x2048x4 :=
  broadcastInDim S8x2048x4 ![0, 1, 2] bcast_S1x1x4_S8x2048x4_0_1_2 (broadcastInDim S1x1x4 ![2] bcast_S4_S1x1x4_2 a)

def spR (a : V S8x2048x4) : V S8x2048x4 :=
  let z := broadcastInDim S8x2048x4 ![] bcast_S_S8x2048x4 (constant (F := Ideal) S_ .f32 0x00000000#32)
  select (cmpf .une (subf a z) (subf a z)) (addf a z) (addf (maximumf a z) (Host.log1p (Host.exp (Host.negf (Host.absf (subf a z))))))

def aR (p : V S8x2048x3080) (al dt : V S2x4) : V S8x2048x4 :=
  Host.exp (mulf (row4 (Host.negf (Host.exp (shapeCast S4 (extractStridedSlice S1x4 ![0, 0] al slices_S2x4_S1x4_0_0) shapeCasts_S1x4_S4))))
    (spR (addf (extractStridedSlice S8x2048x4 ![0, 0, 2052] p slices_S8x2048x3080_S8x2048x4_0_0_2052)
      (row4 (shapeCast S4 (extractStridedSlice S1x4 ![0, 0] dt slices_S2x4_S1x4_0_0) shapeCasts_S1x4_S4)))))

def gmR (p : V S8x2048x3080) : V S8x16x128x8x128 :=
  let y := extractStridedSlice S8x2048x1024 ![0, 0, 2056] p slices_S8x2048x3080_S8x2048x1024_0_0_2056
  let w (n : BitVec 32) : V S8x2048x1024 := broadcastInDim S8x2048x1024 ![] bcast_S_S8x2048x1024 (constant S_ .f32 n)
  shapeCast S8x16x128x8x128 (mulf y (mulf (w 0x3F000000#32) (addf (w 0x3F800000#32)
    (Host.tanh (mulf (w 0x3F4C422A#32) (addf y (mulf (w 0x3D372713#32) (mulf (mulf y y) y)))))))) shapeCasts_S8x2048x1024_S8x16x128x8x128

def meanR (y : V S8x16x128x4x128) : V S8x16x128x4x1 :=
  Host.divf (broadcastInDim S8x16x128x4x1 ![0, 1, 2, 3] bcast_S8x16x128x4_S8x16x128x4x1_0_1_2_3
      (Host.reduceAdd y (constant S_ .f32 0x00000000#32) reducesTo_S8x16x128x4x128_S8x16x128x4_d4 h_S_))
    (broadcastInDim S8x16x128x4x1 ![] bcast_S_S8x16x128x4x1 (constant S_ .f32 0x43000000#32))

def widR (y : V S8x16x128x4x1) : V S8x16x128x4x128 :=
  broadcastInDim S8x16x128x4x128 ![0, 1, 2, 3, 4] bcast_S8x16x128x4x1_S8x16x128x4x128_0_1_2_3_4 y

def lnpR (g : V S2x512) : V S8x16x128x4x128 :=
  broadcastInDim S8x16x128x4x128 ![0, 1, 2, 3, 4] bcast_S1x1x1x4x128_S8x16x128x4x128_0_1_2_3_4
    (broadcastInDim S1x1x1x4x128 ![3, 4] bcast_S4x128_S1x1x1x4x128_3_4 (shapeCast S4x128
      (shapeCast S512 (extractStridedSlice S1x512 ![0, 0] g slices_S2x512_S1x512_0_0) shapeCasts_S1x512_S512) shapeCasts_S512_S4x128))

def lnR (gm : V S8x16x128x8x128) (lg lb : V S2x512) : V S8x16x128x4x128 :=
  let y := extractStridedSlice S8x16x128x4x128 ![0, 0, 0, 4, 0] gm slices_S8x16x128x8x128_S8x16x128x4x128_0_0_0_4_0
  let d := subf y (widR (meanR y))
  addf (mulf (mulf d (widR (Host.rsqrt (addf (meanR (mulf d d))
    (broadcastInDim S8x16x128x4x1 ![] bcast_S_S8x16x128x4x1 (constant S_ .f32 0x358637BD#32)))))) (lnpR lg)) (lnpR lb)

def wsR (ws : V S2x4x128x128) : V S4x128x128 :=
  select (broadcastInDim S4x128x128 ![1, 2] bcast_S128x128_S4x128x128_1_2
      (cmpi .sge (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0)))))
    (shapeCast S4x128x128 (extractStridedSlice S1x4x128x128 ![0, 0, 0, 0] ws slices_S2x4x128x128_S1x4x128x128_0_0_0_0) shapeCasts_S1x4x128x128_S4x128x128)
    (broadcastInDim S4x128x128 ![] bcast_S_S4x128x128 (constant S_ .f32 0x00000000#32))

def ogm' (gm : V S8x16x128x8x128) (vg : V S8x16x128x4x128) (ws : V S4x128x128) (bs : V S2x4x128) : V S8x2048x512 :=
  shapeCast S8x2048x512 (mulf (extractStridedSlice S8x16x128x4x128 ![0, 0, 0, 0, 0] gm slices_S8x16x128x8x128_S8x16x128x4x128_0_0_0_0_0)
    (addf (transpose S8x16x128x4x128 [1, 2, 4, 0, 3]
        (Host.dotGeneral dot_S8x16x128x4x128_S4x128x128_S4x8x16x128x128_2_2_014_1_3_0 none vg ws)
        transposes_S4x8x16x128x128_S8x16x128x4x128_1_2_4_0_3)
      (broadcastInDim S8x16x128x4x128 ![0, 1, 2, 3, 4] bcast_S1x1x128x4x1_S8x16x128x4x128_0_1_2_3_4
        (broadcastInDim S1x1x128x4x1 ![2, 3, 4] bcast_S128x4x1_S1x1x128x4x1_2_3_4
          (broadcastInDim S128x4x1 ![0, 1] bcast_S128x4_S128x4x1_0_1
            (transpose S128x4 [1, 0] (shapeCast S4x128 (extractStridedSlice S1x4x128 ![0, 0, 0] bs slices_S2x4x128_S1x4x128_0_0_0)
              shapeCasts_S1x4x128_S4x128) transposes_S4x128_S128x4_1_0)))))) shapeCasts_S8x16x128x4x128_S8x2048x512

def gainR (og : V S2x128) : V S128 := shapeCast S128 (extractStridedSlice S1x128 ![0, 0] og slices_S2x128_S1x128_0_0) shapeCasts_S1x128_S128

/-! ## The loop's carried buffers at its entry are these. -/

section Stretches

variable (W : Valuation τ sig (Elt Ideal))

def siluR (a : V S8x2048x1536) : V S8x2048x1536 :=
  mulf a (Host.divf (broadcastInDim S8x2048x1536 ![] bcast_S_S8x2048x1536 (constant S_ .f32 0x3F800000#32))
    (addf (broadcastInDim S8x2048x1536 ![] bcast_S_S8x2048x1536 (constant S_ .f32 0x3F800000#32)) (Host.exp (Host.negf a))))

def split12 (a : V S8x2048x1536) : V S8x2048x12x128 := shapeCast S8x2048x12x128 a shapeCasts_S8x2048x1536_S8x2048x12x128

def padR' (y : V S8x2048x1536) (z : IVec S_ 32) : V S8x2051x1536 :=
  pad S8x2051x1536 ![0, 3, 0] ![0, 0, 0] ![0, 0, 0] y (sitofp .f32 z) pads_S8x2048x1536_S8x2051x1536_000_300_000 h_S_

abbrev rd (r : Ref sig .tc) := W (Proc.devRef .tc r)

theorem s0_17 : after hostOps0 W (Proc.devRef .tc main_v17) = projR (rd W main_arg0) (rd W main_arg1) (rd W main_arg2) := by
  after_reads_simp; rfl
theorem s0_18 : after hostOps0 W (Proc.devRef .tc main_v18)
    = extractStridedSlice S8x2048x1536 ![0, 0, 0] (projR (rd W main_arg0) (rd W main_arg1) (rd W main_arg2)) slices_S8x2048x3080_S8x2048x1536_0_0_0 := by
  after_reads_simp; rfl
theorem s0_c : after hostOps0 W (Proc.devRef .tc main_c) = (constantI S_ 32 0#32 : IVec S_ 32) := by
  after_reads_simp; try rfl
theorem s1_19 : after hostOps0_1 W (Proc.devRef .tc main_v19) = padR' (rd W main_v18) (rd W main_c) := by
  after_reads_simp; rfl
theorem s2_46 : after hostOps0_2 W (Proc.devRef .tc main_v46) = convR (rd W main_v19) (rd W main_arg3) := by
  after_reads_simp; rfl
theorem s3_47 : after hostOps0_3 W (Proc.devRef .tc main_v47) = siluR (rd W main_v46) := by
  after_reads_simp; rfl

abbrev late : Valuation τ sig (Elt Ideal) := after hostOps0_8 (after hostOps0_7 (after hostOps0_6 (after hostOps0_5 (after hostOps0_4 W))))

theorem late0 : late W (Proc.devRef .tc main_v165_0) = aR (rd W main_v17) (rd W main_arg4) (rd W main_arg5) := by
  after_reads_simp; rfl
theorem late1 : late W (Proc.devRef .tc main_v165_1) = betaR (rd W main_v17) := by after_reads_simp; rfl
theorem late2 : late W (Proc.devRef .tc main_v165_2) = vR (split12 (rd W main_v47)) := by after_reads_simp; rfl
theorem late3 : late W (Proc.devRef .tc main_v165_3) = kR (split12 (rd W main_v47)) := by after_reads_simp; rfl
theorem late4 : late W (Proc.devRef .tc main_v165_4) = qR (split12 (rd W main_v47)) := by after_reads_simp; rfl
theorem late5 : late W (Proc.devRef .tc main_v165_5) = gainR (rd W main_arg6) := by after_reads_simp; rfl
theorem late6 : late W (Proc.devRef .tc main_v165_6) = zR (rd W main_v17) := by after_reads_simp; rfl
theorem late9 : late W (Proc.devRef .tc main_v165_9) = fun _ => (0#32 : BitVec 32) := by after_reads_simp; rfl
theorem late10 : late W (Proc.devRef .tc main_v165_10)
    = broadcastInDim S8x4x128x128 ![] bcast_S_S8x4x128x128 (constant (F := Ideal) S_ .f32 0x00000000#32) := by after_reads_simp; rfl
theorem late11 : late W (Proc.devRef .tc main_v165_11)
    = broadcastInDim S8x2048x1024 ![] bcast_S_S8x2048x1024 (constant (F := Ideal) S_ .f32 0x00000000#32) := by after_reads_simp; rfl

/-! The gMLP half, in three stretches. -/

theorem g4_17 : after hostOps0_5 (after hostOps0_4 W) (Proc.devRef .tc main_v17) = rd W main_v17 := by after_reads_simp
theorem g6_106 : after hostOps0_6 W (Proc.devRef .tc main_v107) = gmR (rd W main_v17) := by after_reads_simp; rfl
theorem g6_137 : after hostOps0_6 W (Proc.devRef .tc main_v138) = lnR (gmR (rd W main_v17)) (rd W main_arg7) (rd W main_arg8) := by
  after_reads_simp; rfl
theorem g7_146 : after hostOps0_7 (after hostOps0_6 W) (Proc.devRef .tc main_v147) = wsR (rd W main_arg9) := by after_reads_simp; rfl
theorem g8_164 : after hostOps0_8 W (Proc.devRef .tc main_v165_7) = ogm' (rd W main_v107) (rd W main_v138) (rd W main_v147) (rd W main_arg10) := by
  after_reads_simp; rfl

abbrev early : Valuation τ sig (Elt Ideal) := after hostOps0_3 (after hostOps0_2 (after hostOps0_1 (after hostOps0 W)))

theorem e_17 : early W (Proc.devRef .tc main_v17) = projR (rd W main_arg0) (rd W main_arg1) (rd W main_arg2) := by
  refine Eq.trans ?_ (s0_17 W); after_reads_simp
theorem e_arg4 : early W (Proc.devRef .tc main_arg4) = rd W main_arg4 := by after_reads_simp
theorem e_arg5 : early W (Proc.devRef .tc main_arg5) = rd W main_arg5 := by after_reads_simp
theorem e_arg6 : early W (Proc.devRef .tc main_arg6) = rd W main_arg6 := by after_reads_simp
theorem e_arg7 : after hostOps0_5 (after hostOps0_4 (early W)) (Proc.devRef .tc main_arg7) = rd W main_arg7 := by after_reads_simp
theorem e_arg8 : after hostOps0_5 (after hostOps0_4 (early W)) (Proc.devRef .tc main_arg8) = rd W main_arg8 := by after_reads_simp
theorem e_arg9 : after hostOps0_5 (after hostOps0_4 (early W)) (Proc.devRef .tc main_arg9) = rd W main_arg9 := by after_reads_simp
theorem e_arg10 : after hostOps0_7 (after hostOps0_6 (after hostOps0_5 (after hostOps0_4 (early W)))) (Proc.devRef .tc main_arg10) = rd W main_arg10 := by
  after_reads_simp
theorem f7_106 : after hostOps0_7 W (Proc.devRef .tc main_v107) = rd W main_v107 := by after_reads_simp
theorem f7_137 : after hostOps0_7 W (Proc.devRef .tc main_v138) = rd W main_v138 := by after_reads_simp
theorem f1_arg3 : after hostOps0_1 (after hostOps0 W) (Proc.devRef .tc main_arg3) = rd W main_arg3 := by after_reads_simp

def convIn : V S8x2048x1536 :=
  convR (padR' (extractStridedSlice S8x2048x1536 ![0, 0, 0] (projR (rd W main_arg0) (rd W main_arg1) (rd W main_arg2))
    slices_S8x2048x3080_S8x2048x1536_0_0_0) (constantI S_ 32 0#32)) (rd W main_arg3)

theorem e_47 : early W (Proc.devRef .tc main_v47) = siluR (convIn W) := by
  rw [early, s3_47, rd, s2_46, rd, rd, f1_arg3, s1_19, rd, rd, s0_18, s0_c]; rfl

end Stretches

variable (m : (ℓ : Loc nD τ sig) → Buf (Elt Ideal) ℓ) (c : Dev nD)

abbrev L0 : Valuation τ sig (Elt Ideal) := launchContents m c

theorem entry_eq : entryContents preI m c = late (early (L0 m c)) := by
  simp only [entryContents, afterL_cons, afterL_nil]

def P0 : V S8x2048x3080 := projR (rd (L0 m c) main_arg0) (rd (L0 m c) main_arg1) (rd (L0 m c) main_arg2)
def Y0 : V S8x2048x12x128 := split12 (siluR (convIn (L0 m c)))

theorem entry0 : entryContents preI m c (Proc.devRef .tc main_v165_0) = aR (P0 m c) (rd (L0 m c) main_arg4) (rd (L0 m c) main_arg5) := by
  rw [entry_eq, late0, rd, rd, rd, e_17, e_arg4, e_arg5]; rfl
theorem entry1 : entryContents preI m c (Proc.devRef .tc main_v165_1) = betaR (P0 m c) := by
  rw [entry_eq, late1, rd, e_17]; rfl
theorem entry2 : entryContents preI m c (Proc.devRef .tc main_v165_2) = vR (Y0 m c) := by
  rw [entry_eq, late2, rd, e_47]; rfl
theorem entry3 : entryContents preI m c (Proc.devRef .tc main_v165_3) = kR (Y0 m c) := by
  rw [entry_eq, late3, rd, e_47]; rfl
theorem entry4 : entryContents preI m c (Proc.devRef .tc main_v165_4) = qR (Y0 m c) := by
  rw [entry_eq, late4, rd, e_47]; rfl
theorem entry5 : entryContents preI m c (Proc.devRef .tc main_v165_5) = gainR (rd (L0 m c) main_arg6) := by
  rw [entry_eq, late5, rd, e_arg6]
theorem entry6 : entryContents preI m c (Proc.devRef .tc main_v165_6) = zR (P0 m c) := by
  rw [entry_eq, late6, rd, e_17]; rfl
theorem entry7 : entryContents preI m c (Proc.devRef .tc main_v165_7)
    = ogm' (gmR (P0 m c)) (lnR (gmR (P0 m c)) (rd (L0 m c) main_arg7) (rd (L0 m c) main_arg8)) (wsR (rd (L0 m c) main_arg9))
        (rd (L0 m c) main_arg10) := by
  rw [entry_eq, late, g8_164, rd, rd, rd, rd, f7_106, f7_137, g7_146, rd, rd, g6_106, g6_137, rd, rd, rd, rd, g4_17, e_arg10, e_arg9, e_arg7, e_arg8,
    rd, e_17]; rfl
theorem entry9 : entryContents preI m c (Proc.devRef .tc main_v165_9) = fun _ => (0#32 : BitVec 32) := by rw [entry_eq, late9]
theorem entry10 : entryContents preI m c (Proc.devRef .tc main_v165_10)
    = broadcastInDim S8x4x128x128 ![] bcast_S_S8x4x128x128 (constant (F := Ideal) S_ .f32 0x00000000#32) := by rw [entry_eq, late10]
theorem entry11 : entryContents preI m c (Proc.devRef .tc main_v165_11)
    = broadcastInDim S8x2048x1024 ![] bcast_S_S8x2048x1024 (constant (F := Ideal) S_ .f32 0x00000000#32) := by rw [entry_eq, late11]

end Cert.Proof.MixRef

end
-- ==== Proof.MixWts.lean ====
/-
  The mixer's other two results, the layer's weights cast for the feed-forward layer: gate and up columns interleaved in pieces of 256, and the down weights.
-/
module

public import proofs.«01_k».proof.Defs
public import proofs.«01_k».proof.Proof.MixIn
public import proofs.«01_k».proof.Proof.MixRefEntry

@[expose] public section

set_option maxRecDepth 16384

noncomputable section

namespace Cert.Proof.Mixer

open Idealize.ShloMosaic Idealize.SL.Sem Cert.KernelIdeal Cert.KernelIdeal.Gen
open Idealize.ShloMosaic.TcCoe

/-! ## What a point stores -/

abbrev wIn : Rect S1x64x2816 := Rect.unit (s := S1x64x2816) ![0, 0, 0] S1x64x2816.size inb_S1x64x2816_S1x64x2816_0_0_0
abbrev dIn : Rect S1x176x1024 := Rect.unit (s := S1x176x1024) ![0, 0, 0] S1x176x1024.size inb_S1x176x1024_S1x176x1024_0_0_0
abbrev wOut : Rect S64x5632 := Rect.unit (s := S64x5632) ![0, 0] S64x5632.size inb_S64x5632_S64x5632_0_0
abbrev dOut : Rect S176x1024 := Rect.unit (s := S176x1024) ![0, 0] S176x1024.size inb_S176x1024_S176x1024_0_0

section Stored

variable (c : Dev nD) (i : grid0.Coords) (arg2 : Memref sig .tc .vmem S4x256x1024 .f32) (harg2 : arg2.IsWhole)
  (arg3 : Memref sig .tc .vmem S1x1x1024 .f32) (harg3 : arg3.IsWhole) (arg4 : Memref sig .tc .vmem S1024x3200 .bf16)
  (harg4 : arg4.IsWhole) (arg5 : Memref sig .tc .vmem S1x4x1536 .f32) (harg5 : arg5.IsWhole)
  (arg6 : Memref sig .tc .vmem S1x1x128 .f32) (harg6 : arg6.IsWhole) (arg7 : Memref sig .tc .vmem S1x1x128 .f32)
  (harg7 : arg7.IsWhole) (arg8 : Memref sig .tc .vmem S1x1x128 .f32) (harg8 : arg8.IsWhole)
  (arg9 : Memref sig .tc .vmem S1x1x512 .f32) (harg9 : arg9.IsWhole) (arg10 : Memref sig .tc .vmem S1x1x512 .f32)
  (harg10 : arg10.IsWhole) (arg11 : Memref sig .tc .vmem S1x4x128x128 .f32) (harg11 : arg11.IsWhole)
  (arg12 : Memref sig .tc .vmem S1x4x128x128 .f32) (harg12 : arg12.IsWhole)
  (arg13 : Memref sig .tc .vmem S1024x1024 .bf16) (harg13 : arg13.IsWhole)
  (arg14 : Memref sig .tc .vmem S1x64x2816 .f32) (harg14 : arg14.IsWhole) (arg15 : Memref sig .tc .vmem S1x64x2816 .f32)
  (harg15 : arg15.IsWhole) (arg16 : Memref sig .tc .vmem S1x176x1024 .f32) (harg16 : arg16.IsWhole)
  (arg17 : Memref sig .tc .vmem S4x256x1024 .f32) (harg17 : arg17.IsWhole) (arg18 : Memref sig .tc .vmem S64x5632 .bf16)
  (harg18 : arg18.IsWhole) (arg19 : Memref sig .tc .vmem S176x1024 .bf16) (harg19 : arg19.IsWhole)
  (arg20 : Memref sig .tc .vmem S12x4x136x128 .f32) (harg20 : arg20.IsWhole)
  (arg21 : Memref sig .tc .vmem S512x1536 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x512 .f32) (harg24 : arg24.IsWhole) (arg25 : Memref sig .tc .vmem S8x256x256 .f32)
  (harg25 : arg25.IsWhole)
  (x0 : Vec Ideal S4x256x1024 .f32) (x1 : Vec Ideal S1x1x1024 .f32) (x2 : Vec Ideal S1024x3200 .bf16)
  (x3 : Vec Ideal S1x4x1536 .f32) (x4 : Vec Ideal S1x1x128 .f32) (x5 : Vec Ideal S1x1x128 .f32)
  (x6 : Vec Ideal S1x1x128 .f32) (x7 : Vec Ideal S1x1x512 .f32) (x8 : Vec Ideal S1x1x512 .f32)
  (x9 : Vec Ideal S1x4x128x128 .f32) (x10 : Vec Ideal S1x4x128x128 .f32) (x11 : Vec Ideal S1024x1024 .bf16)
  (x12 : Vec Ideal S1x64x2816 .f32) (x13 : Vec Ideal S1x64x2816 .f32) (x14 : Vec Ideal S1x176x1024 .f32)

theorem storedA_w (hc0 : cond0_0 i) :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14).2.1 =
      [⟨wOut, k0_pay2 (View.readAt (Elt Ideal) arg14.view wIn.toLoadRect (harg14.unread x12)) (View.readAt (Elt Ideal) arg15.view wIn.toLoadRect (harg15.unread x13))⟩] := by
  sl_kernel_rfl

theorem storedA_d (hc0 : cond0_0 i) :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14).2.2.1 =
      [⟨dOut, k0_pay3 (View.readAt (Elt Ideal) arg16.view dIn.toLoadRect (harg16.unread x14))⟩] := by
  sl_kernel_rfl

variable (xs0 : Vec Ideal S12x4x136x128 .f32) (xs5 : Vec Ideal S8x256x256 .f32)

theorem storedB_w (hc0 : ¬cond0_0 i) :
    (kernelRun0_B c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14 xs0 xs5).2.1 =
      [⟨wOut, k0_pay2 (View.readAt (Elt Ideal) arg14.view wIn.toLoadRect (harg14.unread x12)) (View.readAt (Elt Ideal) arg15.view wIn.toLoadRect (harg15.unread x13))⟩] := by
  sl_kernel_rfl

theorem storedB_d (hc0 : ¬cond0_0 i) :
    (kernelRun0_B c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20
      harg20 arg21 harg21 arg22 harg22 arg23 harg23 arg24 harg24 arg25 harg25 hc0
      x0 x1 x2 x3 x4 x5 x6 x7 x8 x9 x10 x11 x12 x13 x14 xs0 xs5).2.2.1 =
      [⟨dOut, k0_pay3 (View.readAt (Elt Ideal) arg16.view dIn.toLoadRect (harg16.unread x14))⟩] := by
  sl_kernel_rfl

end Stored

theorem unit_read {s : Shape} {e : EltTy} (a : Memref sig .tc .vmem s e) (h : a.IsWhole) (X : s.Idx → Elt Ideal e) (r : Rect s) (x : r.shape.Idx) (y : s.Idx)
    (hx : ∀ a, (y a).val = r.off a + r.stride a * (x a).val) : View.readAt (Elt Ideal) a.view r.toLoadRect (h.unread X) x = X y :=
  (congrArg (a.view.read (Elt Ideal) (h.unread X)) (r.emb_eq_of_coords x y hx)).trans (congrFun (h.read_unread X) y)

theorem wIn_read (a : Memref sig .tc .vmem S1x64x2816 .f32) (h : a.IsWhole) (X : Vec Ideal S1x64x2816 .f32) :
    View.readAt (Elt Ideal) a.view wIn.toLoadRect (h.unread X) = X :=
  funext fun x => unit_read a h X wIn x x fun a => by
    match a with
    | 0 => show (x 0).val = 0 + 1 * (x 0).val; omega
    | 1 => show (x 1).val = 0 + 1 * (x 1).val; omega
    | 2 => show (x 2).val = 0 + 1 * (x 2).val; omega

theorem dIn_read (a : Memref sig .tc .vmem S1x176x1024 .f32) (h : a.IsWhole) (X : Vec Ideal S1x176x1024 .f32) :
    View.readAt (Elt Ideal) a.view dIn.toLoadRect (h.unread X) = X :=
  funext fun x => unit_read a h X dIn x x fun a => by
    match a with
    | 0 => show (x 0).val = 0 + 1 * (x 0).val; omega
    | 1 => show (x 1).val = 0 + 1 * (x 1).val; omega
    | 2 => show (x 2).val = 0 + 1 * (x 2).val; omega

theorem canon_unit {s : Shape} {e : EltTy} (r : Rect s) (w : r.shape.Idx → Elt Ideal e) (x : r.shape.Idx) (y : s.Idx)
    (hx : ∀ a, (y a).val = r.off a + r.stride a * (x a).val) : View.canon ([⟨r, w⟩] : List (View.Piece (Elt Ideal) s e)) y = w x := by
  rw [← r.emb_eq_of_coords x y hx]
  exact View.canon_cons_emb r w [] x

theorem wOut_coords (x : S64x5632.Idx) : ∀ a, (x a).val = wOut.off a + wOut.stride a * (x a).val := fun a => by
  match a with
  | 0 => show (x 0).val = 0 + 1 * (x 0).val; omega
  | 1 => show (x 1).val = 0 + 1 * (x 1).val; omega

theorem dOut_coords (x : S176x1024.Idx) : ∀ a, (x a).val = dOut.off a + dOut.stride a * (x a).val := fun a => by
  match a with
  | 0 => show (x 0).val = 0 + 1 * (x 0).val; omega
  | 1 => show (x 1).val = 0 + 1 * (x 1).val; omega

variable (m : (ℓ : Loc nD τ sig) → Buf (Elt Ideal) ℓ) (c : Dev nD) (t : Fin cfg0.N)

theorem left_w : (outsAt0 m c t.val t.isLt).2.1 = k0_pay2 (F := Ideal) (iblk m c 12 t) (iblk m c 13 t) := by
  funext x
  by_cases h : t.val % 8 = 0
  · rw [outsAt0_A m c t h]
    simp only []
    unfold out0_A_16
    rw [View.read_writes_junk_apply_eq_canon, storedA_w, wIn_read, wIn_read]
    exact canon_unit wOut _ x x (wOut_coords x)
  · rw [outsAt0_B m c t h]
    simp only []
    unfold out0_B_16
    rw [View.read_writes_junk_apply_eq_canon, storedB_w, wIn_read, wIn_read]
    exact canon_unit wOut _ x x (wOut_coords x)

theorem left_d : (outsAt0 m c t.val t.isLt).2.2.1 = k0_pay3 (F := Ideal) (iblk m c 14 t) := by
  funext x
  by_cases h : t.val % 8 = 0
  · rw [outsAt0_A m c t h]
    simp only []
    unfold out0_A_17
    rw [View.read_writes_junk_apply_eq_canon, storedA_d, dIn_read]
    exact canon_unit dOut _ x x (dOut_coords x)
  · rw [outsAt0_B m c t h]
    simp only []
    unfold out0_B_17
    rw [View.read_writes_junk_apply_eq_canon, storedB_d, dIn_read]
    exact canon_unit dOut _ x x (dOut_coords x)

/-! ## Element values -/

/-- Column `k` of the interleaved weight: pieces of 256 gate columns and 256 up columns in turn. -/
def inter (g u : Fin 2816 → EReal) (k : Fin 5632) : EReal :=
  if k.val / 256 % 2 = 0 then g ⟨k.val / 256 / 2 * 256 + k.val % 256, by omega⟩ else u ⟨k.val / 256 / 2 * 256 + k.val % 256, by omega⟩

theorem slices_nth : ∀ n : Fin 22, S64x2816.Slices ![0, n.val / 2 * 256] S64x256 := by decide

/-- The piece that stands `n`-th. -/
def nth (x y : Vec Ideal S1x64x2816 .f32) (n : Fin 22) : FVec Ideal S64x256 .bf16 :=
  extractStridedSlice S64x256 ![0, n.val / 2 * 256]
    (truncf (F := Ideal) .bf16 (shapeCast S64x2816 (if n.val % 2 = 0 then x else y) shapeCasts_S1x64x2816_S64x2816) bitsLt_bf16_f32) (slices_nth n)

theorem nth_apply (x y : Vec Ideal S1x64x2816 .f32) (n : Fin 22) (r : Fin 64) (k : Fin 256) :
    (nth x y n (ix2 r k) : EReal) = (if n.val % 2 = 0 then x else y) (ix3 0 r ⟨n.val / 2 * 256 + k.val, by omega⟩) := by
  unfold nth
  pointwise

theorem pay2_eq (x y : Vec Ideal S1x64x2816 .f32) : k0_pay2 (F := Ideal) x y
    = concatenate S64x5632 1 (List.ofFn fun n : Fin 22 => (⟨S64x256, nth x y n⟩ : (s : Shape) × (s.Idx → EReal)))
      concatenates_S64x256_S64x256_S64x256_S64x256_S64x256_S64x256_S64x256_S64x256_S64x256_S64x256_S64x256_S64x256_S64x256_S64x256_S64x256_S64x256_S64x256_S64x256_S64x256_S64x256_S64x256_S64x256_S64x5632_d1 := rfl

theorem pay2_apply (x y : Vec Ideal S1x64x2816 .f32) (r : Fin 64) (k : Fin 5632) :
    (k0_pay2 (F := Ideal) x y (ix2 r k) : EReal) = inter (fun l => x (ix3 0 r l)) (fun l => y (ix3 0 r l)) k := by
  rw [pay2_eq]
  refine (concatenate_ofFn_apply (1 : Fin S64x5632.rank) (nth x y) _ rfl 256 rfl (ix2 r k) ⟨k.val / 256, by omega⟩ rfl
    (ix2 r ⟨k.val % 256, by omega⟩) rfl (fun b hb => ?_)).trans ?_
  · match b with
    | 0 => rfl
    | 1 => exact absurd rfl hb
  · refine (nth_apply x y _ r _).trans ?_
    unfold inter
    simp only []
    split <;> rfl

theorem pay3_apply (x : Vec Ideal S1x176x1024 .f32) (r : Fin 176) (l : Fin 1024) : (k0_pay3 (F := Ideal) x (ix2 r l) : EReal) = x (ix3 0 r l) := by
  pointwise [k0_pay3]

theorem emb12 (r : Fin 64) (k : Fin 2816) : (win0_12.blk t).view.emb (ix3 (0 : Fin 1) r k) = ix3 (0 : Fin 2) (⟨64 * t.val + r.val, by have := t_lt t; omega⟩ : Fin 1024) k := by
  blk_ext [at12]
theorem emb13 (r : Fin 64) (k : Fin 2816) : (win0_13.blk t).view.emb (ix3 (0 : Fin 1) r k) = ix3 (0 : Fin 2) (⟨64 * t.val + r.val, by have := t_lt t; omega⟩ : Fin 1024) k := by
  blk_ext [at13]
theorem emb14 (r : Fin 176) (l : Fin 1024) : (win0_14.blk t).view.emb (ix3 (0 : Fin 1) r l) = ix3 (0 : Fin 2) (⟨176 * t.val + r.val, by have := t_lt t; omega⟩ : Fin 2816) l := by
  blk_ext [at14]
theorem emb16 (r : Fin 64) (k : Fin 5632) : (win0_16.blk t).view.emb (ix2 r k) = ix2 (⟨64 * t.val + r.val, by have := t_lt t; omega⟩ : Fin 1024) k := by
  blk_ext [at16]
theorem emb17 (r : Fin 176) (l : Fin 1024) : (win0_17.blk t).view.emb (ix2 r l) = ix2 (⟨176 * t.val + r.val, by have := t_lt t; omega⟩ : Fin 2816) l := by
  blk_ext [at17]

theorem blk12 (r : Fin 64) (k : Fin 2816) : iblk m c 12 t (ix3 0 r k)
    = m ((c.tc : Thread nD τ).loc main_arg12) (ix3 0 (⟨64 * t.val + r.val, by have := t_lt t; omega⟩ : Fin 1024) k) := by
  unfold iblk
  blk_simp
  rw [emb12]
  unfold Gen.V
  simp only [List.flatten_cons, List.flatten_nil, List.append_nil, StableHlo.after_append]
  after_reads_simp
theorem blk13 (r : Fin 64) (k : Fin 2816) : iblk m c 13 t (ix3 0 r k)
    = m ((c.tc : Thread nD τ).loc main_arg13) (ix3 0 (⟨64 * t.val + r.val, by have := t_lt t; omega⟩ : Fin 1024) k) := by
  unfold iblk
  blk_simp
  rw [emb13]
  unfold Gen.V
  simp only [List.flatten_cons, List.flatten_nil, List.append_nil, StableHlo.after_append]
  after_reads_simp
theorem blk14 (r : Fin 176) (l : Fin 1024) : iblk m c 14 t (ix3 0 r l)
    = m ((c.tc : Thread nD τ).loc main_arg14) (ix3 0 (⟨176 * t.val + r.val, by have := t_lt t; omega⟩ : Fin 2816) l) := by
  unfold iblk
  blk_simp
  rw [emb14]
  unfold Gen.V
  simp only [List.flatten_cons, List.flatten_nil, List.append_nil, StableHlo.after_append]
  after_reads_simp

/-! ## The arrays -/

def wF (a : Fin 1024) (k : Fin 5632) : EReal :=
  inter (fun l => m ((c.tc : Thread nD τ).loc main_arg12) (ix3 0 a l)) (fun l => m ((c.tc : Thread nD τ).loc main_arg13) (ix3 0 a l)) k
def dF (a : Fin 2816) (l : Fin 1024) : EReal := m ((c.tc : Thread nD τ).loc main_arg14) (ix3 0 a l)

theorem array16 : (dats m 0 c).arrAt 16 cfg0.N = fun i : S1024x5632.Idx => wF m c (i 0) (i 1) := by
  refine (dats m 0 c).arrAt_eq_of_covers 16 _ (by decide +kernel) fun t hf y => ?_
  blk_simp
  rw [after0_16]
  idx_vars y
  change _ = wF m c ((win0_16.blk t).view.emb (ix2 y0 y1) 0) ((win0_16.blk t).view.emb (ix2 y0 y1) 1)
  rw [emb16, left_w]
  refine (pay2_apply _ _ y0 y1).trans ?_
  unfold wF
  simp only [blk12, blk13]
  rfl

theorem array17 : (dats m 0 c).arrAt 17 cfg0.N = fun i : S2816x1024.Idx => dF m c (i 0) (i 1) := by
  refine (dats m 0 c).arrAt_eq_of_covers 17 _ (by decide +kernel) fun t hf y => ?_
  blk_simp
  rw [after0_17]
  idx_vars y
  change _ = dF m c ((win0_17.blk t).view.emb (ix2 y0 y1) 0) ((win0_17.blk t).view.emb (ix2 y0 y1) 1)
  rw [emb17, left_d]
  exact (pay3_apply _ y0 y1).trans (blk14 m c t y0 y1)

end Cert.Proof.Mixer

namespace Cert.Proof.MixRef

open Idealize.ShloMosaic Idealize.SL.Sem Idealize.ShloMosaic.StableHlo Idealize.ShloMosaic.Pipeline
open Cert.MixRefIdeal Cert.MixRefIdeal.Gen Cert.MixRefIdeal.Value Idealize.ShloMosaic.TcCoe

variable (m : (ℓ : Loc nD τ sig) → Buf (Elt Ideal) ℓ) (c : Dev nD)

theorem gu_apply (a : Fin 1024) (k : Fin 5632) : (out_main_v180 (STEP^[2048] (entryContents preI m c)) (ix2 a k) : EReal)
    = Mixer.inter (fun l => m ((c.tc : Thread nD τ).loc main_arg12) (ix3 0 a l)) (fun l => m ((c.tc : Thread nD τ).loc main_arg13) (ix3 0 a l)) k := by
  unfold out_main_v180
  rw [iter_main_arg12 m c 2048, iter_main_arg13 m c 2048]
  clean_types
  unfold Mixer.inter
  pointwise
  by_cases h : k.val / 256 % 2 = 0
  · rw [dif_pos (by omega), if_pos h]
    exact congrArg (fun u => m ((c.tc : Thread nD τ).loc main_arg12) (ix3 0 a u)) (Fin.ext (by simp only []; omega))
  · rw [dif_neg (by omega), if_neg h]
    exact congrArg (fun u => m ((c.tc : Thread nD τ).loc main_arg13) (ix3 0 a u)) (Fin.ext (by simp only []; omega))

theorem dn_apply (a : Fin 2816) (l : Fin 1024) : (out_main_v183 (STEP^[2048] (entryContents preI m c)) (ix2 a l) : EReal)
    = m ((c.tc : Thread nD τ).loc main_arg14) (ix3 0 a l) := by
  unfold out_main_v183
  rw [iter_main_arg14 m c 2048]
  clean_types
  pointwise

end Cert.Proof.MixRef

end
-- ==== Proof.MixRefVal.lean ====
/-
  The stages of the mixer's reference before its loop, at an element: the position's own formulas.
-/
module

public import proofs.«01_k».proof.Defs
public import proofs.«01_k».proof.Proof.MixRefEntry

@[expose] public section

set_option maxRecDepth 16384

noncomputable section

namespace Cert.Proof.MixRef

open Idealize.ShloMosaic Idealize.SL.Sem Idealize.ShloMosaic.StableHlo Idealize.ShloMosaic.Pipeline
open Cert.MixRefIdeal Cert.MixRefIdeal.Gen Cert.MixRefIdeal.Value Idealize.ShloMosaic.TcCoe
open Cert.Proof (Spec.Args)

theorem projR_apply (x : V S8x2048x1024) (nm : V S2x1024) (wi : V S2x1024x3080) (b : Fin 8) (t : Fin 2048) (c : Fin 3080) :
    projR x nm wi (ix3 b t c) = ∑ e : Fin 1024, x (ix3 b t e)
      * Ideal.rsqrt (Ideal.div (∑ l : Fin 1024, x (ix3 b t l) * x (ix3 b t l)) (Ideal.ofBits .f32 0x44800000#32) + Spec.eps) * nm (ix2 0 e) * wi (ix3 0 e c) := by
  unfold projR
  pointwise

theorem siluR_apply (a : V S8x2048x1536) (b : Fin 8) (t : Fin 2048) (c : Fin 1536) : siluR a (ix3 b t c) = Spec.silu (a (ix3 b t c)) := by
  unfold siluR Spec.silu Spec.sig
  pointwise
  simp only [zero_sub]

theorem convR_apply (y : V S8x2051x1536) (cw : V S2x4x1536) (b : Fin 8) (t : Fin 2048) (c : Fin 1536) :
    convR y cw (ix3 b t c) = y (ix3 b ⟨3 + t.val, by omega⟩ c) * cw (ix3 0 3 c) + y (ix3 b ⟨2 + t.val, by omega⟩ c) * cw (ix3 0 2 c)
      + y (ix3 b ⟨1 + t.val, by omega⟩ c) * cw (ix3 0 1 c) + y (ix3 b ⟨t.val, by omega⟩ c) * cw (ix3 0 0 c) := by
  unfold convR tapR
  pointwise

theorem padR_apply (y : V S8x2048x1536) (b : Fin 8) (t : Fin 2051) (c : Fin 1536) :
    padR' y (constantI S_ 32 0#32) (ix3 b t c) = if h : 3 ≤ t.val then y (ix3 b ⟨t.val - 3, by omega⟩ c) else 0 := by
  unfold padR'
  pointwise
  have e : (FloatOps.sitofp FTy.f32 (0#32) : Ideal .f32) = (0 : EReal) := by
    show (((0#32 : BitVec 32).toInt : ℝ) : EReal) = 0
    simp
  rw [e]
  refine dite_congr (propext ⟨fun h => h.1, fun h => ⟨h, by omega⟩⟩) (fun _ => rfl) (fun _ => rfl)

theorem l2R_apply (y : V S8x2048x4x128) (b : Fin 8) (t : Fin 2048) (h : Fin 4) (d : Fin 128) :
    l2R y (ix4 b t h d) = Spec.l2 (fun e => y (ix4 b t h e)) d := by
  unfold l2R Spec.l2
  pointwise

theorem split_apply (y : V S8x2048x1536) (b : Fin 8) (t : Fin 2048) (h : Fin 12) (d : Fin 128) :
    split12 y (ix4 b t h d) = y (ix3 b t ⟨h.val * 128 + d.val, by omega⟩) := by
  unfold split12
  pointwise

theorem qR_apply (y : V S8x2048x12x128) (b : Fin 8) (t : Fin 2048) (h : Fin 4) (d : Fin 128) :
    qR y (ix4 b t h d) = Spec.l2 (fun e => y (ix4 b t ⟨h.val, by omega⟩ e)) d * Ideal.ofBits .f32 0x3DB504F3#32 := by
  unfold qR
  pointwise [l2R_apply]

theorem kR_apply (y : V S8x2048x12x128) (b : Fin 8) (t : Fin 2048) (h : Fin 4) (d : Fin 128) :
    kR y (ix4 b t h d) = Spec.l2 (fun e => y (ix4 b t ⟨4 + h.val, by omega⟩ e)) d := by
  unfold kR
  rw [l2R_apply]
  pointwise

theorem vR_apply (y : V S8x2048x12x128) (b : Fin 8) (t : Fin 2048) (h : Fin 4) (d : Fin 128) :
    vR y (ix4 b t h d) = y (ix4 b t ⟨8 + h.val, by omega⟩ d) := by
  unfold vR
  pointwise

theorem zR_apply (p : V S8x2048x3080) (b : Fin 8) (t : Fin 2048) (h : Fin 4) (d : Fin 128) :
    zR p (ix4 b t h d) = p (ix3 b t ⟨1536 + (h.val * 128 + d.val), by omega⟩) := by
  unfold zR
  pointwise

theorem betaR_apply (p : V S8x2048x3080) (b : Fin 8) (t : Fin 2048) (h : Fin 4) :
    betaR p (ix3 b t h) = Spec.sig (p (ix3 b t ⟨2048 + h.val, by omega⟩)) := by
  unfold betaR Spec.sig
  pointwise
  simp only [zero_sub]

theorem spR_apply (a : V S8x2048x4) (i : S8x2048x4.Idx) : spR a i = Spec.sp (a i) := by
  unfold spR Spec.sp
  pointwise
  rw [if_neg (by simp), zero_sub]
  rfl

theorem aR_apply (p : V S8x2048x3080) (al dt : V S2x4) (b : Fin 8) (t : Fin 2048) (h : Fin 4) :
    aR p al dt (ix3 b t h) = Ideal.exp (-Ideal.exp (al (ix2 0 h)) * Spec.sp (p (ix3 b t ⟨2052 + h.val, by omega⟩) + dt (ix2 0 h))) := by
  unfold aR row4
  pointwise [spR_apply]

theorem gmR_apply (p : V S8x2048x3080) (b : Fin 8) (n : Fin 16) (t : Fin 128) (j : Fin 8) (d : Fin 128) :
    gmR p (ix5 b n t j d) = Spec.gelu (p (ix3 b ⟨n.val * 128 + t.val, by omega⟩ ⟨2056 + (j.val * 128 + d.val), by omega⟩)) := by
  unfold gmR Spec.gelu
  pointwise

theorem lnR_apply (gm : V S8x16x128x8x128) (lg lb : V S2x512) (b : Fin 8) (n : Fin 16) (t : Fin 128) (h : Fin 4) (d : Fin 128) :
    lnR gm lg lb (ix5 b n t h d) = Spec.ln (fun e => gm (ix5 b n t ⟨4 + h.val, by omega⟩ e)) (fun e => lg (ix2 0 (Spec.at4 h e)))
      (fun e => lb (ix2 0 (Spec.at4 h e))) d := by
  unfold lnR meanR widR lnpR Spec.ln Spec.mean
  pointwise

theorem wsR_apply (ws : V S2x4x128x128) (h : Fin 4) (t s : Fin 128) :
    wsR ws (ix3 h t s) = if s.val ≤ t.val then ws (ix4 0 h t s) else 0 := by
  unfold wsR
  pointwise
  rw [Spec.sge128, Spec.sel_ite]

theorem ogm_apply (gm : V S8x16x128x8x128) (vg : V S8x16x128x4x128) (ws : V S4x128x128) (bs : V S2x4x128) (b : Fin 8) (t : Fin 2048) (c : Fin 512) :
    ogm' gm vg ws bs (ix3 b t c) = gm (ix5 b ⟨t.val / 128, by omega⟩ ⟨t.val % 128, by omega⟩ ⟨c.val / 128, by omega⟩ ⟨c.val % 128, by omega⟩)
      * ((∑ s : Fin 128, ws (ix3 ⟨c.val / 128, by omega⟩ ⟨t.val % 128, by omega⟩ s)
          * vg (ix5 b ⟨t.val / 128, by omega⟩ s ⟨c.val / 128, by omega⟩ ⟨c.val % 128, by omega⟩))
        + bs (ix3 0 ⟨c.val / 128, by omega⟩ ⟨t.val % 128, by omega⟩)) := by
  unfold ogm'
  pointwise
  exact congrArg (fun u => _ * (u + _)) (Finset.sum_congr rfl fun s _ => mul_comm _ _)

variable (m : (ℓ : Loc nD τ sig) → Buf (Elt Ideal) ℓ) (c : Dev nD)

/-- The reference's arguments, by elements. -/
def A : Spec.Args :=
  Spec.layer (fun b t e => rd (L0 m c) main_arg0 (ix3 b t e)) (fun l e => rd (L0 m c) main_arg1 (ix2 l e)) (fun l e d => rd (L0 m c) main_arg2 (ix3 l e d))
    (fun l e d => rd (L0 m c) main_arg3 (ix3 l e d)) (fun l e => rd (L0 m c) main_arg4 (ix2 l e)) (fun l e => rd (L0 m c) main_arg5 (ix2 l e))
    (fun l e => rd (L0 m c) main_arg6 (ix2 l e)) (fun l e => rd (L0 m c) main_arg7 (ix2 l e)) (fun l e => rd (L0 m c) main_arg8 (ix2 l e))
    (fun l h t s => rd (L0 m c) main_arg9 (ix4 l h t s)) (fun l h t => rd (L0 m c) main_arg10 (ix3 l h t)) (fun l e d => rd (L0 m c) main_arg11 (ix3 l e d))

theorem P0_apply (b : Fin 8) (t : Fin 2048) (e : Fin 3080) : P0 m c (ix3 b t e) = (A m c).proj b t e := by
  unfold P0
  rw [projR_apply]
  simp only [Spec.Args.proj, Spec.Args.xn, A, Spec.layer, t.isLt, dif_pos, Fin.eta]

theorem conv_apply (b : Fin 8) (t : Fin 2048) (e : Fin 1536) : siluR (convIn (L0 m c)) (ix3 b t e) = (A m c).qkv b t e := by
  rw [siluR_apply]
  refine congrArg Spec.silu ?_
  unfold convIn
  have hp : ∀ s : ℕ, ∀ hs : s ≤ 3, padR' (extractStridedSlice S8x2048x1536 ![0, 0, 0] (projR (rd (L0 m c) main_arg0) (rd (L0 m c) main_arg1)
      (rd (L0 m c) main_arg2)) slices_S8x2048x3080_S8x2048x1536_0_0_0) (constantI S_ 32 0#32) (ix3 b ⟨3 - s + t.val, by omega⟩ e)
      = (A m c).past b t s e := by
    intro s hs
    rw [padR_apply]
    unfold Spec.Args.past
    by_cases h : s ≤ t.val
    · rw [if_pos h, dif_pos (by simp only []; omega)]
      have e1 := P0_apply m c b ⟨t.val - s, by omega⟩ ⟨e.val, by omega⟩
      rw [← e1]
      have e2 : (P0 m c (ix3 b ⟨3 - s + t.val - 3, by omega⟩ ⟨e.val, by omega⟩) : EReal) = P0 m c (ix3 b ⟨t.val - s, by omega⟩ ⟨e.val, by omega⟩) :=
        congrArg (fun u => P0 m c (ix3 b u ⟨e.val, by omega⟩)) (Fin.ext (by simp only []; omega))
      rw [← e2]
      pointwise
      rfl
    · rw [if_neg h, dif_neg (by simp only []; omega)]
  rw [convR_apply]
  unfold Spec.Args.conv
  have h0 := hp 0 (by omega)
  have h1 := hp 1 (by omega)
  have h2 := hp 2 (by omega)
  have h3 := hp 3 (by omega)
  simp only [Nat.sub_zero, Nat.reduceSub, Nat.sub_self, Nat.zero_add] at h0 h1 h2 h3
  rw [h0, h1, h2, h3]
  rfl

theorem q_apply (b : Fin 8) (t : Fin 2048) (h : Fin 4) (d : Fin 128) : qR (Y0 m c) (ix4 b t h d) = (A m c).q b h t d := by
  rw [qR_apply]
  simp only [Y0, split_apply, conv_apply, Spec.Args.q]

theorem k_apply (b : Fin 8) (t : Fin 2048) (h : Fin 4) (d : Fin 128) : kR (Y0 m c) (ix4 b t h d) = (A m c).k b h t d := by
  rw [kR_apply]
  simp only [Y0, split_apply, conv_apply, Spec.Args.k]
  refine congrArg (fun f => Spec.l2 f d) (funext fun x => congrArg _ (Fin.ext ?_))
  simp only []; omega

theorem v_apply (b : Fin 8) (t : Fin 2048) (h : Fin 4) (d : Fin 128) : vR (Y0 m c) (ix4 b t h d) = (A m c).v b h t d := by
  rw [vR_apply]
  simp only [Y0, split_apply, conv_apply, Spec.Args.v]
  refine congrArg _ (Fin.ext ?_)
  simp only []; omega

theorem z_apply (b : Fin 8) (t : Fin 2048) (h : Fin 4) (d : Fin 128) : zR (P0 m c) (ix4 b t h d) = (A m c).z b t h d := by
  rw [zR_apply, P0_apply]; rfl

theorem beta_apply (b : Fin 8) (t : Fin 2048) (h : Fin 4) : betaR (P0 m c) (ix3 b t h) = (A m c).beta b h t := by
  rw [betaR_apply, P0_apply]; rfl

theorem a_apply (b : Fin 8) (t : Fin 2048) (h : Fin 4) :
    aR (P0 m c) (rd (L0 m c) main_arg4) (rd (L0 m c) main_arg5) (ix3 b t h) = Ideal.exp ((A m c).g b h t) := by
  rw [aR_apply, P0_apply]; rfl

theorem ogm_val (b : Fin 8) (t : Fin 2048) (j : Fin 512) :
    ogm' (gmR (P0 m c)) (lnR (gmR (P0 m c)) (rd (L0 m c) main_arg7) (rd (L0 m c) main_arg8)) (wsR (rd (L0 m c) main_arg9))
        (rd (L0 m c) main_arg10) (ix3 b t j) = (A m c).ogm b t ⟨j.val / 128, by omega⟩ ⟨j.val % 128, by omega⟩ := by
  rw [ogm_apply]
  simp only [lnR_apply, wsR_apply, gmR_apply, P0_apply]
  unfold Spec.Args.ogm Spec.Args.ug Spec.Args.vg
  have e : ∀ x : Fin 128, (⟨2056 + ((4 + j.val / 128) * 128 + x.val), by omega⟩ : Fin 3080) = ⟨2568 + (j.val / 128 * 128 + x.val), by omega⟩ :=
    fun x => Fin.ext (by simp only []; omega)
  simp only [e, Nat.div_add_mod' t.val 128]
  rfl

end Cert.Proof.MixRef

end
-- ==== Proof.MixRefLoop.lean ====
/-
  The loop of the mixer's reference: after `n` positions the state is the delta rule's, and the first `n` rows are the mixed rows.
-/
module

public import proofs.«01_k».proof.Defs
public import proofs.«01_k».proof.Proof.MixRefVal
public import proofs.«01_k».proof.Proof.MixChunk
public import Idealize.ShloMosaic.Lib.WordCmp
public import Idealize.ShloMosaic.Lib.DynamicIndex

@[expose] public section

set_option maxRecDepth 16384

noncomputable section

namespace Cert.Proof.MixRef

open Idealize.ShloMosaic Idealize.SL.Sem Idealize.ShloMosaic.StableHlo Idealize.ShloMosaic.Pipeline
open Cert.MixRefIdeal Cert.MixRefIdeal.Gen Cert.MixRefIdeal.Value Idealize.ShloMosaic.TcCoe

/-- The loop's arrays. -/
def w10 (W : Valuation τ sig (Elt Ideal)) : V S8x4x128x128 := W (Proc.devRef .tc main_v165_10)
def w0 (W : Valuation τ sig (Elt Ideal)) : V S8x2048x4 := W (Proc.devRef .tc main_v165_0)
def w1 (W : Valuation τ sig (Elt Ideal)) : V S8x2048x4 := W (Proc.devRef .tc main_v165_1)
def w2 (W : Valuation τ sig (Elt Ideal)) : V S8x2048x4x128 := W (Proc.devRef .tc main_v165_2)
def w3 (W : Valuation τ sig (Elt Ideal)) : V S8x2048x4x128 := W (Proc.devRef .tc main_v165_3)
def w4 (W : Valuation τ sig (Elt Ideal)) : V S8x2048x4x128 := W (Proc.devRef .tc main_v165_4)
def w5 (W : Valuation τ sig (Elt Ideal)) : V S128 := W (Proc.devRef .tc main_v165_5)
def w6 (W : Valuation τ sig (Elt Ideal)) : V S8x2048x4x128 := W (Proc.devRef .tc main_v165_6)
def w7 (W : Valuation τ sig (Elt Ideal)) : V S8x2048x512 := W (Proc.devRef .tc main_v165_7)
def w11 (W : Valuation τ sig (Elt Ideal)) : V S8x2048x1024 := W (Proc.devRef .tc main_v165_11)

/-- The four values of one position. -/
def ct (W : Valuation τ sig (Elt Ideal)) : V S8x4x128x128 := res_main_while0b_v188 W
def st' (W : Valuation τ sig (Elt Ideal)) : V S8x4x128x128 := res_main_while0b_v203 W
def ot (W : Valuation τ sig (Elt Ideal)) : V S8x4x128 := res_main_while0b_v205 W
def zt (W : Valuation τ sig (Elt Ideal)) : V S8x4x128 := res_main_while0b_v219 W

abbrev wn (n : ℕ) : (⟨S_, .i32⟩ : BufTy).Contents (Elt Ideal) := constantI S_ 32 (BitVec.ofNat 32 n)

/-! ## The slice at the loop's position -/

theorem start3 (n : ℕ) (hn : n < 2048) (k : Fin 3) : (fun k => (((![constantI S_ 32 0#32, select (cmpi .slt (wn n) (constantI S_ 32 0#32)) (addi (id (wn n)) (constantI S_ 32 2048#32)) (wn n), constantI S_ 32 0#32] : Fin 3 → (⟨S_, .i32⟩ : BufTy).Contents (Elt Ideal))) k (Shape.Idx.first h_S_)).toInt) k = ((![0, n, 0] : Fin 3 → ℕ) k : Int) := by
  match k with
  | 0 => rfl
  | 1 => exact toInt_wrap_ofNat n (by omega)
  | 2 => rfl

theorem start4 (n : ℕ) (hn : n < 2048) (k : Fin 4) : (fun k => (((![constantI S_ 32 0#32, select (cmpi .slt (wn n) (constantI S_ 32 0#32)) (addi (id (wn n)) (constantI S_ 32 2048#32)) (wn n), constantI S_ 32 0#32, constantI S_ 32 0#32] : Fin 4 → (⟨S_, .i32⟩ : BufTy).Contents (Elt Ideal))) k (Shape.Idx.first h_S_)).toInt) k = ((![0, n, 0, 0] : Fin 4 → ℕ) k : Int) := by
  match k with
  | 0 => rfl
  | 1 => exact toInt_wrap_ofNat n (by omega)
  | 2 => rfl
  | 3 => rfl

theorem at4_apply (x : V S8x2048x4) (n : ℕ) (hn : n < 2048) (b : Fin 8) (h : Fin 4) :
    shapeCast S8x4 (Host.dynamicSlice S8x1x4 x (fun k => (((![constantI S_ 32 0#32, select (cmpi .slt (wn n) (constantI S_ 32 0#32)) (addi (id (wn n)) (constantI S_ 32 2048#32)) (wn n), constantI S_ 32 0#32] : Fin 3 → (⟨S_, .i32⟩ : BufTy).Contents (Elt Ideal))) k (Shape.Idx.first h_S_)).toInt) sliceFits_S8x2048x4_S8x1x4) shapeCasts_S8x1x4_S8x4 (ix2 b h) = x (ix3 b ⟨n, hn⟩ h) := by
  rw [WordCmp.dynamicSlice_eq_extract S8x1x4 x _ _ ![0, n, 0] ⟨rfl, fun a => by match a with | 0 => exact le_refl _ | 1 => exact hn | 2 => exact le_refl _⟩ (start3 n hn)]
  pointwise

theorem at512_apply (x : V S8x2048x512) (n : ℕ) (hn : n < 2048) (b : Fin 8) (h : Fin 512) :
    shapeCast S8x512 (Host.dynamicSlice S8x1x512 x (fun k => (((![constantI S_ 32 0#32, select (cmpi .slt (wn n) (constantI S_ 32 0#32)) (addi (id (wn n)) (constantI S_ 32 2048#32)) (wn n), constantI S_ 32 0#32] : Fin 3 → (⟨S_, .i32⟩ : BufTy).Contents (Elt Ideal))) k (Shape.Idx.first h_S_)).toInt) sliceFits_S8x2048x512_S8x1x512) shapeCasts_S8x1x512_S8x512 (ix2 b h) = x (ix3 b ⟨n, hn⟩ h) := by
  rw [WordCmp.dynamicSlice_eq_extract S8x1x512 x _ _ ![0, n, 0] ⟨rfl, fun a => by match a with | 0 => exact le_refl _ | 1 => exact hn | 2 => exact le_refl _⟩ (start3 n hn)]
  pointwise

theorem at128_apply (x : V S8x2048x4x128) (n : ℕ) (hn : n < 2048) (b : Fin 8) (h : Fin 4) (d : Fin 128) :
    shapeCast S8x4x128 (Host.dynamicSlice S8x1x4x128 x (fun k => (((![constantI S_ 32 0#32, select (cmpi .slt (wn n) (constantI S_ 32 0#32)) (addi (id (wn n)) (constantI S_ 32 2048#32)) (wn n), constantI S_ 32 0#32, constantI S_ 32 0#32] : Fin 4 → (⟨S_, .i32⟩ : BufTy).Contents (Elt Ideal))) k (Shape.Idx.first h_S_)).toInt) sliceFits_S8x2048x4x128_S8x1x4x128) shapeCasts_S8x1x4x128_S8x4x128 (ix3 b h d)
      = x (ix4 b ⟨n, hn⟩ h d) := by
  rw [WordCmp.dynamicSlice_eq_extract S8x1x4x128 x _ _ ![0, n, 0, 0] ⟨rfl, fun a => by match a with | 0 => exact le_refl _ | 1 => exact hn | 2 => exact le_refl _ | 3 => exact le_refl _⟩ (start4 n hn)]
  pointwise

/-- The row of one position. -/
def rowR (o z : V S8x4x128) (gain : V S128) (og : V S8x512) : V S8x1x1024 :=
  broadcastInDim S8x1x1024 ![0, 2] bcast_S8x1024_S8x1x1024_0_2 (concatenate S8x1024 1 [⟨S8x512, (shapeCast S8x512 (mulf (mulf (mulf o (broadcastInDim S8x4x128 ![0, 1, 2] bcast_S8x4x1_S8x4x128_0_1_2 (Host.rsqrt (addf (Host.divf (broadcastInDim S8x4x1 ![0, 1] bcast_S8x4_S8x4x1_0_1 (Host.reduceAdd (mulf o o) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 gain))) (mulf z (Host.divf (broadcastInDim S8x4x128 ![] bcast_S_S8x4x128 (constant S_ .f32 0x3F800000#32)) (addf (broadcastInDim S8x4x128 ![] bcast_S_S8x4x128 (constant S_ .f32 0x3F800000#32)) (Host.exp (Host.negf z)))))) shapeCasts_S8x4x128_S8x512)⟩, ⟨S8x512, og⟩] concatenates_S8x512_S8x512_S8x1024_d1)

theorem rowR_apply (o z : V S8x4x128) (gain : V S128) (og : V S8x512) (b : Fin 8) (u : Fin 1) (j : Fin 1024) :
    rowR o z gain og (ix3 b u j) = if h : j.val < 512 then
      Spec.rmsn (fun e => o (ix3 b ⟨j.val / 128, by omega⟩ e)) (fun e => gain (ix1 e)) ⟨j.val % 128, by omega⟩
        * Spec.silu (z (ix3 b ⟨j.val / 128, by omega⟩ ⟨j.val % 128, by omega⟩))
      else og (ix2 b ⟨j.val - 512, by omega⟩) := by
  unfold rowR Spec.rmsn Spec.mean Spec.silu Spec.sig
  pointwise
  simp only [zero_sub]

/-! ## One position -/

section Step

variable (W : Valuation τ sig (Elt Ideal)) (n : ℕ) (hn : n < 2048) (h9 : W (Proc.devRef .tc main_v165_9) = wn n)

include hn h9

theorem v187_apply (b : Fin 8) (h : Fin 4) (d e : Fin 128) :
    (ct W (ix4 b h d e) : EReal) = w10 W (ix4 b h d e) * w0 W (ix3 b ⟨n, hn⟩ h) := by
  unfold ct res_main_while0b_v188
  rw [h9]
  clean_types
  pointwise [at4_apply _ n hn]
  rfl

theorem v202_apply (b : Fin 8) (h : Fin 4) (d e : Fin 128) :
    (st' W (ix4 b h d e) : EReal) = ct W (ix4 b h d e) + w3 W (ix4 b ⟨n, hn⟩ h d)
      * (w1 W (ix3 b ⟨n, hn⟩ h) * (w2 W (ix4 b ⟨n, hn⟩ h e)
        - ∑ l : Fin 128, w3 W (ix4 b ⟨n, hn⟩ h l) * ct W (ix4 b h l e))) := by
  unfold st' res_main_while0b_v203
  rw [h9]
  clean_types
  pointwise [at4_apply _ n hn, at128_apply _ n hn]
  rfl

theorem v204_apply (b : Fin 8) (h : Fin 4) (e : Fin 128) :
    (ot W (ix3 b h e) : EReal) = ∑ l : Fin 128, w4 W (ix4 b ⟨n, hn⟩ h l) * st' W (ix4 b h l e) := by
  unfold ot res_main_while0b_v205
  rw [h9]
  clean_types
  pointwise [at4_apply _ n hn, at128_apply _ n hn]
  rfl

theorem v218_apply (b : Fin 8) (h : Fin 4) (e : Fin 128) :
    (zt W (ix3 b h e) : EReal) = w6 W (ix4 b ⟨n, hn⟩ h e) := by
  unfold zt res_main_while0b_v219
  rw [h9]
  clean_types
  pointwise [at4_apply _ n hn, at128_apply _ n hn]
  rfl

theorem step11_eq : step_main_v165_11 W = updateSlice (w11 W) (rowR (ot W) (zt W) (w5 W)
    (shapeCast S8x512 (Host.dynamicSlice S8x1x512 (w7 W) (fun k => (((![constantI S_ 32 0#32, select (cmpi .slt (wn n) (constantI S_ 32 0#32)) (addi (id (wn n)) (constantI S_ 32 2048#32)) (wn n), constantI S_ 32 0#32] : Fin 3 → (⟨S_, .i32⟩ : BufTy).Contents (Elt Ideal))) k (Shape.Idx.first h_S_)).toInt) sliceFits_S8x2048x512_S8x1x512) shapeCasts_S8x1x512_S8x512)) ![0, n, 0]
    ⟨rfl, fun a => by match a with | 0 => exact le_refl _ | 1 => exact hn | 2 => exact le_refl _⟩ := by
  unfold step_main_v165_11
  rw [h9]
  exact WordCmp.dynamicUpdateSlice_eq_update (w11 W) _ _ _ ![0, n, 0] _ (start3 n hn)

theorem step11_apply (b : Fin 8) (t : Fin 2048) (j : Fin 1024) : (step_main_v165_11 W (ix3 b t j) : EReal) = if t.val = n then
      (if h : j.val < 512 then
        Spec.rmsn (fun e => ot W (ix3 b ⟨j.val / 128, by omega⟩ e)) (fun e => w5 W (ix1 e)) ⟨j.val % 128, by omega⟩
          * Spec.silu (w6 W (ix4 b ⟨n, hn⟩ ⟨j.val / 128, by omega⟩ ⟨j.val % 128, by omega⟩))
        else w7 W (ix3 b ⟨n, hn⟩ ⟨j.val - 512, by omega⟩))
      else w11 W (ix3 b t j) := by
  rw [step11_eq W n hn h9]
  pointwise
  by_cases ht : t.val = n
  · rw [if_pos ht, dif_pos ⟨by omega, by omega⟩, rowR_apply]
    simp only [at512_apply _ n hn, v218_apply W n hn h9]
  · rw [if_neg ht, dif_neg (by omega)]

end Step

/-! ## All positions -/

variable (m : (ℓ : Loc nD τ sig) → Buf (Elt Ideal) ℓ) (c : Dev nD)

/-- What the arrays of the loop hold before position `n`. -/
structure Inv (W : Valuation τ sig (Elt Ideal)) (n : ℕ) : Prop where
  a : ∀ b t h, w0 W (ix3 b t h) = Ideal.exp ((A m c).g b h t.val)
  beta : ∀ b t h, w1 W (ix3 b t h) = (A m c).beta b h t.val
  v : ∀ b t h d, w2 W (ix4 b t h d) = (A m c).v b h t.val d
  k : ∀ b t h d, w3 W (ix4 b t h d) = (A m c).k b h t.val d
  q : ∀ b t h d, w4 W (ix4 b t h d) = (A m c).q b h t.val d
  og : ∀ d, w5 W (ix1 d) = (A m c).og d
  z : ∀ b t h d, w6 W (ix4 b t h d) = (A m c).z b t.val h d
  gm : ∀ b t j, w7 W (ix3 b t j) = (A m c).ogm b t.val ⟨j.val / 128, by omega⟩ ⟨j.val % 128, by omega⟩
  pos : W (Proc.devRef .tc main_v165_9) = wn n
  s : ∀ b h d e, w10 W (ix4 b h d e) = (((A m c).st b h n d e : ℝ) : EReal)
  o : ∀ b t j, w11 W (ix3 b t j) = if t.val < n then (A m c).mix b t.val j else 0

theorem inv_zero : Inv m c (entryContents preI m c) 0 where
  a b t h := by rw [w0, entry0]; exact a_apply m c b t h
  beta b t h := by rw [w1, entry1]; exact beta_apply m c b t h
  v b t h d := by rw [w2, entry2]; exact v_apply m c b t h d
  k b t h d := by rw [w3, entry3]; exact k_apply m c b t h d
  q b t h d := by rw [w4, entry4]; exact q_apply m c b t h d
  og d := by rw [w5, entry5]; unfold gainR; pointwise; rfl
  z b t h d := by rw [w6, entry6]; exact z_apply m c b t h d
  gm b t j := by rw [w7, entry7]; exact ogm_val m c b t j
  pos := entry9 m c
  s b h d e := by
    rw [w10, entry10]
    pointwise
    exact EReal.coe_zero.symm
  o b t j := by
    rw [w11, entry11, if_neg (by omega)]
    pointwise

theorem sum_coe (f g : Fin 128 → ℝ) : (∑ l, (f l : EReal) * (g l : EReal)) = ((∑ l, f l * g l : ℝ) : EReal) := by
  simp only [← EReal.coe_mul, Mixer.coe_sum]

theorem inv_succ (F : (A m c).Fin') {W : Valuation τ sig (Elt Ideal)} {n : ℕ} (hn : n < 2048) (I : Inv m c W n) : Inv m c (STEP W) (n + 1) := by
  have hct : ∀ b h d e, (ct W (ix4 b h d e) : EReal) = (((A m c).st b h n d e * Real.exp ((A m c).gR b h n) : ℝ) : EReal) := fun b h d e => by
    rw [v187_apply W n hn I.pos, I.s, I.a, F.g, Ideal.exp_coe, ← EReal.coe_mul]; rfl
  have hst : ∀ b h d e, (st' W (ix4 b h d e) : EReal) = (((A m c).st b h (n + 1) d e : ℝ) : EReal) := fun b h d e => by
    rw [v202_apply W n hn I.pos]
    have hk : ∀ d, w3 W (ix4 b ⟨n, hn⟩ h d) = (((A m c).kR b h n d : ℝ) : EReal) := fun d => (I.k ..).trans (F.k ..)
    have hb : w1 W (ix3 b ⟨n, hn⟩ h) = (((A m c).bR b h n : ℝ) : EReal) := (I.beta ..).trans (F.beta ..)
    have hv : w2 W (ix4 b ⟨n, hn⟩ h e) = (((A m c).vR b h n e : ℝ) : EReal) := (I.v ..).trans (F.v ..)
    simp only [hct, hk, hb, hv]
    rw [sum_coe, ← EReal.coe_sub, ← EReal.coe_mul, ← EReal.coe_mul, ← EReal.coe_add]
    rfl
  have hot : ∀ b h e, (ot W (ix3 b h e) : EReal) = (A m c).o b n h e := fun b h e => by
    rw [v204_apply W n hn I.pos]
    have hq : ∀ d, w4 W (ix4 b ⟨n, hn⟩ h d) = (((A m c).qR b h n d : ℝ) : EReal) := fun d => (I.q ..).trans (F.q ..)
    simp only [hst, hq]
    rw [sum_coe]
    rfl
  exact {
    a := fun b t h => by rw [w0, STEP_main_v165_0]; exact I.a b t h
    beta := fun b t h => by rw [w1, STEP_main_v165_1]; exact I.beta b t h
    v := fun b t h d => by rw [w2, STEP_main_v165_2]; exact I.v b t h d
    k := fun b t h d => by rw [w3, STEP_main_v165_3]; exact I.k b t h d
    q := fun b t h d => by rw [w4, STEP_main_v165_4]; exact I.q b t h d
    og := fun d => by rw [w5, STEP_main_v165_5]; exact I.og d
    z := fun b t h d => by rw [w6, STEP_main_v165_6]; exact I.z b t h d
    gm := fun b t j => by rw [w7, STEP_main_v165_7]; exact I.gm b t j
    pos := by
      rw [STEP_main_v165_9]; unfold step_main_v165_9; rw [I.pos]
      funext i
      exact (BitVec.ofNat_add n 1).symm
    s := fun b h d e => by rw [w10, STEP_main_v165_10]; exact hst b h d e
    o := fun b t j => by
      rw [w11, STEP_main_v165_11, step11_apply W n hn I.pos]
      by_cases ht : t.val = n
      · rw [if_pos ht, if_pos (by omega), ht]
        unfold Spec.Args.mix Spec.Args.head
        by_cases hj : j.val < 512
        · rw [dif_pos hj, dif_pos hj]
          simp only [hot, I.og, I.z]
        · rw [dif_neg hj, dif_neg hj, I.gm]
          exact congrArg ((A m c).ogm b n _) (Fin.ext (by simp only []; omega))
      · rw [if_neg ht, I.o]
        by_cases h1 : t.val < n
        · rw [if_pos h1, if_pos (by omega)]
        · rw [if_neg h1, if_neg (by omega)] }

theorem inv_all (F : (A m c).Fin') : ∀ n ≤ 2048, Inv m c (STEP^[n] (entryContents preI m c)) n
  | 0, _ => inv_zero m c
  | n + 1, h => by
    rw [Function.iterate_succ_apply']
    exact inv_succ m c F (by omega) (inv_all F n (by omega))

theorem out_apply (F : (A m c).Fin') (b : Fin 8) (t : Fin 2048) (l : Fin 1024) :
    (out_main_v179 (STEP^[2048] (entryContents preI m c)) (ix3 b t l) : EReal) = (A m c).out b t l := by
  have I := inv_all m c F 2048 (le_refl _)
  have e0 := iter_main_arg0 m c 2048
  have e11 := iter_main_arg11 m c 2048
  generalize STEP^[2048] (entryContents preI m c) = W at I e0 e11
  have ho : ∀ c', (W (Proc.devRef .tc main_v165_11) (ix3 b t c') : EReal) = (A m c).mix b t.val c' := fun c' => by
    have := I.o b t c'
    rw [if_pos t.isLt] at this
    exact this
  unfold out_main_v179
  rw [e0, e11]
  unfold Spec.Args.out
  clean_types
  pointwise [ho]
  have ex : (A m c).x b t.val l = rd (L0 m c) main_arg0 (ix3 b t l) := dif_pos t.isLt
  rw [ex]
  rfl

end Cert.Proof.MixRef

end
-- ==== Proof.MixFin.lean ====
/-
  Finite arguments make everything the delta rule reads finite.
-/
module

public import proofs.«01_k».proof.Defs
public import proofs.«01_k».proof.Proof.MixChunk
public import proofs.«01_k».proof.Proof.MixSpec

@[expose] public section

noncomputable section

namespace Cert.Proof.Spec

open Idealize.ShloMosaic

/-- A real number among the extended reals. -/
def IsR (y : EReal) : Prop := ∃ r : ℝ, y = r

/-- A real number that is not negative. -/
def IsN (y : EReal) : Prop := ∃ r : ℝ, 0 ≤ r ∧ y = r

/-- A positive real number. -/
def IsP (y : EReal) : Prop := ∃ r : ℝ, 0 < r ∧ y = r

theorem IsR.eq {y : EReal} : IsR y → y = (y.toReal : ℝ) := by rintro ⟨r, rfl⟩; simp

theorem IsP.n {y : EReal} : IsP y → IsN y := fun ⟨r, h, e⟩ => ⟨r, h.le, e⟩
theorem IsN.r {y : EReal} : IsN y → IsR y := fun ⟨r, _, e⟩ => ⟨r, e⟩
theorem IsP.r {y : EReal} (h : IsP y) : IsR y := h.n.r

theorem IsR.zero : IsR 0 := ⟨0, rfl⟩
theorem IsP.one : IsP 1 := ⟨1, one_pos, rfl⟩

theorem IsR.add {x y : EReal} : IsR x → IsR y → IsR (x + y) := by rintro ⟨a, rfl⟩ ⟨b, rfl⟩; exact ⟨a + b, (EReal.coe_add a b).symm⟩
theorem IsR.mul {x y : EReal} : IsR x → IsR y → IsR (x * y) := by rintro ⟨a, rfl⟩ ⟨b, rfl⟩; exact ⟨a * b, (EReal.coe_mul a b).symm⟩
theorem IsR.neg {x : EReal} : IsR x → IsR (-x) := by rintro ⟨a, rfl⟩; exact ⟨-a, (EReal.coe_neg a).symm⟩
theorem IsR.sub {x y : EReal} : IsR x → IsR y → IsR (x - y) := by rintro ⟨a, rfl⟩ ⟨b, rfl⟩; exact ⟨a - b, (EReal.coe_sub a b).symm⟩
theorem IsR.max {x y : EReal} : IsR x → IsR y → IsR (max x y) := fun hx hy => by
  rcases max_choice x y with h | h <;> rw [h] <;> assumption

theorem IsN.sum {n : ℕ} {f : Fin n → EReal} (h : ∀ i, IsN (f i)) : IsN (∑ i, f i) := by
  choose g hg e using h
  exact ⟨∑ i, g i, Finset.sum_nonneg fun i _ => hg i, by rw [Finset.sum_congr rfl fun i _ => e i]; exact Mixer.coe_sum _ _⟩

theorem IsR.sum {n : ℕ} {f : Fin n → EReal} (h : ∀ i, IsR (f i)) : IsR (∑ i, f i) := by
  choose g e using h
  exact ⟨∑ i, g i, by rw [Finset.sum_congr rfl fun i _ => e i]; exact Mixer.coe_sum _ _⟩

theorem IsR.sq {x : EReal} : IsR x → IsN (x * x) := by rintro ⟨a, rfl⟩; exact ⟨a * a, mul_self_nonneg a, (EReal.coe_mul a a).symm⟩
theorem IsN.add_pos {x y : EReal} : IsN x → IsP y → IsP (x + y) := by
  rintro ⟨a, ha, rfl⟩ ⟨b, hb, rfl⟩; exact ⟨a + b, by positivity, (EReal.coe_add a b).symm⟩

theorem IsR.exp {x : EReal} : IsR x → IsP (Ideal.exp x) := by rintro ⟨a, rfl⟩; exact ⟨Real.exp a, Real.exp_pos a, rfl⟩

theorem IsN.div {x y : EReal} : IsN x → IsP y → IsN (Ideal.div x y) := by
  rintro ⟨a, ha, rfl⟩ ⟨b, hb, rfl⟩
  exact ⟨a * (1 / b), by positivity, by rw [Ideal.div_coe hb.ne', EReal.coe_mul]⟩

theorem IsP.rsqrt {x : EReal} : IsP x → IsR (Ideal.rsqrt x) := by
  rintro ⟨a, ha, rfl⟩
  rw [Ideal.rsqrt_coe, if_neg (not_lt.2 ha.le), if_neg ha.ne']
  exact ⟨_, rfl⟩

theorem IsP.log {x : EReal} : IsP x → IsR (Ideal.log x) := by
  rintro ⟨a, ha, rfl⟩
  rw [Ideal.log_coe, if_neg (not_le.2 ha)]
  exact ⟨_, rfl⟩

theorem eps_pos : IsP eps :=
  ⟨8796093 / 8796093022208, by norm_num, by simp [Ideal.ofBits, Ideal.ieee, -EReal.coe_mul]; norm_num⟩

theorem len_pos : IsP (Ideal.ofBits .f32 0x44800000#32) :=
  ⟨1024, by norm_num, by simp [Ideal.ofBits, Ideal.ieee, -EReal.coe_mul]; norm_num⟩

theorem scale_real : IsR (Ideal.ofBits .f32 0x3DB504F3#32) := by
  refine ⟨_, show Ideal.ofBits .f32 0x3DB504F3#32 = ((_ : ℝ) : EReal) by simp only [Ideal.ofBits, Ideal.ieee]; norm_num [-EReal.coe_mul]; rfl⟩

theorem IsR.sig {x : EReal} (h : IsR x) : IsR (sig x) := (IsP.one.n.div (IsP.one.n.add_pos (IsR.zero.sub h).exp)).r
theorem IsR.silu {x : EReal} (h : IsR x) : IsR (silu x) := h.mul h.sig
theorem IsR.l2 {f : Fin 128 → EReal} (h : ∀ e, IsR (f e)) (d : Fin 128) : IsR (l2 f d) :=
  (h d).mul ((IsN.sum fun e => (h e).sq).add_pos eps_pos).rsqrt
theorem IsR.sp {x : EReal} (h : IsR x) : IsR (sp x) :=
  (h.max IsR.zero).add (IsP.one.n.add_pos (IsR.zero.sub (h.max h.neg)).exp).log

theorem sq_nonneg' (y : EReal) : 0 ≤ y * y := by
  induction y with
  | bot => simp
  | top => simp
  | coe r => rw [← EReal.coe_mul]; exact_mod_cast mul_self_nonneg r

/-- A row of any extended reals, normed, is a row of real numbers: beside an infinite entry the root's reciprocal is zero. -/
theorem normed (f : Fin 1024 → EReal) (e : Fin 1024) :
    IsR (f e * Ideal.rsqrt (Ideal.div (∑ l, f l * f l) (Ideal.ofBits .f32 0x44800000#32) + eps)) := by
  by_cases h : ∀ l, IsR (f l)
  · exact (h e).mul (((IsN.sum fun l => (h l).sq).div len_pos).add_pos eps_pos).rsqrt
  · have ht : (∑ l, f l * f l) = ⊤ := by
      push Not at h
      obtain ⟨l, hl⟩ := h
      refine top_le_iff.1 (le_trans (le_of_eq ?_) (Finset.single_le_sum (f := fun l => f l * f l) (fun i _ => sq_nonneg' _) (Finset.mem_univ l)))
      generalize f l = y at hl
      induction y with
      | bot => simp
      | top => simp
      | coe r => exact absurd ⟨r, rfl⟩ hl
    obtain ⟨n, hn, en⟩ := len_pos
    obtain ⟨p, -, ep⟩ := eps_pos
    rw [ht, en, ep, Ideal.div_coe hn.ne', EReal.top_mul_coe_of_pos (by positivity), EReal.top_add_coe, Ideal.rsqrt_top, mul_zero]
    exact IsR.zero

namespace Args

variable {A : Args} (hn : ∀ e, IsR (A.nm e)) (hw : ∀ e c, IsR (A.wi e c)) (hc : ∀ k c, IsR (A.cw k c))
  (ha : ∀ h, IsR (A.al h)) (hd : ∀ h, IsR (A.dt h))

include hn hw in
theorem proj_real (b : Fin 8) (t : ℕ) (c : Fin 3080) : IsR (A.proj b t c) :=
  IsR.sum fun e => ((normed (A.x b t) e).mul (hn e)).mul (hw e c)

include hn hw in
theorem past_real (b : Fin 8) (t s : ℕ) (c : Fin 1536) : IsR (A.past b t s c) := by
  unfold past
  split
  · exact proj_real hn hw b _ _
  · exact IsR.zero

include hn hw hc in
theorem qkv_real (b : Fin 8) (t : ℕ) (c : Fin 1536) : IsR (A.qkv b t c) :=
  IsR.silu (((((past_real hn hw b t 0 c).mul (hc 3 c)).add ((past_real hn hw b t 1 c).mul (hc 2 c))).add
    ((past_real hn hw b t 2 c).mul (hc 1 c))).add ((past_real hn hw b t 3 c).mul (hc 0 c)))

include hn hw hc ha hd in
theorem fin_of : A.Fin' where
  q b h t d := ((IsR.l2 (fun e => qkv_real hn hw hc b t _) d).mul scale_real).eq
  k b h t d := (IsR.l2 (fun e => qkv_real hn hw hc b t _) d).eq
  v b h t d := (qkv_real hn hw hc b t _).eq
  beta b h t := (proj_real hn hw b t _).sig.eq
  g b h t := (((ha h).exp.r.neg).mul ((proj_real hn hw b t _).add (hd h)).sp).eq

end Args

/-- A comparison `|x| < ∞` that came out 1 says that `x` is real. -/
theorem isR_of_cmp (x : EReal) (h : Ideal.cmp .olt (max x (-x)) (Ideal.ofBits .f32 0x7F800000#32) = 1#1) : IsR x := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => exact ⟨r, rfl⟩

end Cert.Proof.Spec

end
-- ==== Proof.MixPre.lean ====
/-
  What the precondition says: the five weights that reach the delta rule are finite, so that everything it reads is.
-/
module

public import proofs.«01_k».proof.Defs
public import proofs.«01_k».proof.Proof.MixFin
public import proofs.«01_k».proof.Proof.MixStep
public import proofs.«01_k».proof.Proof.MixRefVal
public import Idealize.ShloMosaic.Lib.ReduceAll
public import Idealize.ShloMosaic.Lib.WordCmp

@[expose] public section

set_option maxRecDepth 16384

noncomputable section

namespace Cert.Proof.Finite

open Idealize.ShloMosaic Cert.Pre_finite Cert.Pre_finite.Facts

instance : Subsingleton S_.Idx := ⟨fun _ _ => funext fun a => a.elim0⟩

theorem real_of {s : Shape} (x : FVec Ideal s .f32) (hb : S_.BroadcastsInDim s (![] : Fin 0 → Fin s.rank)) {axes : List (Fin s.rank)} (hr : s.ReducesTo axes S_)
    (hu : 0 < S_.numel) (j : S_.Idx) (e : Host.reduce IntOp.andi (cmpf .olt (Host.absf x) (broadcastInDim s ![] hb (constant (F := Ideal) S_ .f32 0x7F800000#32)))
      (constantI S_ 1 1#1) hr hu j = 1#1) (i : s.Idx) : Spec.IsR (x i) :=
  Spec.isR_of_cmp _ (Host.reduce_andi_all _ _ hr hu j e i)

variable [Facts]

theorem args (x0 : FVec Ideal S8x2048x1024 .f32) (x1 : FVec Ideal S2x1024 .f32) (x2 : FVec Ideal S2x1024x3080 .f32) (x3 : FVec Ideal S2x4x1536 .f32)
    (x4 x5 : FVec Ideal S2x4 .f32) (x6 : FVec Ideal S2x128 .f32) (x7 x8 : FVec Ideal S2x512 .f32) (x9 : FVec Ideal S2x4x128x128 .f32) (x10 : FVec Ideal S2x4x128 .f32)
    (x11 : FVec Ideal S2x1024x1024 .f32) (x12 x13 : FVec Ideal S2x1024x2816 .f32) (x14 : FVec Ideal S2x2816x1024 .f32)
    (h : fn (F := Ideal) x0 x1 x2 x3 x4 x5 x6 x7 x8 x9 x10 x11 x12 x13 x14 = fun _ => 1#1) :
    (∀ i, Spec.IsR (x1 i)) ∧ (∀ i, Spec.IsR (x2 i)) ∧ (∀ i, Spec.IsR (x3 i)) ∧ (∀ i, Spec.IsR (x4 i)) ∧ ∀ i, Spec.IsR (x5 i) := by
  have e := congrFun h fun a => a.elim0
  unfold fn fn_part1 at e
  simp only [WordCmp.andi_at, IntOp.andi_eq_one] at e
  obtain ⟨⟨⟨⟨e1, e2⟩, e3⟩, e4⟩, e5⟩ := e
  exact ⟨real_of x1 _ _ _ _ e1, real_of x2 _ _ _ _ e2, real_of x3 _ _ _ _ e3, real_of x4 _ _ _ _ e4, real_of x5 _ _ _ _ e5⟩

omit [Facts] in
theorem layer_fin (x : Fin 8 → Fin 2048 → Fin 1024 → EReal) (nm : Fin 2 → Fin 1024 → EReal) (wi : Fin 2 → Fin 1024 → Fin 3080 → EReal)
    (cw : Fin 2 → Fin 4 → Fin 1536 → EReal) (al dt : Fin 2 → Fin 4 → EReal) (og : Fin 2 → Fin 128 → EReal) (lg lb : Fin 2 → Fin 512 → EReal)
    (ws : Fin 2 → Fin 4 → Fin 128 → Fin 128 → EReal) (bs : Fin 2 → Fin 4 → Fin 128 → EReal) (wo : Fin 2 → Fin 1024 → Fin 1024 → EReal)
    (hn : ∀ l e, Spec.IsR (nm l e)) (hw : ∀ l e c, Spec.IsR (wi l e c)) (hc : ∀ l k c, Spec.IsR (cw l k c))
    (ha : ∀ l h, Spec.IsR (al l h)) (hd : ∀ l h, Spec.IsR (dt l h)) : (Spec.layer x nm wi cw al dt og lg lb ws bs wo).Fin' :=
  Spec.Args.fin_of (hn 0) (hw 0) (hc 0) (ha 0) (hd 0)

theorem kernel (m : (ℓ : Loc Cert.KernelIdeal.nD Cert.KernelIdeal.τ Cert.KernelIdeal.sig) → Buf (Elt Ideal) ℓ) (h : Cert.Pre_KernelIdeal_finite m)
    (c : Dev Cert.KernelIdeal.nD) : (Mixer.A m c).Fin' := by
  obtain ⟨h1, h2, h3, h4, h5⟩ := args _ _ _ _ _ _ _ _ _ _ _ _ _ _ _ (h c)
  exact layer_fin _ _ _ _ _ _ _ _ _ _ _ _ (fun _ _ => h1 _) (fun _ _ _ => h2 _) (fun _ _ _ => h3 _) (fun _ _ => h4 _) fun _ _ => h5 _

omit [Facts] in
/-- From the same arguments the two programs have the same elements. -/
theorem same (m : (ℓ : Loc Cert.KernelIdeal.nD Cert.KernelIdeal.τ Cert.KernelIdeal.sig) → Buf (Elt Ideal) ℓ)
    (m' : (ℓ : Loc Cert.MixRefIdeal.nD Cert.MixRefIdeal.τ Cert.MixRefIdeal.sig) → Buf (Elt Ideal) ℓ) (c : Dev Cert.KernelIdeal.nD) (c' : Dev Cert.MixRefIdeal.nD)
    (h0 : m' ((c'.tc : Thread Cert.MixRefIdeal.nD Cert.MixRefIdeal.τ).loc Cert.MixRefIdeal.main_arg0) = m ((c.tc : Thread Cert.KernelIdeal.nD Cert.KernelIdeal.τ).loc Cert.KernelIdeal.main_arg0))
    (h1 : m' ((c'.tc : Thread Cert.MixRefIdeal.nD Cert.MixRefIdeal.τ).loc Cert.MixRefIdeal.main_arg1) = m ((c.tc : Thread Cert.KernelIdeal.nD Cert.KernelIdeal.τ).loc Cert.KernelIdeal.main_arg1))
    (h2 : m' ((c'.tc : Thread Cert.MixRefIdeal.nD Cert.MixRefIdeal.τ).loc Cert.MixRefIdeal.main_arg2) = m ((c.tc : Thread Cert.KernelIdeal.nD Cert.KernelIdeal.τ).loc Cert.KernelIdeal.main_arg2))
    (h3 : m' ((c'.tc : Thread Cert.MixRefIdeal.nD Cert.MixRefIdeal.τ).loc Cert.MixRefIdeal.main_arg3) = m ((c.tc : Thread Cert.KernelIdeal.nD Cert.KernelIdeal.τ).loc Cert.KernelIdeal.main_arg3))
    (h4 : m' ((c'.tc : Thread Cert.MixRefIdeal.nD Cert.MixRefIdeal.τ).loc Cert.MixRefIdeal.main_arg4) = m ((c.tc : Thread Cert.KernelIdeal.nD Cert.KernelIdeal.τ).loc Cert.KernelIdeal.main_arg4))
    (h5 : m' ((c'.tc : Thread Cert.MixRefIdeal.nD Cert.MixRefIdeal.τ).loc Cert.MixRefIdeal.main_arg5) = m ((c.tc : Thread Cert.KernelIdeal.nD Cert.KernelIdeal.τ).loc Cert.KernelIdeal.main_arg5))
    (h6 : m' ((c'.tc : Thread Cert.MixRefIdeal.nD Cert.MixRefIdeal.τ).loc Cert.MixRefIdeal.main_arg6) = m ((c.tc : Thread Cert.KernelIdeal.nD Cert.KernelIdeal.τ).loc Cert.KernelIdeal.main_arg6))
    (h7 : m' ((c'.tc : Thread Cert.MixRefIdeal.nD Cert.MixRefIdeal.τ).loc Cert.MixRefIdeal.main_arg7) = m ((c.tc : Thread Cert.KernelIdeal.nD Cert.KernelIdeal.τ).loc Cert.KernelIdeal.main_arg7))
    (h8 : m' ((c'.tc : Thread Cert.MixRefIdeal.nD Cert.MixRefIdeal.τ).loc Cert.MixRefIdeal.main_arg8) = m ((c.tc : Thread Cert.KernelIdeal.nD Cert.KernelIdeal.τ).loc Cert.KernelIdeal.main_arg8))
    (h9 : m' ((c'.tc : Thread Cert.MixRefIdeal.nD Cert.MixRefIdeal.τ).loc Cert.MixRefIdeal.main_arg9) = m ((c.tc : Thread Cert.KernelIdeal.nD Cert.KernelIdeal.τ).loc Cert.KernelIdeal.main_arg9))
    (h10 : m' ((c'.tc : Thread Cert.MixRefIdeal.nD Cert.MixRefIdeal.τ).loc Cert.MixRefIdeal.main_arg10) = m ((c.tc : Thread Cert.KernelIdeal.nD Cert.KernelIdeal.τ).loc Cert.KernelIdeal.main_arg10))
    (h11 : m' ((c'.tc : Thread Cert.MixRefIdeal.nD Cert.MixRefIdeal.τ).loc Cert.MixRefIdeal.main_arg11) = m ((c.tc : Thread Cert.KernelIdeal.nD Cert.KernelIdeal.τ).loc Cert.KernelIdeal.main_arg11)) : MixRef.A m' c' = Mixer.A m c := by
  have e : MixRef.A m' c' = Spec.layer (fun b t e => m' ((c'.tc : Thread Cert.MixRefIdeal.nD Cert.MixRefIdeal.τ).loc Cert.MixRefIdeal.main_arg0) (ix3 b t e)) (fun l e => m' ((c'.tc : Thread Cert.MixRefIdeal.nD Cert.MixRefIdeal.τ).loc Cert.MixRefIdeal.main_arg1) (ix2 l e))
      (fun l e f => m' ((c'.tc : Thread Cert.MixRefIdeal.nD Cert.MixRefIdeal.τ).loc Cert.MixRefIdeal.main_arg2) (ix3 l e f)) (fun l e f => m' ((c'.tc : Thread Cert.MixRefIdeal.nD Cert.MixRefIdeal.τ).loc Cert.MixRefIdeal.main_arg3) (ix3 l e f))
      (fun l e => m' ((c'.tc : Thread Cert.MixRefIdeal.nD Cert.MixRefIdeal.τ).loc Cert.MixRefIdeal.main_arg4) (ix2 l e)) (fun l e => m' ((c'.tc : Thread Cert.MixRefIdeal.nD Cert.MixRefIdeal.τ).loc Cert.MixRefIdeal.main_arg5) (ix2 l e))
      (fun l e => m' ((c'.tc : Thread Cert.MixRefIdeal.nD Cert.MixRefIdeal.τ).loc Cert.MixRefIdeal.main_arg6) (ix2 l e)) (fun l e => m' ((c'.tc : Thread Cert.MixRefIdeal.nD Cert.MixRefIdeal.τ).loc Cert.MixRefIdeal.main_arg7) (ix2 l e))
      (fun l e => m' ((c'.tc : Thread Cert.MixRefIdeal.nD Cert.MixRefIdeal.τ).loc Cert.MixRefIdeal.main_arg8) (ix2 l e)) (fun l g p s => m' ((c'.tc : Thread Cert.MixRefIdeal.nD Cert.MixRefIdeal.τ).loc Cert.MixRefIdeal.main_arg9) (ix4 l g p s))
      (fun l e f => m' ((c'.tc : Thread Cert.MixRefIdeal.nD Cert.MixRefIdeal.τ).loc Cert.MixRefIdeal.main_arg10) (ix3 l e f)) (fun l e f => m' ((c'.tc : Thread Cert.MixRefIdeal.nD Cert.MixRefIdeal.τ).loc Cert.MixRefIdeal.main_arg11) (ix3 l e f)) := rfl
  rw [e, h0, h1, h2, h3, h4, h5, h6, h7, h8, h9, h10, h11]
  rfl

end Cert.Proof.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.MixRefIdeal
public import proofs.«01_k».proof.Proof.Gen.MixRefIdeal.Run
public import proofs.«01_k».proof.Proof.Gen.Pre_finite
public import proofs.«01_k».proof.Proof.FfnValue
public import proofs.«01_k».proof.Proof.MixGrid
public import proofs.«01_k».proof.Proof.MixWts
public import proofs.«01_k».proof.Proof.MixRefLoop
public import proofs.«01_k».proof.Proof.MixPre
public import Idealize.ShloMosaic.Adequacy
public import Idealize.ShloMosaic.Init

@[expose] public section

set_option maxRecDepth 16384

noncomputable section

namespace Cert.Proof

open Idealize.ShloMosaic Idealize.SL.Sem Cert.Kernel

/-- The feed-forward kernel's result is the reference's, at every element. -/
theorem ffn_algebraic : Cert.algebraic_FfnIdeal_FfnRefIdeal := by
  pair_intro
  · run_from Cert.FfnIdeal.Value.run_blocks m g
  · run_from Cert.FfnRefIdeal.Value.run m' g'
    rw [Ffn.array_eq]
    funext i
    obtain ⟨i0, i1, rfl⟩ : ∃ a b, i = ix2 a b := ⟨i 0, i 1, by ext k; fin_cases k <;> rfl⟩
    obtain ⟨h0, h1, h2, h3, h4, h5⟩ := hagree c
    refine (Ffn.ref_apply m' c i0 i1).trans ?_
    rw [h0, h1, h2, h3, h4, h5]
    rfl

/-- The reference runs, leaves its arguments unchanged, and declares no semaphore. -/
theorem ffn_ref : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- The mixer kernel's three results are the reference's, at every element, when the weights that reach the delta rule are finite. -/
theorem mix_algebraic : Cert.algebraic_KernelIdeal_MixRefIdeal_pre_finite := by
  pair_intro
  · run_from Cert.KernelIdeal.Value.run_blocks m g
  · refine θ_run_mono (Cert.MixRefIdeal.Value.run m' g') ?_
    intro r hr c
    obtain ⟨e0, e1, e2, ea⟩ := hr c
    obtain ⟨h0, h1, h2, h3, h4, h5, h6, h7, h8, h9, h10, h11, h12, h13, h14⟩ := hagree c
    have F := Finite.kernel m hpre c
    have e := Finite.same m m' c c h0 h1 h2 h3 h4 h5 h6 h7 h8 h9 h10 h11
    refine ⟨e0.trans ?_, e1.trans ?_, e2.trans ?_, ea⟩
    · rw [Mixer.array15 m c F]
      funext i
      obtain ⟨b, t, l, rfl⟩ : ∃ b t l, i = ix3 b t l := ⟨i 0, i 1, i 2, by ext k; fin_cases k <;> rfl⟩
      refine (MixRef.out_apply m' c (e ▸ F) b t l).trans ?_
      rw [e]
      rfl
    · rw [Mixer.array16]
      funext i
      obtain ⟨a, k, rfl⟩ : ∃ a b, i = ix2 a b := ⟨i 0, i 1, by ext k; fin_cases k <;> rfl⟩
      refine (MixRef.gu_apply m' c a k).trans ?_
      rw [h12, h13]
      rfl
    · rw [Mixer.array17]
      funext i
      obtain ⟨a, l, rfl⟩ : ∃ a b, i = ix2 a b := ⟨i 0, i 1, by ext k; fin_cases k <;> rfl⟩
      refine (MixRef.dn_apply m' c a l).trans ?_
      rw [h14]
      rfl

/-- The mixer's reference runs, leaves its arguments unchanged, and declares no semaphore. -/
theorem mix_ref : Cert.quiescent_MixRefIdeal := fun m g _ =>
  (θ_run Cert.MixRefIdeal.defs _ _).mono (fun r h => ⟨fun c => (h c).2.2.2, sem_eq_zero_of_no_sems (by decide) r.2⟩)
    (Cert.MixRefIdeal.Value.run (F := Ideal) m g)

theorem claim : Cert.Claim :=
  ⟨Cert.Kernel.Gen.facts, Cert.KernelIdeal.Gen.facts, Cert.MixRefIdeal.Gen.facts, Cert.Ffn.Gen.facts, Cert.FfnIdeal.Gen.facts, Cert.FfnRefIdeal.Gen.facts,
    Cert.Pre_finite.Gen.facts, fun m ρ _ => Cert.Kernel.Gen.frame m ρ, fun m ρ _ => Cert.KernelIdeal.Gen.frame m ρ,
    fun m ρ _ => Cert.KernelIdeal.Gen.frame m ρ, mix_ref, fun m g _ => mix_ref m g trivial, fun m ρ _ => Cert.Ffn.Gen.frame m ρ,
    fun m ρ _ => Cert.FfnIdeal.Gen.frame m ρ, ffn_ref,
    IdealRules.named_const.statement Cert.KernelIdeal.κ "gelu_cubic" .f32 0x3D122279#32 _ rfl, mix_algebraic, trivial, ffn_algebraic⟩

end Cert.Proof

end
